-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)
      ∧ m' ((c.tc : Thread Cert.UpReferenceIdeal.nD Cert.UpReferenceIdeal.τ).loc Cert.UpReferenceIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v10_0)) (v1 : (c : Dev Cert.UpIdeal.nD) → Buf (Elt Ideal) ((c.tc : Thread Cert.UpIdeal.nD Cert.UpIdeal.τ).loc Cert.UpIdeal.main_v10_1)) (v2 : (c : Dev Cert.UpIdeal.nD) → Buf (Elt Ideal) ((c.tc : Thread Cert.UpIdeal.nD Cert.UpIdeal.τ).loc Cert.UpIdeal.main_v10_2)) (v3 : (c : Dev Cert.UpIdeal.nD) → Buf (Elt Ideal) ((c.tc : Thread Cert.UpIdeal.nD Cert.UpIdeal.τ).loc Cert.UpIdeal.main_v10_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v10_0) = v0 c
          ∧ r.2.mem ((c.tc : Thread Cert.UpIdeal.nD Cert.UpIdeal.τ).loc Cert.UpIdeal.main_v10_1) = v1 c
          ∧ r.2.mem ((c.tc : Thread Cert.UpIdeal.nD Cert.UpIdeal.τ).loc Cert.UpIdeal.main_v10_2) = v2 c
          ∧ r.2.mem ((c.tc : Thread Cert.UpIdeal.nD Cert.UpIdeal.τ).loc Cert.UpIdeal.main_v10_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0_0) = v0 c
          ∧ r.2.mem ((c.tc : Thread Cert.UpReferenceIdeal.nD Cert.UpReferenceIdeal.τ).loc Cert.UpReferenceIdeal.main_v0_1) = v1 c
          ∧ r.2.mem ((c.tc : Thread Cert.UpReferenceIdeal.nD Cert.UpReferenceIdeal.τ).loc Cert.UpReferenceIdeal.main_v0_2) = v2 c
          ∧ r.2.mem ((c.tc : Thread Cert.UpReferenceIdeal.nD Cert.UpReferenceIdeal.τ).loc Cert.UpReferenceIdeal.main_v0_3) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0_0) = v0 c
          ∧ r.2.mem ((c.tc : Thread Cert.DownReferenceIdeal.nD Cert.DownReferenceIdeal.τ).loc Cert.DownReferenceIdeal.main_v0_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def Claim : Prop :=
  ∃ (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts),
    quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
-- ==== Up.lean ====
abbrev S1 : Shape := ⟨1, ![1]⟩
abbrev S256x12288 : Shape := ⟨2, ![256, 12288]⟩
abbrev S256x128 : Shape := ⟨2, ![256, 128]⟩
abbrev S7x256x12288 : Shape := ⟨3, ![7, 256, 12288]⟩
abbrev S7x256x128 : Shape := ⟨3, ![7, 256, 128]⟩
abbrev S12288x7168 : Shape := ⟨2, ![12288, 7168]⟩
abbrev S96x56 : Shape := ⟨2, ![96, 56]⟩
abbrev S8 : Shape := ⟨1, ![8]⟩
abbrev S_ : Shape := ⟨0, ![]⟩
abbrev S96x28 : Shape := ⟨2, ![96, 28]⟩
abbrev S8x256x3584 : Shape := ⟨3, ![8, 256, 3584]⟩
abbrev S8x256x128 : Shape := ⟨3, ![8, 256, 128]⟩
abbrev S8x2x3584 : Shape := ⟨3, ![8, 2, 3584]⟩
abbrev S1x256x12288 : Shape := ⟨3, ![1, 256, 12288]⟩
abbrev S1x256x128 : Shape := ⟨3, ![1, 256, 128]⟩
abbrev S12288x256 : Shape := ⟨2, ![12288, 256]⟩
abbrev S1x256x256 : Shape := ⟨3, ![1, 256, 256]⟩
abbrev S1x2x256 : Shape := ⟨3, ![1, 2, 256]⟩
abbrev S12288x512 : Shape := ⟨2, ![12288, 512]⟩
abbrev S256x1 : Shape := ⟨2, ![256, 1]⟩
abbrev S128x128 : Shape := ⟨2, ![128, 128]⟩
abbrev S1x1 : Shape := ⟨2, ![1, 1]⟩
abbrev S256x512 : Shape := ⟨2, ![256, 512]⟩
abbrev S256x256 : Shape := ⟨2, ![256, 256]⟩
abbrev S256 : Shape := ⟨1, ![256]⟩
abbrev S128 : Shape := ⟨1, ![128]⟩
abbrev S1x128 : Shape := ⟨2, ![1, 128]⟩
abbrev S1x128x128 : Shape := ⟨3, ![1, 128, 128]⟩
abbrev S1x1x128 : Shape := ⟨3, ![1, 1, 128]⟩

abbrev nBuf : Space → Nat
  | .hbm => 27
  | .vmem => 20
  | .smem => 4
  | _ => 0

abbrev bufTy : (tb : Table) → Fin (tcTables nBuf tb) → BufTy
  | .hbm, ⟨0, _⟩ => ⟨S256x12288, .fp8e4m3⟩
  | .hbm, ⟨1, _⟩ => ⟨S256x128, .f32⟩
  | .hbm, ⟨2, _⟩ => ⟨S7x256x12288, .fp8e4m3⟩
  | .hbm, ⟨3, _⟩ => ⟨S7x256x128, .f32⟩
  | .hbm, ⟨4, _⟩ => ⟨S12288x7168, .fp8e4m3⟩
  | .hbm, ⟨5, _⟩ => ⟨S96x56, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S96x28, .f32⟩
  | .hbm, ⟨22, _⟩ => ⟨S96x28, .f32⟩
  | .hbm, ⟨23, _⟩ => ⟨S8x256x3584, .fp8e4m3⟩
  | .hbm, ⟨24, _⟩ => ⟨S8x256x128, .f32⟩
  | .hbm, ⟨25, _⟩ => ⟨S8x256x3584, .fp8e4m3⟩
  | .hbm, ⟨26, _⟩ => ⟨S8x2x3584, .f32⟩
  | .local _ .vmem, ⟨0, _⟩ => ⟨S256x12288, .fp8e4m3⟩
  | .local _ .vmem, ⟨1, _⟩ => ⟨S256x128, .f32⟩
  | .local _ .vmem, ⟨2, _⟩ => ⟨S1x256x12288, .fp8e4m3⟩
  | .local _ .vmem, ⟨3, _⟩ => ⟨S1x256x12288, .fp8e4m3⟩
  | .local _ .vmem, ⟨4, _⟩ => ⟨S1x256x128, .f32⟩
  | .local _ .vmem, ⟨5, _⟩ => ⟨S1x256x128, .f32⟩
  | .local _ .vmem, ⟨6, _⟩ => ⟨S12288x256, .fp8e4m3⟩
  | .local _ .vmem, ⟨7, _⟩ => ⟨S12288x256, .fp8e4m3⟩
  | .local _ .vmem, ⟨8, _⟩ => ⟨S12288x256, .fp8e4m3⟩
  | .local _ .vmem, ⟨9, _⟩ => ⟨S12288x256, .fp8e4m3⟩
  | .local _ .vmem, ⟨10, _⟩ => ⟨S1x256x256, .fp8e4m3⟩
  | .local _ .vmem, ⟨11, _⟩ => ⟨S1x256x256, .fp8e4m3⟩
  | .local _ .vmem, ⟨12, _⟩ => ⟨S1x256x128, .f32⟩
  | .local _ .vmem, ⟨13, _⟩ => ⟨S1x256x128, .f32⟩
  | .local _ .vmem, ⟨14, _⟩ => ⟨S1x256x256, .fp8e4m3⟩
  | .local _ .vmem, ⟨15, _⟩ => ⟨S1x256x256, .fp8e4m3⟩
  | .local _ .vmem, ⟨16, _⟩ => ⟨S1x2x256, .f32⟩
  | .local _ .vmem, ⟨17, _⟩ => ⟨S1x2x256, .f32⟩
  | .local _ .vmem, ⟨18, _⟩ => ⟨S256x12288, .bf16⟩
  | .local _ .vmem, ⟨19, _⟩ => ⟨S12288x512, .bf16⟩
  | .local _ .smem, ⟨0, _⟩ => ⟨S1, .i32⟩
  | .local _ .smem, ⟨1, _⟩ => ⟨S8, .i32⟩
  | .local _ .smem, ⟨2, _⟩ => ⟨S96x28, .f32⟩
  | .local _ .smem, ⟨3, _⟩ => ⟨S96x28, .f32⟩
  | _, _ => ⟨S256x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_arg0 : Ref sig .tc := ⟨.smem, 0, rfl⟩
abbrev main_v7 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 14], ![false, false]⟩

abbrev pre0 : Pipeline.Prefetch sig := ⟨2, ![main_arg0.idx, main_v7.idx], fun | 0 => main_arg0.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_167 : BitVec 32 := 0#32
  let c12_i32 : BitVec 32 := 12#32
  let v512 : BitVec 32 := Scalar.addi c0_i32_167 c12_i32
  let c1_i32_168 : BitVec 32 := 1#32
  ⟨c0_i32_167, v512, c1_i32_168⟩
def k0_mult1 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_170 : BitVec 32 := 8#32
  let v517 : BitVec 32 := Scalar.muli arg18 c8_i32_170
  let c0_i32_171 : BitVec 32 := 0#32
  let v518 : BitVec 32 := Scalar.addi v517 c0_i32_171
  let c128_i32_172 : BitVec 32 := 128#32
  let v519 : BitVec 32 := Scalar.muli v518 c128_i32_172
  v519
def k0_off2 (k0_t1 : Fin k0_t1_loop.trips) (c0_i32_171 : BitVec 32) : Fin 2 → Nat :=
  let c0_173 : Index := 0#32
  let c0_i32_167 : BitVec 32 := 0#32
  let c1_i32_168 : BitVec 32 := 1#32
  let arg18 : BitVec 32 := Scf.iv c0_i32_167 c1_i32_168 k0_t1
  let c8_i32_170 : BitVec 32 := 8#32
  let v517 : BitVec 32 := Scalar.muli arg18 c8_i32_170
  let v518 : BitVec 32 := Scalar.addi v517 c0_i32_171
  let c128_i32_172 : BitVec 32 := 128#32
  let v519 : BitVec 32 := Scalar.muli v518 c128_i32_172
  let v520 : BitVec 32 := v519
  let v521 : Index := Scalar.indexCast v520
  ![0, v521.toNat]
def k0_mult2 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_175 : BitVec 32 := 8#32
  let v533 : BitVec 32 := Scalar.muli arg18 c8_i32_175
  let c1_i32_176 : BitVec 32 := 1#32
  let v534 : BitVec 32 := Scalar.addi v533 c1_i32_176
  let c128_i32_177 : BitVec 32 := 128#32
  let v535 : BitVec 32 := Scalar.muli v534 c128_i32_177
  v535
def k0_mult3 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_180 : BitVec 32 := 8#32
  let v549 : BitVec 32 := Scalar.muli arg18 c8_i32_180
  let c2_i32_181 : BitVec 32 := 2#32
  let v550 : BitVec 32 := Scalar.addi v549 c2_i32_181
  let c128_i32_182 : BitVec 32 := 128#32
  let v551 : BitVec 32 := Scalar.muli v550 c128_i32_182
  v551
def k0_mult4 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_185 : BitVec 32 := 8#32
  let v565 : BitVec 32 := Scalar.muli arg18 c8_i32_185
  let c3_i32 : BitVec 32 := 3#32
  let v566 : BitVec 32 := Scalar.addi v565 c3_i32
  let c128_i32_186 : BitVec 32 := 128#32
  let v567 : BitVec 32 := Scalar.muli v566 c128_i32_186
  v567
def k0_mult5 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_189 : BitVec 32 := 8#32
  let v581 : BitVec 32 := Scalar.muli arg18 c8_i32_189
  let c4_i32 : BitVec 32 := 4#32
  let v582 : BitVec 32 := Scalar.addi v581 c4_i32
  let c128_i32_190 : BitVec 32 := 128#32
  let v583 : BitVec 32 := Scalar.muli v582 c128_i32_190
  v583
def k0_mult6 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_193 : BitVec 32 := 8#32
  let v597 : BitVec 32 := Scalar.muli arg18 c8_i32_193
  let c5_i32 : BitVec 32 := 5#32
  let v598 : BitVec 32 := Scalar.addi v597 c5_i32
  let c128_i32_194 : BitVec 32 := 128#32
  let v599 : BitVec 32 := Scalar.muli v598 c128_i32_194
  v599
def k0_mult7 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_197 : BitVec 32 := 8#32
  let v613 : BitVec 32 := Scalar.muli arg18 c8_i32_197
  let c6_i32 : BitVec 32 := 6#32
  let v614 : BitVec 32 := Scalar.addi v613 c6_i32
  let c128_i32_198 : BitVec 32 := 128#32
  let v615 : BitVec 32 := Scalar.muli v614 c128_i32_198
  v615
def k0_mult8 (k0_t1 : Fin k0_t1_loop.trips) : BitVec 32 :=
  let c0_i32_167 : BitVec 32 := 0#32
  let c1_i32_168 : BitVec 32 := 1#32
  let arg18 : BitVec 32 := Scf.iv c0_i32_167 c1_i32_168 k0_t1
  let c8_i32_201 : BitVec 32 := 8#32
  let v629 : BitVec 32 := Scalar.muli arg18 c8_i32_201
  let c7_i32 : BitVec 32 := 7#32
  let v630 : BitVec 32 := Scalar.addi v629 c7_i32
  let c128_i32_202 : BitVec 32 := 128#32
  let v631 : BitVec 32 := Scalar.muli v630 c128_i32_202
  v631
@[reducible] def k0_t2_loop : Scf.Loop 32 :=
  let c0_i32_168 : BitVec 32 := 0#32
  let c12_i32 : BitVec 32 := 12#32
  let v513 : BitVec 32 := Scalar.addi c0_i32_168 c12_i32
  let c1_i32_169 : BitVec 32 := 1#32
  ⟨c0_i32_168, v513, c1_i32_169⟩
def k0_mult9 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_171 : BitVec 32 := 8#32
  let v518 : BitVec 32 := Scalar.muli arg18 c8_i32_171
  let c0_i32_172 : BitVec 32 := 0#32
  let v519 : BitVec 32 := Scalar.addi v518 c0_i32_172
  let c128_i32_173 : BitVec 32 := 128#32
  let v520 : BitVec 32 := Scalar.muli v519 c128_i32_173
  v520
def k0_off3 (k0_t2 : Fin k0_t2_loop.trips) (c0_i32_172 : BitVec 32) : Fin 3 → Nat :=
  let c0_174 : Index := 0#32
  let c0_175 : Index := 0#32
  let c0_i32_168 : BitVec 32 := 0#32
  let c1_i32_169 : BitVec 32 := 1#32
  let arg18 : BitVec 32 := Scf.iv c0_i32_168 c1_i32_169 k0_t2
  let c8_i32_171 : BitVec 32 := 8#32
  let v518 : BitVec 32 := Scalar.muli arg18 c8_i32_171
  let v519 : BitVec 32 := Scalar.addi v518 c0_i32_172
  let c128_i32_173 : BitVec 32 := 128#32
  let v520 : BitVec 32 := Scalar.muli v519 c128_i32_173
  let v521 : BitVec 32 := v520
  let v522 : Index := Scalar.indexCast v521
  ![0, 0, v522.toNat]
def k0_off4 (k0_t2 : Fin k0_t2_loop.trips) (c0_i32_172 : BitVec 32) : Fin 2 → Nat :=
  let c0_176 : Index := 0#32
  let c0_i32_168 : BitVec 32 := 0#32
  let c1_i32_169 : BitVec 32 := 1#32
  let arg18 : BitVec 32 := Scf.iv c0_i32_168 c1_i32_169 k0_t2
  let c8_i32_171 : BitVec 32 := 8#32
  let v518 : BitVec 32 := Scalar.muli arg18 c8_i32_171
  let v519 : BitVec 32 := Scalar.addi v518 c0_i32_172
  let c128_i32_173 : BitVec 32 := 128#32
  let v520 : BitVec 32 := Scalar.muli v519 c128_i32_173
  let v521 : BitVec 32 := v520
  let v531 : Index := Scalar.indexCast v521
  ![0, v531.toNat]
def k0_mult10 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_177 : BitVec 32 := 8#32
  let v535 : BitVec 32 := Scalar.muli arg18 c8_i32_177
  let c1_i32_178 : BitVec 32 := 1#32
  let v536 : BitVec 32 := Scalar.addi v535 c1_i32_178
  let c128_i32_179 : BitVec 32 := 128#32
  let v537 : BitVec 32 := Scalar.muli v536 c128_i32_179
  v537
def k0_mult11 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_183 : BitVec 32 := 8#32
  let v552 : BitVec 32 := Scalar.muli arg18 c8_i32_183
  let c2_i32_184 : BitVec 32 := 2#32
  let v553 : BitVec 32 := Scalar.addi v552 c2_i32_184
  let c128_i32_185 : BitVec 32 := 128#32
  let v554 : BitVec 32 := Scalar.muli v553 c128_i32_185
  v554
def k0_mult12 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_189 : BitVec 32 := 8#32
  let v569 : BitVec 32 := Scalar.muli arg18 c8_i32_189
  let c3_i32 : BitVec 32 := 3#32
  let v570 : BitVec 32 := Scalar.addi v569 c3_i32
  let c128_i32_190 : BitVec 32 := 128#32
  let v571 : BitVec 32 := Scalar.muli v570 c128_i32_190
  v571
def k0_mult13 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_194 : BitVec 32 := 8#32
  let v586 : BitVec 32 := Scalar.muli arg18 c8_i32_194
  let c4_i32 : BitVec 32 := 4#32
  let v587 : BitVec 32 := Scalar.addi v586 c4_i32
  let c128_i32_195 : BitVec 32 := 128#32
  let v588 : BitVec 32 := Scalar.muli v587 c128_i32_195
  v588
def k0_mult14 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_199 : BitVec 32 := 8#32
  let v603 : BitVec 32 := Scalar.muli arg18 c8_i32_199
  let c5_i32 : BitVec 32 := 5#32
  let v604 : BitVec 32 := Scalar.addi v603 c5_i32
  let c128_i32_200 : BitVec 32 := 128#32
  let v605 : BitVec 32 := Scalar.muli v604 c128_i32_200
  v605
def k0_mult15 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_204 : BitVec 32 := 8#32
  let v620 : BitVec 32 := Scalar.muli arg18 c8_i32_204
  let c6_i32 : BitVec 32 := 6#32
  let v621 : BitVec 32 := Scalar.addi v620 c6_i32
  let c128_i32_205 : BitVec 32 := 128#32
  let v622 : BitVec 32 := Scalar.muli v621 c128_i32_205
  v622
def k0_mult16 (k0_t2 : Fin k0_t2_loop.trips) : BitVec 32 :=
  let c0_i32_168 : BitVec 32 := 0#32
  let c1_i32_169 : BitVec 32 := 1#32
  let arg18 : BitVec 32 := Scf.iv c0_i32_168 c1_i32_169 k0_t2
  let c8_i32_209 : BitVec 32 := 8#32
  let v637 : BitVec 32 := Scalar.muli arg18 c8_i32_209
  let c7_i32 : BitVec 32 := 7#32
  let v638 : BitVec 32 := Scalar.addi v637 c7_i32
  let c128_i32_210 : BitVec 32 := 128#32
  let v639 : BitVec 32 := Scalar.muli v638 c128_i32_210
  v639
@[reducible] def k0_t3_loop : Scf.Loop 32 :=
  let c0_i32_1 : BitVec 32 := 0#32
  let c96_i32 : BitVec 32 := 96#32
  let v3 : BitVec 32 := Scalar.addi c0_i32_1 c96_i32
  let c1_i32 : BitVec 32 := 1#32
  ⟨c0_i32_1, v3, c1_i32⟩
def k0_mult17 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32 : BitVec 32 := 128#32
  let v507 : BitVec 32 := Scalar.muli arg18 c128_i32
  v507
def k0_off5 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c128_i32 : BitVec 32 := 128#32
  let v507 : BitVec 32 := Scalar.muli arg18 c128_i32
  let v508 : BitVec 32 := v507
  let v509 : Index := Scalar.indexCast v508
  let c0_163 : Index := 0#32
  ![v509.toNat, 0]
def k0_off6 (i : grid0.Coords) (k0_t3 : Fin k0_t3_loop.trips) (c0_i32_165 : BitVec 32) : Fin 2 → Nat :=
  let c0_i32_1 : BitVec 32 := 0#32
  let c1_i32 : BitVec 32 := 1#32
  let arg18 : BitVec 32 := Scf.iv c0_i32_1 c1_i32 k0_t3
  let v514 : Index := Scalar.indexCast arg18
  let arg1 : BitVec 32 := BitVec.ofNat 32 (i 1).val
  let c2_i32_164 : BitVec 32 := 2#32
  let v512 : BitVec 32 := Scalar.muli arg1 c2_i32_164
  let v513 : BitVec 32 := Scalar.addi v512 c0_i32_165
  let v515 : Index := Scalar.indexCast v513
  ![v514.toNat, v515.toNat]
def k0_mult18 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_166 : BitVec 32 := 128#32
  let v520 : BitVec 32 := Scalar.muli arg18 c128_i32_166
  v520
def k0_off7 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c128_i32_166 : BitVec 32 := 128#32
  let v520 : BitVec 32 := Scalar.muli arg18 c128_i32_166
  let v521 : BitVec 32 := v520
  let v522 : Index := Scalar.indexCast v521
  let c0_167 : Index := 0#32
  ![v522.toNat, 0]
def k0_mult19 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_168 : BitVec 32 := 128#32
  let v526 : BitVec 32 := Scalar.muli arg18 c128_i32_168
  v526
def k0_off8 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c128_i32_168 : BitVec 32 := 128#32
  let v526 : BitVec 32 := Scalar.muli arg18 c128_i32_168
  let v527 : BitVec 32 := v526
  let v528 : Index := Scalar.indexCast v527
  let c128_169 : Index := 128#32
  ![v528.toNat, 128]
def k0_mult20 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_172 : BitVec 32 := 128#32
  let v539 : BitVec 32 := Scalar.muli arg18 c128_i32_172
  v539
def k0_off9 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c128_i32_172 : BitVec 32 := 128#32
  let v539 : BitVec 32 := Scalar.muli arg18 c128_i32_172
  let v540 : BitVec 32 := v539
  let v541 : Index := Scalar.indexCast v540
  let c128_173 : Index := 128#32
  ![v541.toNat, 128]
def k0_mult21 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_174 : BitVec 32 := 128#32
  let v545 : BitVec 32 := Scalar.muli arg18 c128_i32_174
  v545
def k0_mult22 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_178 : BitVec 32 := 128#32
  let v558 : BitVec 32 := Scalar.muli arg18 c128_i32_178
  v558
def k0_off10 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c128_i32_178 : BitVec 32 := 128#32
  let v558 : BitVec 32 := Scalar.muli arg18 c128_i32_178
  let v559 : BitVec 32 := v558
  let v560 : Index := Scalar.indexCast v559
  let c256 : Index := 256#32
  ![v560.toNat, 256]
def k0_mult23 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_179 : BitVec 32 := 128#32
  let v564 : BitVec 32 := Scalar.muli arg18 c128_i32_179
  v564
def k0_mult24 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c128_i32_183 : BitVec 32 := 128#32
  let v577 : BitVec 32 := Scalar.muli arg18 c128_i32_183
  v577
def k0_off11 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c128_i32_183 : BitVec 32 := 128#32
  let v577 : BitVec 32 := Scalar.muli arg18 c128_i32_183
  let v578 : BitVec 32 := v577
  let v579 : Index := Scalar.indexCast v578
  let c384 : Index := 384#32
  ![v579.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S256x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x12288 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S12288x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S12288x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .smem S96x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S96x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== UpReferenceIdeal.lean ====
abbrev S1 : Shape := ⟨1, ![1]⟩
abbrev S256x12288 : Shape := ⟨2, ![256, 12288]⟩
abbrev S256x128 : Shape := ⟨2, ![256, 128]⟩
abbrev S7x256x12288 : Shape := ⟨3, ![7, 256, 12288]⟩
abbrev S7x256x128 : Shape := ⟨3, ![7, 256, 128]⟩
abbrev S12288x7168 : Shape := ⟨2, ![12288, 7168]⟩
abbrev S96x56 : Shape := ⟨2, ![96, 56]⟩
abbrev S8x256x3584 : Shape := ⟨3, ![8, 256, 3584]⟩
abbrev S8x256x128 : Shape := ⟨3, ![8, 256, 128]⟩
abbrev S8x2x3584 : Shape := ⟨3, ![8, 2, 3584]⟩
abbrev S256x96x128 : Shape := ⟨3, ![256, 96, 128]⟩
abbrev S256x96 : Shape := ⟨2, ![256, 96]⟩
abbrev S256x96x1 : Shape := ⟨3, ![256, 96, 1]⟩
abbrev S1x256x12288 : Shape := ⟨3, ![1, 256, 12288]⟩
abbrev S7x256x96x128 : Shape := ⟨4, ![7, 256, 96, 128]⟩
abbrev S7x256x96 : Shape := ⟨3, ![7, 256, 96]⟩
abbrev S7x256x96x1 : Shape := ⟨4, ![7, 256, 96, 1]⟩
abbrev S8x256x12288 : Shape := ⟨3, ![8, 256, 12288]⟩
abbrev S1x1x1 : Shape := ⟨3, ![1, 1, 1]⟩
abbrev S96x128x56x128 : Shape := ⟨4, ![96, 128, 56, 128]⟩
abbrev S96x1x56x1 : Shape := ⟨4, ![96, 1, 56, 1]⟩
abbrev S2048x12288 : Shape := ⟨2, ![2048, 12288]⟩
abbrev S2048x7168 : Shape := ⟨2, ![2048, 7168]⟩
abbrev S2048x3584 : Shape := ⟨2, ![2048, 3584]⟩
abbrev S2048x28x128 : Shape := ⟨3, ![2048, 28, 128]⟩
abbrev S2048x28 : Shape := ⟨2, ![2048, 28]⟩
abbrev S2048x28x252 : Shape := ⟨3, ![2048, 28, 252]⟩
abbrev S2048x28x1 : Shape := ⟨3, ![2048, 28, 1]⟩
abbrev S2048x100 : Shape := ⟨2, ![2048, 100]⟩
abbrev S2048x128 : Shape := ⟨2, ![2048, 128]⟩
abbrev S16x128x3584 : Shape := ⟨3, ![16, 128, 3584]⟩
abbrev S16x3584 : Shape := ⟨2, ![16, 3584]⟩
abbrev S16x3584x252 : Shape := ⟨3, ![16, 3584, 252]⟩
abbrev S16x3584x1 : Shape := ⟨3, ![16, 3584, 1]⟩
abbrev S16x1x3584 : Shape := ⟨3, ![16, 1, 3584]⟩

abbrev nBuf : Space → Nat
  | .hbm => 11
  | .vmem => 11
  | .smem => 0
  | _ => 0

abbrev bufTy : (tb : Table) → Fin (tcTables nBuf tb) → BufTy
  | .hbm, ⟨0, _⟩ => ⟨S1, .i32⟩
  | .hbm, ⟨1, _⟩ => ⟨S256x12288, .fp8e4m3⟩
  | .hbm, ⟨2, _⟩ => ⟨S256x128, .f32⟩
  | .hbm, ⟨3, _⟩ => ⟨S7x256x12288, .fp8e4m3⟩
  | .hbm, ⟨4, _⟩ => ⟨S7x256x128, .f32⟩
  | .hbm, ⟨5, _⟩ => ⟨S12288x7168, .fp8e4m3⟩
  | .hbm, ⟨6, _⟩ => ⟨S96x56, .f32⟩
  | .hbm, ⟨7, _⟩ => ⟨S8x256x3584, .fp8e4m3⟩
  | .hbm, ⟨8, _⟩ => ⟨S8x256x128, .f32⟩
  | .hbm, ⟨9, _⟩ => ⟨S8x256x3584, .fp8e4m3⟩
  | .hbm, ⟨10, _⟩ => ⟨S8x2x3584, .f32⟩
  | .local _ .vmem, ⟨0, _⟩ => ⟨S1, .i32⟩
  | .local _ .vmem, ⟨1, _⟩ => ⟨S256x12288, .fp8e4m3⟩
  | .local _ .vmem, ⟨2, _⟩ => ⟨S256x128, .f32⟩
  | .local _ .vmem, ⟨3, _⟩ => ⟨S7x256x12288, .fp8e4m3⟩
  | .local _ .vmem, ⟨4, _⟩ => ⟨S7x256x128, .f32⟩
  | .local _ .vmem, ⟨5, _⟩ => ⟨S12288x7168, .fp8e4m3⟩
  | .local _ .vmem, ⟨6, _⟩ => ⟨S96x56, .f32⟩
  | .local _ .vmem, ⟨7, _⟩ => ⟨S8x256x3584, .fp8e4m3⟩
  | .local _ .vmem, ⟨8, _⟩ => ⟨S8x256x128, .f32⟩
  | .local _ .vmem, ⟨9, _⟩ => ⟨S8x256x3584, .fp8e4m3⟩
  | .local _ .vmem, ⟨10, _⟩ => ⟨S8x2x3584, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x256x12288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x256x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Down.lean ====
abbrev S2048x3584 : Shape := ⟨2, ![2048, 3584]⟩
abbrev S2048x128 : Shape := ⟨2, ![2048, 128]⟩
abbrev S3584x12288 : Shape := ⟨2, ![3584, 12288]⟩
abbrev S28x96 : Shape := ⟨2, ![28, 96]⟩
abbrev S2048x12288 : Shape := ⟨2, ![2048, 12288]⟩
abbrev S1024x3584 : Shape := ⟨2, ![1024, 3584]⟩
abbrev S1024x128 : Shape := ⟨2, ![1024, 128]⟩
abbrev S3584x512 : Shape := ⟨2, ![3584, 512]⟩
abbrev S1024x512 : Shape := ⟨2, ![1024, 512]⟩
abbrev S1024x1 : Shape := ⟨2, ![1024, 1]⟩
abbrev S128x128 : Shape := ⟨2, ![128, 128]⟩
abbrev S1x1 : Shape := ⟨2, ![1, 1]⟩
abbrev S1024 : Shape := ⟨1, ![1024]⟩

abbrev nBuf : Space → Nat
  | .hbm => 6
  | .vmem => 12
  | .smem => 1
  | _ => 0

abbrev bufTy : (tb : Table) → Fin (tcTables nBuf tb) → BufTy
  | .hbm, ⟨0, _⟩ => ⟨S2048x3584, .fp8e4m3⟩
  | .hbm, ⟨1, _⟩ => ⟨S2048x128, .f32⟩
  | .hbm, ⟨2, _⟩ => ⟨S3584x12288, .fp8e4m3⟩
  | .hbm, ⟨3, _⟩ => ⟨S28x96, .f32⟩
  | .hbm, ⟨4, _⟩ => ⟨S2048x12288, .i8⟩
  | .hbm, ⟨5, _⟩ => ⟨S2048x128, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x128, .f32⟩
  | .local _ .vmem, ⟨3, _⟩ => ⟨S1024x128, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1024x512, .i8⟩
  | .local _ .vmem, ⟨7, _⟩ => ⟨S1024x512, .i8⟩
  | .local _ .vmem, ⟨8, _⟩ => ⟨S1024x128, .f32⟩
  | .local _ .vmem, ⟨9, _⟩ => ⟨S1024x128, .f32⟩
  | .local _ .vmem, ⟨10, _⟩ => ⟨S1024x3584, .bf16⟩
  | .local _ .vmem, ⟨11, _⟩ => ⟨S3584x512, .bf16⟩
  | .local _ .smem, ⟨0, _⟩ => ⟨S28x96, .f32⟩
  | _, _ => ⟨S2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 24], ![false, false]⟩

def k0_off1 (i : grid0.Coords) (c0_i32_2 : BitVec 32) : Fin 2 → Nat :=
  let c0_3 : Index := 0#32
  let arg1 : BitVec 32 := BitVec.ofNat 32 (i 1).val
  let c4_i32 : BitVec 32 := 4#32
  let v5 : BitVec 32 := Scalar.muli arg1 c4_i32
  let v6 : BitVec 32 := Scalar.addi v5 c0_i32_2
  let v7 : Index := Scalar.indexCast v6
  ![0, v7.toNat]
def k0_off2 (i : grid0.Coords) (c0_i32_24 : BitVec 32) : Fin 2 → Nat :=
  let c1 : Index := 1#32
  let arg1 : BitVec 32 := BitVec.ofNat 32 (i 1).val
  let c4_i32_23 : BitVec 32 := 4#32
  let v53 : BitVec 32 := Scalar.muli arg1 c4_i32_23
  let v54 : BitVec 32 := Scalar.addi v53 c0_i32_24
  let v55 : Index := Scalar.indexCast v54
  ![1, v55.toNat]
def k0_off3 (i : grid0.Coords) (c0_i32_51 : BitVec 32) : Fin 2 → Nat :=
  let c2 : Index := 2#32
  let arg1 : BitVec 32 := BitVec.ofNat 32 (i 1).val
  let c4_i32_50 : BitVec 32 := 4#32
  let v101 : BitVec 32 := Scalar.muli arg1 c4_i32_50
  let v102 : BitVec 32 := Scalar.addi v101 c0_i32_51
  let v103 : Index := Scalar.indexCast v102
  ![2, v103.toNat]
def k0_off4 (i : grid0.Coords) (c0_i32_78 : BitVec 32) : Fin 2 → Nat :=
  let c3 : Index := 3#32
  let arg1 : BitVec 32 := BitVec.ofNat 32 (i 1).val
  let c4_i32_77 : BitVec 32 := 4#32
  let v149 : BitVec 32 := Scalar.muli arg1 c4_i32_77
  let v150 : BitVec 32 := Scalar.addi v149 c0_i32_78
  let v151 : Index := Scalar.indexCast v150
  ![3, v151.toNat]
def k0_off5 (i : grid0.Coords) (c0_i32_104 : BitVec 32) : Fin 2 → Nat :=
  let c4 : Index := 4#32
  let arg1 : BitVec 32 := BitVec.ofNat 32 (i 1).val
  let c4_i32_103 : BitVec 32 := 4#32
  let v197 : BitVec 32 := Scalar.muli arg1 c4_i32_103
  let v198 : BitVec 32 := Scalar.addi v197 c0_i32_104
  let v199 : Index := Scalar.indexCast v198
  ![4, v199.toNat]
def k0_off6 (i : grid0.Coords) (c0_i32_130 : BitVec 32) : Fin 2 → Nat :=
  let c5 : Index := 5#32
  let arg1 : BitVec 32 := BitVec.ofNat 32 (i 1).val
  let c4_i32_129 : BitVec 32 := 4#32
  let v245 : BitVec 32 := Scalar.muli arg1 c4_i32_129
  let v246 : BitVec 32 := Scalar.addi v245 c0_i32_130
  let v247 : Index := Scalar.indexCast v246
  ![5, v247.toNat]
def k0_off7 (i : grid0.Coords) (c0_i32_156 : BitVec 32) : Fin 2 → Nat :=
  let c6 : Index := 6#32
  let arg1 : BitVec 32 := BitVec.ofNat 32 (i 1).val
  let c4_i32_155 : BitVec 32 := 4#32
  let v293 : BitVec 32 := Scalar.muli arg1 c4_i32_155
  let v294 : BitVec 32 := Scalar.addi v293 c0_i32_156
  let v295 : Index := Scalar.indexCast v294
  ![6, v295.toNat]
def k0_off8 (i : grid0.Coords) (c0_i32_182 : BitVec 32) : Fin 2 → Nat :=
  let c7 : Index := 7#32
  let arg1 : BitVec 32 := BitVec.ofNat 32 (i 1).val
  let c4_i32_181 : BitVec 32 := 4#32
  let v341 : BitVec 32 := Scalar.muli arg1 c4_i32_181
  let v342 : BitVec 32 := Scalar.addi v341 c0_i32_182
  let v343 : Index := Scalar.indexCast v342
  ![7, v343.toNat]
def k0_off9 (i : grid0.Coords) (c0_i32_208 : BitVec 32) : Fin 2 → Nat :=
  let c8 : Index := 8#32
  let arg1 : BitVec 32 := BitVec.ofNat 32 (i 1).val
  let c4_i32_207 : BitVec 32 := 4#32
  let v389 : BitVec 32 := Scalar.muli arg1 c4_i32_207
  let v390 : BitVec 32 := Scalar.addi v389 c0_i32_208
  let v391 : Index := Scalar.indexCast v390
  ![8, v391.toNat]
def k0_off10 (i : grid0.Coords) (c0_i32_234 : BitVec 32) : Fin 2 → Nat :=
  let c9 : Index := 9#32
  let arg1 : BitVec 32 := BitVec.ofNat 32 (i 1).val
  let c4_i32_233 : BitVec 32 := 4#32
  let v437 : BitVec 32 := Scalar.muli arg1 c4_i32_233
  let v438 : BitVec 32 := Scalar.addi v437 c0_i32_234
  let v439 : Index := Scalar.indexCast v438
  ![9, v439.toNat]
def k0_off11 (i : grid0.Coords) (c0_i32_260 : BitVec 32) : Fin 2 → Nat :=
  let c10 : Index := 10#32
  let arg1 : BitVec 32 := BitVec.ofNat 32 (i 1).val
  let c4_i32_259 : BitVec 32 := 4#32
  let v485 : BitVec 32 := Scalar.muli arg1 c4_i32_259
  let v486 : BitVec 32 := Scalar.addi v485 c0_i32_260
  let v487 : Index := Scalar.indexCast v486
  ![10, v487.toNat]
def k0_off12 (i : grid0.Coords) (c0_i32_286 : BitVec 32) : Fin 2 → Nat :=
  let c11 : Index := 11#32
  let arg1 : BitVec 32 := BitVec.ofNat 32 (i 1).val
  let c4_i32_285 : BitVec 32 := 4#32
  let v533 : BitVec 32 := Scalar.muli arg1 c4_i32_285
  let v534 : BitVec 32 := Scalar.addi v533 c0_i32_286
  let v535 : Index := Scalar.indexCast v534
  ![11, v535.toNat]
def k0_off13 (i : grid0.Coords) (c0_i32_312 : BitVec 32) : Fin 2 → Nat :=
  let c12 : Index := 12#32
  let arg1 : BitVec 32 := BitVec.ofNat 32 (i 1).val
  let c4_i32_311 : BitVec 32 := 4#32
  let v581 : BitVec 32 := Scalar.muli arg1 c4_i32_311
  let v582 : BitVec 32 := Scalar.addi v581 c0_i32_312
  let v583 : Index := Scalar.indexCast v582
  ![12, v583.toNat]
def k0_off14 (i : grid0.Coords) (c0_i32_338 : BitVec 32) : Fin 2 → Nat :=
  let c13 : Index := 13#32
  let arg1 : BitVec 32 := BitVec.ofNat 32 (i 1).val
  let c4_i32_337 : BitVec 32 := 4#32
  let v629 : BitVec 32 := Scalar.muli arg1 c4_i32_337
  let v630 : BitVec 32 := Scalar.addi v629 c0_i32_338
  let v631 : Index := Scalar.indexCast v630
  ![13, v631.toNat]
def k0_off15 (i : grid0.Coords) (c0_i32_364 : BitVec 32) : Fin 2 → Nat :=
  let c14 : Index := 14#32
  let arg1 : BitVec 32 := BitVec.ofNat 32 (i 1).val
  let c4_i32_363 : BitVec 32 := 4#32
  let v677 : BitVec 32 := Scalar.muli arg1 c4_i32_363
  let v678 : BitVec 32 := Scalar.addi v677 c0_i32_364
  let v679 : Index := Scalar.indexCast v678
  ![14, v679.toNat]
def k0_off16 (i : grid0.Coords) (c0_i32_390 : BitVec 32) : Fin 2 → Nat :=
  let c15 : Index := 15#32
  let arg1 : BitVec 32 := BitVec.ofNat 32 (i 1).val
  let c4_i32_389 : BitVec 32 := 4#32
  let v725 : BitVec 32 := Scalar.muli arg1 c4_i32_389
  let v726 : BitVec 32 := Scalar.addi v725 c0_i32_390
  let v727 : Index := Scalar.indexCast v726
  ![15, v727.toNat]
def k0_off17 (i : grid0.Coords) (c0_i32_416 : BitVec 32) : Fin 2 → Nat :=
  let c16 : Index := 16#32
  let arg1 : BitVec 32 := BitVec.ofNat 32 (i 1).val
  let c4_i32_415 : BitVec 32 := 4#32
  let v773 : BitVec 32 := Scalar.muli arg1 c4_i32_415
  let v774 : BitVec 32 := Scalar.addi v773 c0_i32_416
  let v775 : Index := Scalar.indexCast v774
  ![16, v775.toNat]
def k0_off18 (i : grid0.Coords) (c0_i32_442 : BitVec 32) : Fin 2 → Nat :=
  let c17 : Index := 17#32
  let arg1 : BitVec 32 := BitVec.ofNat 32 (i 1).val
  let c4_i32_441 : BitVec 32 := 4#32
  let v821 : BitVec 32 := Scalar.muli arg1 c4_i32_441
  let v822 : BitVec 32 := Scalar.addi v821 c0_i32_442
  let v823 : Index := Scalar.indexCast v822
  ![17, v823.toNat]
def k0_off19 (i : grid0.Coords) (c0_i32_468 : BitVec 32) : Fin 2 → Nat :=
  let c18 : Index := 18#32
  let arg1 : BitVec 32 := BitVec.ofNat 32 (i 1).val
  let c4_i32_467 : BitVec 32 := 4#32
  let v869 : BitVec 32 := Scalar.muli arg1 c4_i32_467
  let v870 : BitVec 32 := Scalar.addi v869 c0_i32_468
  let v871 : Index := Scalar.indexCast v870
  ![18, v871.toNat]
def k0_off20 (i : grid0.Coords) (c0_i32_494 : BitVec 32) : Fin 2 → Nat :=
  let c19 : Index := 19#32
  let arg1 : BitVec 32 := BitVec.ofNat 32 (i 1).val
  let c4_i32_493 : BitVec 32 := 4#32
  let v917 : BitVec 32 := Scalar.muli arg1 c4_i32_493
  let v918 : BitVec 32 := Scalar.addi v917 c0_i32_494
  let v919 : Index := Scalar.indexCast v918
  ![19, v919.toNat]
def k0_off21 (i : grid0.Coords) (c0_i32_520 : BitVec 32) : Fin 2 → Nat :=
  let c20 : Index := 20#32
  let arg1 : BitVec 32 := BitVec.ofNat 32 (i 1).val
  let c4_i32_519 : BitVec 32 := 4#32
  let v965 : BitVec 32 := Scalar.muli arg1 c4_i32_519
  let v966 : BitVec 32 := Scalar.addi v965 c0_i32_520
  let v967 : Index := Scalar.indexCast v966
  ![20, v967.toNat]
def k0_off22 (i : grid0.Coords) (c0_i32_546 : BitVec 32) : Fin 2 → Nat :=
  let c21 : Index := 21#32
  let arg1 : BitVec 32 := BitVec.ofNat 32 (i 1).val
  let c4_i32_545 : BitVec 32 := 4#32
  let v1013 : BitVec 32 := Scalar.muli arg1 c4_i32_545
  let v1014 : BitVec 32 := Scalar.addi v1013 c0_i32_546
  let v1015 : Index := Scalar.indexCast v1014
  ![21, v1015.toNat]
def k0_off23 (i : grid0.Coords) (c0_i32_572 : BitVec 32) : Fin 2 → Nat :=
  let c22 : Index := 22#32
  let arg1 : BitVec 32 := BitVec.ofNat 32 (i 1).val
  let c4_i32_571 : BitVec 32 := 4#32
  let v1061 : BitVec 32 := Scalar.muli arg1 c4_i32_571
  let v1062 : BitVec 32 := Scalar.addi v1061 c0_i32_572
  let v1063 : Index := Scalar.indexCast v1062
  ![22, v1063.toNat]
def k0_off24 (i : grid0.Coords) (c0_i32_598 : BitVec 32) : Fin 2 → Nat :=
  let c23 : Index := 23#32
  let arg1 : BitVec 32 := BitVec.ofNat 32 (i 1).val
  let c4_i32_597 : BitVec 32 := 4#32
  let v1109 : BitVec 32 := Scalar.muli arg1 c4_i32_597
  let v1110 : BitVec 32 := Scalar.addi v1109 c0_i32_598
  let v1111 : Index := Scalar.indexCast v1110
  ![23, v1111.toNat]
def k0_off25 (i : grid0.Coords) (c0_i32_624 : BitVec 32) : Fin 2 → Nat :=
  let c24 : Index := 24#32
  let arg1 : BitVec 32 := BitVec.ofNat 32 (i 1).val
  let c4_i32_623 : BitVec 32 := 4#32
  let v1157 : BitVec 32 := Scalar.muli arg1 c4_i32_623
  let v1158 : BitVec 32 := Scalar.addi v1157 c0_i32_624
  let v1159 : Index := Scalar.indexCast v1158
  ![24, v1159.toNat]
def k0_off26 (i : grid0.Coords) (c0_i32_650 : BitVec 32) : Fin 2 → Nat :=
  let c25 : Index := 25#32
  let arg1 : BitVec 32 := BitVec.ofNat 32 (i 1).val
  let c4_i32_649 : BitVec 32 := 4#32
  let v1205 : BitVec 32 := Scalar.muli arg1 c4_i32_649
  let v1206 : BitVec 32 := Scalar.addi v1205 c0_i32_650
  let v1207 : Index := Scalar.indexCast v1206
  ![25, v1207.toNat]
def k0_off27 (i : grid0.Coords) (c0_i32_676 : BitVec 32) : Fin 2 → Nat :=
  let c26 : Index := 26#32
  let arg1 : BitVec 32 := BitVec.ofNat 32 (i 1).val
  let c4_i32_675 : BitVec 32 := 4#32
  let v1253 : BitVec 32 := Scalar.muli arg1 c4_i32_675
  let v1254 : BitVec 32 := Scalar.addi v1253 c0_i32_676
  let v1255 : Index := Scalar.indexCast v1254
  ![26, v1255.toNat]
def k0_off28 (i : grid0.Coords) (c0_i32_702 : BitVec 32) : Fin 2 → Nat :=
  let c27 : Index := 27#32
  let arg1 : BitVec 32 := BitVec.ofNat 32 (i 1).val
  let c4_i32_701 : BitVec 32 := 4#32
  let v1301 : BitVec 32 := Scalar.muli arg1 c4_i32_701
  let v1302 : BitVec 32 := Scalar.addi v1301 c0_i32_702
  let v1303 : Index := Scalar.indexCast v1302
  ![27, v1303.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S28x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownReferenceIdeal.lean ====
abbrev S2048x3584 : Shape := ⟨2, ![2048, 3584]⟩
abbrev S2048x128 : Shape := ⟨2, ![2048, 128]⟩
abbrev S3584x12288 : Shape := ⟨2, ![3584, 12288]⟩
abbrev S28x96 : Shape := ⟨2, ![28, 96]⟩
abbrev S2048x12288 : Shape := ⟨2, ![2048, 12288]⟩
abbrev S2048x28x128 : Shape := ⟨3, ![2048, 28, 128]⟩
abbrev S2048x28 : Shape := ⟨2, ![2048, 28]⟩
abbrev S2048x28x1 : Shape := ⟨3, ![2048, 28, 1]⟩
abbrev S28x128x96x128 : Shape := ⟨4, ![28, 128, 96, 128]⟩
abbrev S28x1x96x1 : Shape := ⟨4, ![28, 1, 96, 1]⟩
abbrev S2048x96x128 : Shape := ⟨3, ![2048, 96, 128]⟩
abbrev S2048x96 : Shape := ⟨2, ![2048, 96]⟩
abbrev S2048x96x1 : Shape := ⟨3, ![2048, 96, 1]⟩
abbrev S2048x32 : Shape := ⟨2, ![2048, 32]⟩

abbrev nBuf : Space → Nat
  | .hbm => 6
  | .vmem => 6
  | .smem => 0
  | _ => 0

abbrev bufTy : (tb : Table) → Fin (tcTables nBuf tb) → BufTy
  | .hbm, ⟨0, _⟩ => ⟨S2048x3584, .fp8e4m3⟩
  | .hbm, ⟨1, _⟩ => ⟨S2048x128, .f32⟩
  | .hbm, ⟨2, _⟩ => ⟨S3584x12288, .fp8e4m3⟩
  | .hbm, ⟨3, _⟩ => ⟨S28x96, .f32⟩
  | .hbm, ⟨4, _⟩ => ⟨S2048x12288, .i8⟩
  | .hbm, ⟨5, _⟩ => ⟨S2048x128, .f32⟩
  | .local _ .vmem, ⟨0, _⟩ => ⟨S2048x3584, .fp8e4m3⟩
  | .local _ .vmem, ⟨1, _⟩ => ⟨S2048x128, .f32⟩
  | .local _ .vmem, ⟨2, _⟩ => ⟨S3584x12288, .fp8e4m3⟩
  | .local _ .vmem, ⟨3, _⟩ => ⟨S28x96, .f32⟩
  | .local _ .vmem, ⟨4, _⟩ => ⟨S2048x12288, .i8⟩
  | .local _ .vmem, ⟨5, _⟩ => ⟨S2048x128, .f32⟩
  | _, _ => ⟨S2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x12288 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.UpRefValue.lean ====
/-
  The run of the up projection's reference with each result array named, as a function of the argument arrays: one point,
  every block its whole array. Written over the generated frame of the same program; the generated value module has one
  more section, on the last window's re-laid piece, which does not compile and which nothing here needs.
-/
module

public import proofs.«01_k».proof.Proof.Gen.UpReferenceIdeal.Frame
public import Idealize.ShloMosaic.Lib.Pipeline.Value

@[expose] public section

noncomputable section

namespace Cert.UpReferenceIdeal.Value

open Cert.UpReferenceIdeal Cert.UpReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x256x3584.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x256x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8x256x3584.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8x2x3584.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Closed form at one grid point: every window's block is its array -/

theorem hz0 : (![0] : Fin 1 → Nat) = fun _ => 0 := funext fun a => by fin_cases a <;> rfl

/-- Window 0's block index at the one point is zero on every axis. -/
theorem idx_zero0 : ∀ t : Fin cfg0.N, win0_0.index t (0 : Fin 1) = 0 :=
  (by decide +kernel : ∀ t : Fin grid0.N, _)

/-- An index of window 0's block is the same index of its array. -/
theorem emb0 (t : Fin cfg0.N) (j : S1.Idx) : ((cfg0.win 0).blk t).view.emb j = j := by
  have e0 := idx_zero0 t
  funext a; apply Fin.ext
  match a with
  | ⟨0, _⟩ => show win0_0.index t (0 : Fin 1) * 1 + 1 * (j 0).val = (j 0).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S256x12288.Idx) : ((cfg0.win 1).blk t).view.emb j = j := by
  obtain ⟨e0, e1⟩ := idx_zero1 t
  funext a; apply Fin.ext
  match a with
  | ⟨0, _⟩ => show win0_1.index t (0 : Fin 2) * 256 + 1 * (j 0).val = (j 0).val; omega
  | ⟨1, _⟩ => show win0_1.index t (1 : Fin 2) * 12288 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S256x128.Idx) : ((cfg0.win 2).blk t).view.emb j = j := by
  obtain ⟨e0, e1⟩ := idx_zero2 t
  funext a; apply Fin.ext
  match a with
  | ⟨0, _⟩ => show win0_2.index t (0 : Fin 2) * 256 + 1 * (j 0).val = (j 0).val; omega
  | ⟨1, _⟩ => show win0_2.index t (1 : Fin 2) * 128 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S7x256x12288.Idx) : ((cfg0.win 3).blk t).view.emb j = j := by
  obtain ⟨e0, e1, e2⟩ := idx_zero3 t
  funext a; apply Fin.ext
  match a with
  | ⟨0, _⟩ => show win0_3.index t (0 : Fin 3) * 7 + 1 * (j 0).val = (j 0).val; omega
  | ⟨1, _⟩ => show win0_3.index t (1 : Fin 3) * 256 + 1 * (j 1).val = (j 1).val; omega
  | ⟨2, _⟩ => show win0_3.index t (2 : Fin 3) * 12288 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S7x256x128.Idx) : ((cfg0.win 4).blk t).view.emb j = j := by
  obtain ⟨e0, e1, e2⟩ := idx_zero4 t
  funext a; apply Fin.ext
  match a with
  | ⟨0, _⟩ => show win0_4.index t (0 : Fin 3) * 7 + 1 * (j 0).val = (j 0).val; omega
  | ⟨1, _⟩ => show win0_4.index t (1 : Fin 3) * 256 + 1 * (j 1).val = (j 1).val; omega
  | ⟨2, _⟩ => show win0_4.index t (2 : Fin 3) * 128 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S12288x7168.Idx) : ((cfg0.win 5).blk t).view.emb j = j := by
  obtain ⟨e0, e1⟩ := idx_zero5 t
  funext a; apply Fin.ext
  match a with
  | ⟨0, _⟩ => show win0_5.index t (0 : Fin 2) * 12288 + 1 * (j 0).val = (j 0).val; omega
  | ⟨1, _⟩ => show win0_5.index t (1 : Fin 2) * 7168 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S96x56.Idx) : ((cfg0.win 6).blk t).view.emb j = j := by
  obtain ⟨e0, e1⟩ := idx_zero6 t
  funext a; apply Fin.ext
  match a with
  | ⟨0, _⟩ => show win0_6.index t (0 : Fin 2) * 96 + 1 * (j 0).val = (j 0).val; omega
  | ⟨1, _⟩ => show win0_6.index t (1 : Fin 2) * 56 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x256x3584.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 256 + 1 * (j 1).val = (j 1).val; omega
  | ⟨2, _⟩ => show win0_7.index t (2 : Fin 3) * 3584 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S8x256x128.Idx) : ((cfg0.win 8).blk t).view.emb j = j := by
  obtain ⟨e0, e1, e2⟩ := idx_zero8 t
  funext a; apply Fin.ext
  match a with
  | ⟨0, _⟩ => show win0_8.index t (0 : Fin 3) * 8 + 1 * (j 0).val = (j 0).val; omega
  | ⟨1, _⟩ => show win0_8.index t (1 : Fin 3) * 256 + 1 * (j 1).val = (j 1).val; omega
  | ⟨2, _⟩ => show win0_8.index t (2 : Fin 3) * 128 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S8x256x3584.Idx) : ((cfg0.win 9).blk t).view.emb j = j := by
  obtain ⟨e0, e1, e2⟩ := idx_zero9 t
  funext a; apply Fin.ext
  match a with
  | ⟨0, _⟩ => show win0_9.index t (0 : Fin 3) * 8 + 1 * (j 0).val = (j 0).val; omega
  | ⟨1, _⟩ => show win0_9.index t (1 : Fin 3) * 256 + 1 * (j 1).val = (j 1).val; omega
  | ⟨2, _⟩ => show win0_9.index t (2 : Fin 3) * 3584 + 1 * (j 2).val = (j 2).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S8x2x3584.Idx) : ((cfg0.win 10).blk t).view.emb j = j := by
  obtain ⟨e0, e1, e2⟩ := idx_zero10 t
  funext a; apply Fin.ext
  match a with
  | ⟨0, _⟩ => show win0_10.index t (0 : Fin 3) * 8 + 1 * (j 0).val = (j 0).val; omega
  | ⟨1, _⟩ => show win0_10.index t (1 : Fin 3) * 2 + 1 * (j 1).val = (j 1).val; omega
  | ⟨2, _⟩ => show win0_10.index t (2 : Fin 3) * 3584 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : Vec F S8x256x3584 .fp8e4m3 :=
  k0_pay5 (k0_pay11 a0 a1 a2 a3 a4 a5 a6)

/-- The one store through the whole rectangle leaves its payload. -/
theorem out7_eq (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : out0_7 (F := F) a0 a1 a2 a3 a4 a5 a6 = G7 a0 a1 a2 a3 a4 a5 a6 := by
  unfold out0_7
  rw [View.canon_unit_zero hz7]

/-- Cutting the point's block out of `X` and reading `X` through the block's view give the same. -/
theorem cut7_eq (t : Fin cfg0.N) (X : Vec F S8x256x3584 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S8x256x3584.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : Vec F S8x256x128 .f32 :=
  k0_pay6 (k0_pay11 a0 a1 a2 a3 a4 a5 a6)

/-- The one store through the whole rectangle leaves its payload. -/
theorem out8_eq (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S8x256x128 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S8x256x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : Vec F S8x256x3584 .fp8e4m3 :=
  k0_pay9 (k0_pay12 a0 a1 a2 a3 a4 a5 a6)

/-- The one store through the whole rectangle leaves its payload. -/
theorem out9_eq (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : out0_9 (F := F) a0 a1 a2 a3 a4 a5 a6 = G9 a0 a1 a2 a3 a4 a5 a6 := by
  unfold out0_9
  rw [View.canon_unit_zero hz9]

/-- Cutting the point's block out of `X` and reading `X` through the block's view give the same. -/
theorem cut9_eq (t : Fin cfg0.N) (X : Vec F S8x256x3584 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S8x256x3584.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ### Output window 10: the array after the run -/

/-- What the window's array ends holding: `out0_10` applied to the argument arrays in place of the input blocks (a value that the
    frame states apart, `kK_payN a…`, keeps its loads inside its own definition). -/
abbrev G10 (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : Vec F S8x2x3584 .f32 :=
  k0_pay10 (k0_pay12 a0 a1 a2 a3 a4 a5 a6)

/-- The one store through the whole rectangle leaves its payload. -/
theorem out10_eq (a0 : Vec F S1 .i32) (a1 : Vec F S256x12288 .fp8e4m3) (a2 : Vec F S256x128 .f32) (a3 : Vec F S7x256x12288 .fp8e4m3) (a4 : Vec F S7x256x128 .f32) (a5 : Vec F S12288x7168 .fp8e4m3) (a6 : Vec F S96x56 .f32) : out0_10 (F := F) a0 a1 a2 a3 a4 a5 a6 = G10 a0 a1 a2 a3 a4 a5 a6 := by
  unfold out0_10
  rw [View.canon_unit_zero hz10]

/-- Cutting the point's block out of `X` and reading `X` through the block's view give the same. -/
theorem cut10_eq (t : Fin cfg0.N) (X : Vec F S8x2x3584 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6)) := by
  show (cfg0.win 10).cut (grid0.coords t) ((dats m 0 c).after 10 t) = _
  rw [after0_10, out10_eq, iblk0_eq, iblk1_eq, iblk2_eq, iblk3_eq, iblk4_eq, iblk5_eq, iblk6_eq]
  exact cut10_eq t _

/-- Every index of the array is in the point's block. -/
theorem covered10 (i : S8x2x3584.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 10 (G10 (V m c main_arg0) (V m c main_arg1) (V m c main_arg2) (V m c main_arg3) (V m c main_arg4) (V m c main_arg5) (V m c main_arg6)) (fun t _ => flushed10_eq m c t) covered10).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.UpReferenceIdeal.Value

end
-- ==== Proof.Quant.lean ====
/-
  The quantiser over the extended reals, on one group of values: its scale (the largest magnitude over 127, one for a
  group of zeros) and the code of a value at a scale (the quotient rounded half to even, clipped to ±127).
-/
module

public import Idealize.ShloMosaic.Lib.Pointwise

@[expose] public section

noncomputable section

namespace Cert.Quant

open Idealize.ShloMosaic

/-- The largest magnitude of a group. -/
def amax {n : ℕ} (g : Fin n → EReal) : EReal :=
  Finset.univ.fold max (Ideal.ofBits .f32 0xFF800000#32) fun x => FloatOps.absf (F := Ideal) (φ := .f32) (g x)

/-- The group's scale. -/
def scale {n : ℕ} (g : Fin n → EReal) : EReal :=
  if amax g = 0 then 1 else Ideal.div (amax g) (Ideal.ofBits .f32 0x42FE0000#32)

/-- The scale as a program computes it of the group's largest magnitude. -/
theorem scale_of {n : ℕ} (g : Fin n → EReal) (a : EReal) (h : a = amax g) :
    Scalar.select (FloatOps.cmpf (F := Ideal) (φ := .f32) .oeq a (Ideal.ofBits .f32 0x00000000#32)) (Ideal.ofBits .f32 0x3F800000#32)
      (FloatOps.divf (F := Ideal) (φ := .f32) a (Ideal.ofBits .f32 0x42FE0000#32)) = scale g := by
  rw [scale, ← h]
  clear h
  pointwise

/-- The code of value `v` at scale `s`. -/
def code (v s : EReal) : BitVec 8 :=
  FloatOps.fptosi (F := Ideal) (φ := .f32) 8 (min (Ideal.ofBits .f32 0x42FE0000#32)
    (max (Ideal.ofBits .f32 0xC2FE0000#32) (Ideal.liftRound Ideal.roundHalfEven (Ideal.div v s))))

end Cert.Quant

end
-- ==== Proof.Quant8.lean ====
/-
  The eight-bit float quantiser over the extended reals, on one group of values: its scale is the least power of two
  strictly above the largest magnitude over 448 (one where that is below the smallest normal number, or above every
  power), and the code of a value is the value over the scale, clipped to ±448. A program may find the power by
  searching a float's exponent field bit by bit: `field` is that search, `kscale` and `kinv` what is built from it.
-/
module

public import proofs.«01_k».proof.Proof.Quant

@[expose] public section

noncomputable section

namespace Cert.Quant8

open Idealize.ShloMosaic

/-- The largest magnitude of a group, over 448. -/
def mag {n : ℕ} (g : Fin n → EReal) : EReal := Quant.amax g * Ideal.ofBits .f32 0x3B124925#32

/-- The powers of two from `2 ^ -125` on, as the reference computes them. -/
def power (j : Fin 252) : EReal :=
  Ideal.exp2 ((((BitVec.ofNat 32 j.val).toInt : ℝ) : EReal) - Ideal.ofBits .f32 0x42FA0000#32)

/-- The least of them strictly above `x`. -/
def above (x : EReal) : EReal :=
  Finset.univ.fold min (Ideal.ofBits .f32 0x7F800000#32) fun j : Fin 252 =>
    Scalar.select (Ideal.cmp .ogt (power j) x) (power j) (Ideal.ofBits .f32 0x7F800000#32)

/-- The scale of a group of which `x` is the largest magnitude over 448. -/
def scale (x : EReal) : EReal :=
  Scalar.select (IntOp.ori (Ideal.cmp .olt x (Ideal.ofBits .f32 0x00800000#32)) (Ideal.cmp .oge x (Ideal.ofBits .f32 0x7E800000#32)))
    (Ideal.ofBits .f32 0x3F800000#32) (above x)

/-- A value times a reciprocal of its scale, clipped. -/
def clip (v i : EReal) : EReal :=
  min (Ideal.ofBits .f32 0x43E00000#32) (max (Ideal.ofBits .f32 0xC3E00000#32) (v * i))

/-- The code of value `v` at scale `s`. -/
def code (v s : EReal) : EReal := clip v (Ideal.div (Ideal.ofBits .f32 0x3F800000#32) s)

/-! ## Floats of a given exponent field -/

/-- The float whose exponent field is `e` and whose other bits are zero. -/
def pw (e : ℕ) : EReal := Ideal.ofBits .f32 (BitVec.ofNat 32 (8388608 * e))

theorem pw_field : ∀ e : Fin 256, ((BitVec.ofNat 32 (8388608 * e.val)).extractLsb' 23 8).toNat = e.val ∧
    ((BitVec.ofNat 32 (8388608 * e.val)).extractLsb' 0 23).toNat = 0 ∧ ((BitVec.ofNat 32 (8388608 * e.val)).extractLsb' 31 1 == 1#1) = false := by
  decide +kernel

theorem pw_eq (e : ℕ) (h0 : 1 ≤ e) (h1 : e ≤ 254) : pw e = (((2 : ℝ) ^ ((e : ℤ) - 127) : ℝ) : EReal) := by
  obtain ⟨f1, f2, f3⟩ := pw_field ⟨e, by omega⟩
  unfold pw Ideal.ofBits Ideal.ieee
  dsimp only at f1 f2 f3 ⊢
  rw [f1, f2, f3, if_neg (by omega), if_neg (by omega)]
  congr 1
  have e2 : ((e : ℤ) - 127) = 23 + ((e : ℤ) - (2 ^ (8 - 1) - 1) - (23 : ℕ)) := by norm_num
  rw [e2, zpow_add₀ (by norm_num)]
  norm_num

theorem pw_top : pw 255 = ⊤ := by
  obtain ⟨f1, f2, f3⟩ := pw_field ⟨255, by omega⟩
  unfold pw Ideal.ofBits Ideal.ieee
  dsimp only at f1 f2 f3 ⊢
  rw [f1, f2, f3]
  simp

theorem pw_mono (a b : ℕ) (h0 : 1 ≤ a) (h : a ≤ b) (h1 : b ≤ 255) : pw a ≤ pw b := by
  by_cases hb : b = 255
  · subst hb; rw [pw_top]; exact le_top
  · rw [pw_eq a h0 (by omega), pw_eq b (by omega) (by omega)]
    exact EReal.coe_le_coe_iff.2 (zpow_le_zpow_right₀ (by norm_num) (by omega))

theorem inf_eq : Ideal.ofBits .f32 0x7F800000#32 = ⊤ := pw_top
theorem one_eq : Ideal.ofBits .f32 0x3F800000#32 = 1 := by
  have h := pw_eq 127 (by omega) (by omega)
  have e : ((2 : ℝ) ^ (((127 : ℕ) : ℤ) - 127)) = 1 := by norm_num
  rw [e] at h
  exact h

theorem power_eq (j : Fin 252) : power j = pw (j.val + 2) := by
  have hj := j.isLt
  rw [pw_eq _ (by omega) (by omega)]
  have h125 : Ideal.ofBits .f32 0x42FA0000#32 = ((125 : ℝ) : EReal) := by
    simp [Ideal.ofBits, Ideal.ieee]; norm_num [← EReal.coe_mul]
  have hi : ((BitVec.ofNat 32 j.val).toInt : ℝ) = (j.val : ℝ) := by
    have : (BitVec.ofNat 32 j.val).toInt = (j.val : ℤ) := by
      rw [BitVec.toInt_eq_toNat_of_lt (by rw [BitVec.toNat_ofNat]; omega), BitVec.toNat_ofNat]; omega
    rw [this]; simp
  unfold power
  rw [h125, hi, ← EReal.coe_sub, Ideal.exp2_coe]
  congr 1
  show (2 : ℝ) ^ ((j.val : ℝ) - 125) = _
  rw [← Real.rpow_intCast]
  congr 1
  push_cast
  ring

/-! ## The search -/

/-- One comparison of the search. -/
def step (b : BitVec 32) (x : EReal) (e : BitVec 32) : BitVec 32 :=
  Scalar.select (Ideal.cmp .oge x (Ideal.ofBits .f32 (e + b))) (e + b) e

/-- The exponent field of `x`, all ones where `x` is `2 ^ 126` or more. -/
def field (x : EReal) : BitVec 32 :=
  Scalar.select (Ideal.cmp .oge x (Ideal.ofBits .f32 0x7E800000#32)) 2139095040#32
    (step 8388608#32 x (step 16777216#32 x (step 33554432#32 x (step 67108864#32 x (step 134217728#32 x (step 268435456#32 x
      (step 536870912#32 x (step 1073741824#32 x 0#32))))))))

/-- The magnitudes whose scale is one, as the field tells them. -/
def special (x : EReal) : BitVec 1 := IntOp.ori (IntOp.cmpi .eq (field x) 0#32) (IntOp.cmpi .eq (field x) 2139095040#32)

/-- The scale, built from the field. -/
def kscale (x : EReal) : EReal := Ideal.ofBits .f32 (Scalar.select (special x) 1065353216#32 (field x + 8388608#32))

/-- Its reciprocal, built from the field. -/
def kinv (x : EReal) : EReal := Ideal.ofBits .f32 (Scalar.select (special x) 1065353216#32 (2122317824#32 - field x))

theorem sel_true {α : Type} (p : Prop) [Decidable p] (h : p) (a b : α) : Scalar.select (BitVec.ofBool (decide p)) a b = a := by
  rw [decide_eq_true h]; rfl
theorem sel_false {α : Type} (p : Prop) [Decidable p] (h : ¬p) (a b : α) : Scalar.select (BitVec.ofBool (decide p)) a b = b := by
  rw [decide_eq_false h]; rfl

theorem cmp_oge (x y : EReal) : Ideal.cmp .oge x y = BitVec.ofBool (decide (y ≤ x)) := rfl
theorem cmp_ogt (x y : EReal) : Ideal.cmp .ogt x y = BitVec.ofBool (decide (y < x)) := rfl
theorem cmp_olt (x y : EReal) : Ideal.cmp .olt x y = BitVec.ofBool (decide (x < y)) := rfl

/-- What the search knows with fields below `w` still to be told apart. -/
def Inv (x : EReal) (w : ℕ) (e : BitVec 32) : Prop :=
  ∃ E : ℕ, e = BitVec.ofNat 32 (8388608 * E) ∧ E + w ≤ 256 ∧ (E = 0 ∨ pw E ≤ x) ∧ (E + w = 256 ∨ x < pw (E + w))

theorem inv_step (x : EReal) (w : ℕ) (b e : BitVec 32) (hb : b = BitVec.ofNat 32 (8388608 * w)) (h : Inv x (2 * w) e) : Inv x w (step b x e) := by
  obtain ⟨E, rfl, h1, h2, h3⟩ := h
  have e1 : BitVec.ofNat 32 (8388608 * E) + b = BitVec.ofNat 32 (8388608 * (E + w)) := by
    rw [hb, Nat.mul_add, BitVec.ofNat_add]
  unfold step
  rw [e1, show Ideal.ofBits .f32 (BitVec.ofNat 32 (8388608 * (E + w))) = pw (E + w) from rfl, cmp_oge]
  by_cases hx : pw (E + w) ≤ x
  · rw [sel_true _ hx]
    refine ⟨E + w, rfl, by omega, Or.inr hx, ?_⟩
    rcases h3 with h3 | h3
    · left; omega
    · right; rwa [show E + w + w = E + 2 * w by omega]
  · rw [sel_false _ hx]
    exact ⟨E, rfl, by omega, h2, Or.inr (not_le.1 hx)⟩

/-- The field's two cases: nothing to scale by, or an exponent `E` with `x` between its power and the next. -/
theorem field_cases (x : EReal) :
    (x < pw 1 ∧ field x = 0#32) ∨ (pw 253 ≤ x ∧ field x = 2139095040#32) ∨
    ∃ E : ℕ, 1 ≤ E ∧ E ≤ 252 ∧ pw E ≤ x ∧ x < pw (E + 1) ∧ field x = BitVec.ofNat 32 (8388608 * E) := by
  have h0 : Inv x 256 0#32 := ⟨0, rfl, by omega, Or.inl rfl, Or.inl rfl⟩
  have h8 := inv_step x 1 8388608#32 _ (by decide) (inv_step x 2 16777216#32 _ (by decide) (inv_step x 4 33554432#32 _ (by decide) (inv_step x 8 67108864#32 _ (by decide)
    (inv_step x 16 134217728#32 _ (by decide) (inv_step x 32 268435456#32 _ (by decide) (inv_step x 64 536870912#32 _ (by decide) (inv_step x 128 1073741824#32 _ (by decide) h0)))))))
  obtain ⟨E, he, h1, h2, h3⟩ := h8
  by_cases hx : pw 253 ≤ x
  · right; left
    refine ⟨hx, ?_⟩
    unfold field
    exact sel_true _ hx _ _
  · have hf : field x = BitVec.ofNat 32 (8388608 * E) := by
      unfold field
      exact (sel_false _ hx _ _).trans he
    have hE : E < 253 := by
      by_contra hc
      rcases h2 with h2 | h2
      · omega
      · exact hx (le_trans (pw_mono 253 E (by omega) (by omega) (by omega)) h2)
    have h3' : x < pw (E + 1) := by
      rcases h3 with h3 | h3
      · omega
      · exact h3
    rcases h2 with h2 | h2
    · left; subst h2; exact ⟨h3', hf⟩
    · by_cases hz : E = 0
      · subst hz; left; exact ⟨h3', hf⟩
      · right; right
        exact ⟨E, by omega, by omega, h2, h3', hf⟩

/-! ## The scale and its reciprocal -/

theorem above_eq (x : EReal) (E : ℕ) (h1 : 1 ≤ E) (h2 : E ≤ 252) (hl : pw E ≤ x) (hu : x < pw (E + 1)) : above x = pw (E + 1) := by
  unfold above
  apply le_antisymm
  · refine (Finset.fold_min_le _).2 (Or.inr ⟨⟨E - 1, by omega⟩, Finset.mem_univ _, ?_⟩)
    rw [power_eq, cmp_ogt]
    rw [show E - 1 + 2 = E + 1 by omega]
    rw [sel_true _ hu]
  · refine Finset.le_fold_min _ |>.2 ⟨by rw [inf_eq]; exact le_top, fun j _ => ?_⟩
    rw [cmp_ogt]
    by_cases hj : x < power j
    · rw [sel_true _ hj]
      rw [power_eq] at hj ⊢
      refine pw_mono _ _ (by omega) ?_ (by omega)
      by_contra hc
      exact absurd (lt_of_le_of_lt (le_trans (pw_mono (j.val + 2) E (by omega) (by omega) (by omega)) hl) hj) (lt_irrefl _)
    · rw [sel_false _ hj, inf_eq]; exact le_top

theorem select_t {α : Type} (a b : α) : Scalar.select (BitVec.ofBool true) a b = a := rfl
theorem select_ff {α : Type} (a b : α) : Scalar.select (IntOp.ori (BitVec.ofBool false) (BitVec.ofBool false)) a b = b := rfl
theorem select_f {α : Type} (a b : α) : Scalar.select 0#1 a b = b := rfl
theorem select_low {α : Type} (a b : α) : Scalar.select (IntOp.ori (IntOp.cmpi .eq 0#32 0#32) (IntOp.cmpi .eq 0#32 2139095040#32)) a b = a := rfl
theorem select_high {α : Type} (a b : α) : Scalar.select (IntOp.ori (IntOp.cmpi .eq 2139095040#32 0#32) (IntOp.cmpi .eq 2139095040#32 2139095040#32)) a b = a := rfl

theorem ori_left (b : BitVec 1) : IntOp.ori (BitVec.ofBool true) b = BitVec.ofBool true := by revert b; decide
theorem ori_right (b : BitVec 1) : IntOp.ori b (BitVec.ofBool true) = BitVec.ofBool true := by revert b; decide

theorem special_field : ∀ E : Fin 253, 1 ≤ E.val → IntOp.ori (IntOp.cmpi .eq (BitVec.ofNat 32 (8388608 * E.val)) 0#32) (IntOp.cmpi .eq (BitVec.ofNat 32 (8388608 * E.val)) 2139095040#32) = 0#1 := by
  decide +kernel

theorem field_sub : ∀ E : Fin 253, 2122317824#32 - BitVec.ofNat 32 (8388608 * E.val) = BitVec.ofNat 32 (8388608 * (253 - E.val)) := by
  decide +kernel

theorem scale_low (x : EReal) (h : x < pw 1) : scale x = 1 := by
  unfold scale
  have e : Ideal.cmp .olt x (Ideal.ofBits .f32 0x00800000#32) = BitVec.ofBool true := by
    rw [cmp_olt]; exact congrArg _ (decide_eq_true h)
  rw [e, ori_left, one_eq, select_t]

theorem scale_high (x : EReal) (h : pw 253 ≤ x) : scale x = 1 := by
  unfold scale
  have e : Ideal.cmp .oge x (Ideal.ofBits .f32 0x7E800000#32) = BitVec.ofBool true := by
    rw [cmp_oge]; exact congrArg _ (decide_eq_true h)
  rw [e, ori_right, one_eq, select_t]

theorem scale_mid (x : EReal) (E : ℕ) (h1 : 1 ≤ E) (h2 : E ≤ 252) (hl : pw E ≤ x) (hu : x < pw (E + 1)) : scale x = pw (E + 1) := by
  unfold scale
  have e : Ideal.cmp .olt x (Ideal.ofBits .f32 0x00800000#32) = BitVec.ofBool false := by
    rw [cmp_olt]; exact congrArg _ (decide_eq_false (not_lt.2 (le_trans (pw_mono 1 E (by omega) h1 (by omega)) hl)))
  have e' : Ideal.cmp .oge x (Ideal.ofBits .f32 0x7E800000#32) = BitVec.ofBool false := by
    rw [cmp_oge]; exact congrArg _ (decide_eq_false (not_le.2 (lt_of_lt_of_le hu (pw_mono (E + 1) 253 (by omega) (by omega) (by omega)))))
  rw [e, e', above_eq x E h1 h2 hl hu, select_ff]

theorem kscale_eq (x : EReal) : kscale x = scale x := by
  unfold kscale special
  rcases field_cases x with ⟨h, hf⟩ | ⟨h, hf⟩ | ⟨E, h1, h2, hl, hu, hf⟩
  · rw [hf, scale_low x h, select_low, one_eq]
  · rw [hf, scale_high x h, select_high, one_eq]
  · rw [hf, special_field ⟨E, by omega⟩ h1, scale_mid x E h1 h2 hl hu, select_f]
    unfold pw
    rw [Nat.mul_add, BitVec.ofNat_add]

theorem kinv_eq (x : EReal) : kinv x = Ideal.div (Ideal.ofBits .f32 0x3F800000#32) (scale x) := by
  have one_div : Ideal.div 1 1 = (1 : EReal) := by simp [Ideal.div]
  unfold kinv special
  rw [one_eq]
  rcases field_cases x with ⟨h, hf⟩ | ⟨h, hf⟩ | ⟨E, h1, h2, hl, hu, hf⟩
  · rw [hf, scale_low x h, one_div, select_low, one_eq]
  · rw [hf, scale_high x h, one_div, select_high, one_eq]
  · rw [hf, special_field ⟨E, by omega⟩ h1, scale_mid x E h1 h2 hl hu, select_f, field_sub ⟨E, by omega⟩]
    rw [show Ideal.ofBits .f32 (BitVec.ofNat 32 (8388608 * (253 - E))) = pw (253 - E) from rfl]
    have hp : (2 : ℝ) ^ (((E + 1 : ℕ) : ℤ) - 127) ≠ 0 := (zpow_pos (by norm_num) _).ne'
    rw [pw_eq (E + 1) (by omega) (by omega), pw_eq (253 - E) (by omega) (by omega)]
    unfold Ideal.div
    rw [if_neg (by exact_mod_cast hp), one_mul, ← EReal.coe_inv, ← zpow_neg]
    congr 2
    omega

/-- The code at a scale, from the reciprocal built from the field. -/
theorem clip_kinv (v x : EReal) : clip v (kinv x) = code v (scale x) := by rw [kinv_eq]; rfl

end Cert.Quant8

end
-- ==== Proof.UpSpec.lean ====
/-
  The up projection over the extended reals, index by index: the dequantised rows of every device against the
  dequantised weights, the gate columns activated and multiplied by the up columns, and the result quantised twice — by
  groups of 128 columns of a row and by groups of 128 rows of a column.
-/
module

public import proofs.«01_k».proof.Proof.Quant8

@[expose] public section

noncomputable section

namespace Cert.UpSpec

open Idealize.ShloMosaic

/-- The gate value through `g · sigmoid g`, times the up value. -/
def act (g u : EReal) : EReal := (g * FloatOps.logistic (F := Ideal) (φ := .f32) g) * u

theorem act_eq (g u : EReal) :
    (g * Ideal.div (Ideal.ofBits .f32 0x3F800000#32) (Ideal.ofBits .f32 0x3F800000#32 + Ideal.exp (Ideal.ofBits .f32 0x00000000#32 - g))) * u = act g u := by
  unfold act
  rw [Ideal.ofBits_zero_f32, Quant8.one_eq, zero_sub]
  rfl

/-- The other devices' array entry that device `s`'s rows are, seen from device `rank`. -/
def src (rank : BitVec 32) (s : Fin 8) : Fin 7 :=
  if (BitVec.ofNat 32 s.val).slt rank = true then ⟨min s.val 6, by omega⟩ else ⟨s.val - 1, by omega⟩

variable (rank : IVec ⟨1, ![1]⟩ 32) (lc : FVec Ideal ⟨2, ![256, 12288]⟩ .fp8e4m3) (ls : FVec Ideal ⟨2, ![256, 128]⟩ .f32)
  (oc : FVec Ideal ⟨3, ![7, 256, 12288]⟩ .fp8e4m3) (os : FVec Ideal ⟨3, ![7, 256, 128]⟩ .f32)
  (w : FVec Ideal ⟨2, ![12288, 7168]⟩ .fp8e4m3) (ws : FVec Ideal ⟨2, ![96, 56]⟩ .f32)

/-- Row `r` of device `s`, dequantised. -/
def row (s : Fin 8) (r : Fin 256) (k : Fin 12288) : EReal :=
  if BitVec.ofNat 32 s.val = rank (ix1 (0 : Fin 1)) then (lc (ix2 r k) : EReal) * (ls (ix2 r ⟨k.val / 128, by omega⟩) : EReal)
  else (oc (ix3 (src (rank (ix1 (0 : Fin 1))) s) r k) : EReal) * (os (ix3 (src (rank (ix1 (0 : Fin 1))) s) r ⟨k.val / 128, by omega⟩) : EReal)

/-- Its product with column `C` of the dequantised weights. -/
def prod (s : Fin 8) (r : Fin 256) (C : Fin 7168) : EReal :=
  ∑ k : Fin 12288, row rank lc ls oc os s r k * ((w (ix2 k C) : EReal) * (ws (ix2 ⟨k.val / 128, by omega⟩ ⟨C.val / 128, by omega⟩) : EReal))

/-- The activated products. -/
def hval (s : Fin 8) (r : Fin 256) (C : Fin 3584) : EReal :=
  act (prod rank lc ls oc os w ws s r ⟨C.val, by omega⟩) (prod rank lc ls oc os w ws s r ⟨3584 + C.val, by omega⟩)

/-- The scale of a row's group `l` of 128 columns. -/
def rowScale (s : Fin 8) (r : Fin 256) (l : Fin 28) : EReal :=
  Quant8.scale (Quant8.mag fun x : Fin 128 => hval rank lc ls oc os w ws s r ⟨128 * l.val + x.val, by omega⟩)

/-- The scale of a column's group `b` of 128 rows. -/
def colScale (s : Fin 8) (b : Fin 2) (C : Fin 3584) : EReal :=
  Quant8.scale (Quant8.mag fun x : Fin 128 => hval rank lc ls oc os w ws s ⟨128 * b.val + x.val, by omega⟩ C)

/-- The codes by rows. -/
def rowCodes : FVec Ideal ⟨3, ![8, 256, 3584]⟩ .fp8e4m3 := fun y =>
  Quant8.code (hval rank lc ls oc os w ws ⟨(y 0).val, (y 0).isLt⟩ ⟨(y 1).val, (y 1).isLt⟩ ⟨(y 2).val, (y 2).isLt⟩)
    (rowScale rank lc ls oc os w ws ⟨(y 0).val, (y 0).isLt⟩ ⟨(y 1).val, (y 1).isLt⟩ ⟨(y 2).val / 128, by have : (y 2).val < 3584 := (y 2).isLt; omega⟩)

/-- The rows' scales, 28 of 128 lanes; the rest zero. -/
def rowScales : FVec Ideal ⟨3, ![8, 256, 128]⟩ .f32 := fun y =>
  if hl : (y 2).val < 28 then rowScale rank lc ls oc os w ws ⟨(y 0).val, (y 0).isLt⟩ ⟨(y 1).val, (y 1).isLt⟩ ⟨(y 2).val, hl⟩ else (0 : EReal)

/-- The codes by columns. -/
def colCodes : FVec Ideal ⟨3, ![8, 256, 3584]⟩ .fp8e4m3 := fun y =>
  Quant8.code (hval rank lc ls oc os w ws ⟨(y 0).val, (y 0).isLt⟩ ⟨(y 1).val, (y 1).isLt⟩ ⟨(y 2).val, (y 2).isLt⟩)
    (colScale rank lc ls oc os w ws ⟨(y 0).val, (y 0).isLt⟩ ⟨(y 1).val / 128, by have : (y 1).val < 256 := (y 1).isLt; omega⟩ ⟨(y 2).val, (y 2).isLt⟩)

/-- The columns' scales. -/
def colScales : FVec Ideal ⟨3, ![8, 2, 3584]⟩ .f32 := fun y =>
  colScale rank lc ls oc os w ws ⟨(y 0).val, (y 0).isLt⟩ ⟨(y 1).val, (y 1).isLt⟩ ⟨(y 2).val, (y 2).isLt⟩

end Cert.UpSpec

end
-- ==== Proof.UpRefRows.lean ====
/-
  The up projection's reference, read at an index: every device's rows, each in its place, and their product with the weights.
-/
module

public import proofs.«01_k».proof.Proof.UpRefValue
public import proofs.«01_k».proof.Proof.UpSpec
public import Idealize.ShloMosaic.Lib.Pointwise

@[expose] public section

set_option maxRecDepth 16384

noncomputable section

namespace Cert.UpReferenceIdeal.Read

open Cert.UpReferenceIdeal Cert.UpReferenceIdeal.Gen Cert.UpReferenceIdeal.Value Idealize.ShloMosaic Idealize.ShloMosaic.TcCoe Idealize.SL.Sem

/-! ## The rows -/

/-- This device's rows, dequantised. -/
def locV (v0 : FVec Ideal S256x12288 .fp8e4m3) (v3 : FVec Ideal S256x96 .f32) : FVec Ideal S1x256x12288 .bf16 :=
  shapeCast S1x256x12288 (mulf (shapeCast S256x96x128 (extf .bf16 v0 bitsLt_fp8e4m3_bf16) shapeCasts_S256x12288_S256x96x128)
    (broadcastTo S256x96x128 (shapeCast S256x96x1 (truncf .bf16 v3 bitsLt_bf16_f32) shapeCasts_S256x96_S256x96x1) broadcasts_S256x96x1_S256x96x128)) shapeCasts_S256x96x128_S1x256x12288

theorem locV_apply (v0 : FVec Ideal S256x12288 .fp8e4m3) (v3 : FVec Ideal S256x96 .f32) (r : Fin 256) (k : Fin 12288) :
    locV v0 v3 (ix3 0 r k) = (v0 (ix2 r k) : EReal) * (v3 (ix2 r ⟨k.val / 128, by omega⟩) : EReal) := by
  pointwise [locV]

/-- The other devices' rows, dequantised. -/
def othV (v9 : FVec Ideal S7x256x12288 .fp8e4m3) (v12 : FVec Ideal S7x256x96 .f32) : FVec Ideal S7x256x12288 .bf16 :=
  shapeCast S7x256x12288 (mulf (shapeCast S7x256x96x128 (extf .bf16 v9 bitsLt_fp8e4m3_bf16) shapeCasts_S7x256x12288_S7x256x96x128)
    (broadcastTo S7x256x96x128 (shapeCast S7x256x96x1 (truncf .bf16 v12 bitsLt_bf16_f32) shapeCasts_S7x256x96_S7x256x96x1) broadcasts_S7x256x96x1_S7x256x96x128)) shapeCasts_S7x256x96x128_S7x256x12288

theorem othV_apply (v9 : FVec Ideal S7x256x12288 .fp8e4m3) (v12 : FVec Ideal S7x256x96 .f32) (d : Fin 7) (r : Fin 256) (k : Fin 12288) :
    othV v9 v12 (ix3 d r k) = (v9 (ix3 d r k) : EReal) * (v12 (ix3 d r ⟨k.val / 128, by omega⟩) : EReal) := by
  pointwise [othV]

/-- The others' rows, the last repeated. -/
def befV (O : FVec Ideal S7x256x12288 .bf16) : FVec Ideal S8x256x12288 .bf16 :=
  concatenate S8x256x12288 0 [⟨S7x256x12288, O⟩, ⟨S1x256x12288, extractStridedSlice S1x256x12288 ![6, 0, 0] O slices_S7x256x12288_o6_0_0_S1x256x12288⟩] concatenates_S7x256x12288_S1x256x12288_S8x256x12288_d0

theorem befV_apply (O : FVec Ideal S7x256x12288 .bf16) (s : Fin 8) (r : Fin 256) (k : Fin 12288) :
    befV O (ix3 s r k) = O (ix3 ⟨min s.val 6, by omega⟩ r k) := by
  have e : befV O (ix3 s r k) = if h : s.val < 7 then O (ix3 ⟨s.val, h⟩ r k) else O (ix3 ⟨6 + (s.val - 7), by omega⟩ r k) := by
    pointwise [befV]
  rw [e]
  by_cases h : s.val < 7
  · rw [dif_pos h]; congr 2; apply Fin.ext; show s.val = min s.val 6; omega
  · rw [dif_neg h]; congr 2; apply Fin.ext; show 6 + (s.val - 7) = min s.val 6; omega

/-- The others' rows, the first repeated. -/
def aftV (O : FVec Ideal S7x256x12288 .bf16) : FVec Ideal S8x256x12288 .bf16 :=
  concatenate S8x256x12288 0 [⟨S1x256x12288, extractStridedSlice S1x256x12288 ![0, 0, 0] O slices_S7x256x12288_o0_0_0_S1x256x12288⟩, ⟨S7x256x12288, O⟩] concatenates_S1x256x12288_S7x256x12288_S8x256x12288_d0

theorem aftV_apply (O : FVec Ideal S7x256x12288 .bf16) (s : Fin 8) (r : Fin 256) (k : Fin 12288) :
    aftV O (ix3 s r k) = O (ix3 ⟨s.val - 1, by omega⟩ r k) := by
  have e : aftV O (ix3 s r k) = if h : s.val < 1 then O (ix3 ⟨s.val, by omega⟩ r k) else O (ix3 ⟨s.val - 1, by omega⟩ r k) := by
    pointwise [aftV]
  rw [e]
  by_cases h : s.val < 1
  · rw [dif_pos h]; congr 2; apply Fin.ext; show s.val = s.val - 1; omega
  · rw [dif_neg h]

/-- The device of a row. -/
def devV : IVec S8x256x12288 32 := iota .tc S8x256x12288 32 [0] iota_S8x256x12288_d0_w32
theorem devV_apply (s : Fin 8) (r : Fin 256) (k : Fin 12288) : devV (ix3 s r k) = BitVec.ofNat 32 s.val := by
  pointwise [devV]

/-- This device, everywhere. -/
def rankV (v19 : IVec S1 32) : IVec S8x256x12288 32 :=
  broadcastTo S8x256x12288 (shapeCast S1x1x1 (shapeCast S1x1x1 v19 shapeCasts_S1_S1x1x1) shapeCasts_S1x1x1_S1x1x1) broadcasts_S1x1x1_S8x256x12288
theorem rankV_apply (v19 : IVec S1 32) (s : Fin 8) (r : Fin 256) (k : Fin 12288) : rankV v19 (ix3 s r k) = v19 (ix1 0) := by
  pointwise [rankV]

/-- This device's rows, in every device's place. -/
def allV (L : FVec Ideal S1x256x12288 .bf16) : FVec Ideal S8x256x12288 .bf16 :=
  broadcastTo S8x256x12288 (shapeCast S1x256x12288 L shapeCasts_S1x256x12288_S1x256x12288) broadcasts_S1x256x12288_S8x256x12288
theorem allV_apply (L : FVec Ideal S1x256x12288 .bf16) (s : Fin 8) (r : Fin 256) (k : Fin 12288) : allV L (ix3 s r k) = L (ix3 0 r k) := by
  pointwise [allV]

/-- Every device's rows, each in its place. -/
def rowsV (D R : IVec S8x256x12288 32) (A B C : FVec Ideal S8x256x12288 .bf16) : FVec Ideal S2048x12288 .bf16 :=
  shapeCast S2048x12288 (select (cmpi .eq D R) A (select (cmpi .slt D R) B C)) shapeCasts_S8x256x12288_S2048x12288
theorem rowsV_apply (D R : IVec S8x256x12288 32) (A B C : FVec Ideal S8x256x12288 .bf16) (r : Fin 2048) (k : Fin 12288) :
    rowsV D R A B C (ix2 r k) =
      Scalar.select (IntOp.cmpi .eq (D (ix3 ⟨r.val / 256, by omega⟩ ⟨r.val % 256, by omega⟩ k)) (R (ix3 ⟨r.val / 256, by omega⟩ ⟨r.val % 256, by omega⟩ k)))
        (A (ix3 ⟨r.val / 256, by omega⟩ ⟨r.val % 256, by omega⟩ k))
        (Scalar.select (IntOp.cmpi .slt (D (ix3 ⟨r.val / 256, by omega⟩ ⟨r.val % 256, by omega⟩ k)) (R (ix3 ⟨r.val / 256, by omega⟩ ⟨r.val % 256, by omega⟩ k)))
          (B (ix3 ⟨r.val / 256, by omega⟩ ⟨r.val % 256, by omega⟩ k)) (C (ix3 ⟨r.val / 256, by omega⟩ ⟨r.val % 256, by omega⟩ k))) := by
  have e : ∀ v : FVec Ideal S8x256x12288 .bf16, shapeCast S2048x12288 v shapeCasts_S8x256x12288_S2048x12288 (ix2 r k) = v (ix3 ⟨r.val / 256, by omega⟩ ⟨r.val % 256, by omega⟩ k) := by
    intro v
    pointwise
  unfold rowsV
  rw [e]
  rfl

theorem sel_eq {α : Type} (a b : BitVec 32) (x y : α) : Scalar.select (IntOp.cmpi .eq a b) x y = if a = b then x else y := by
  by_cases h : a = b
  · subst h; simp [Scalar.select, IntOp.cmpi]
  · rw [if_neg h]; have e : (a == b) = false := by simp [h]
    show (if BitVec.ofBool (a == b) = 1#1 then x else y) = y
    rw [e]; rfl
theorem sel_slt {α : Type} (a b : BitVec 32) (x y : α) : Scalar.select (IntOp.cmpi .slt a b) x y = if a.slt b = true then x else y := by
  by_cases h : a.slt b = true
  · rw [if_pos h]; simp [Scalar.select, IntOp.cmpi, h]
  · rw [if_neg h]; simp [Scalar.select, IntOp.cmpi, h]

/-- The dequantised weights. -/
def wV (v33 : FVec Ideal S12288x7168 .fp8e4m3) (v36 : FVec Ideal S96x56 .f32) : FVec Ideal S12288x7168 .bf16 :=
  shapeCast S12288x7168 (mulf (shapeCast S96x128x56x128 (extf .bf16 v33 bitsLt_fp8e4m3_bf16) shapeCasts_S12288x7168_S96x128x56x128)
    (broadcastTo S96x128x56x128 (shapeCast S96x1x56x1 (truncf .bf16 v36 bitsLt_bf16_f32) shapeCasts_S96x56_S96x1x56x1) broadcasts_S96x1x56x1_S96x128x56x128)) shapeCasts_S96x128x56x128_S12288x7168

theorem wV_apply (v33 : FVec Ideal S12288x7168 .fp8e4m3) (v36 : FVec Ideal S96x56 .f32) (k : Fin 12288) (C : Fin 7168) :
    wV v33 v36 (ix2 k C) = (v33 (ix2 k C) : EReal) * (v36 (ix2 ⟨k.val / 128, by omega⟩ ⟨C.val / 128, by omega⟩) : EReal) := by
  pointwise [wV]

/-- The product. -/
def prodV (x : FVec Ideal S2048x12288 .bf16) (w : FVec Ideal S12288x7168 .bf16) : FVec Ideal S2048x7168 .f32 :=
  matmul dot_S2048x12288_S12288x7168_S2048x7168_1_0_0_1_n_n none x w (constant S2048x7168 .f32 0x00000000#32)

theorem prodV_apply (x : FVec Ideal S2048x12288 .bf16) (w : FVec Ideal S12288x7168 .bf16) (r : Fin 2048) (C : Fin 7168) :
    prodV x w (ix2 r C) = ∑ k : Fin 12288, (x (ix2 r k) : EReal) * (w (ix2 k C) : EReal) := by
  pointwise [prodV]

theorem pay1_eq (v0 : FVec Ideal S256x12288 .fp8e4m3) (v3 : FVec Ideal S256x96 .f32) (v9 : FVec Ideal S7x256x12288 .fp8e4m3) (v12 : FVec Ideal S7x256x96 .f32) (v19 : IVec S1 32)
    (v33 : FVec Ideal S12288x7168 .fp8e4m3) (v36 : FVec Ideal S96x56 .f32) :
    k0_pay1 (F := Ideal) v0 v3 v9 v12 v19 v33 v36 = prodV (rowsV devV (rankV v19) (allV (locV v0 v3)) (befV (othV v9 v12)) (aftV (othV v9 v12))) (wV v33 v36) := rfl

end Cert.UpReferenceIdeal.Read

end
-- ==== Proof.UpRefQuant.lean ====
/-
  The up projection's reference, read at an index: the activation of a product, and its two quantised forms.
-/
module

public import proofs.«01_k».proof.Proof.UpRefValue
public import proofs.«01_k».proof.Proof.UpSpec
public import Idealize.ShloMosaic.Lib.Pointwise

@[expose] public section

set_option maxRecDepth 16384

noncomputable section

namespace Cert.UpReferenceIdeal.Read

open Cert.UpReferenceIdeal Cert.UpReferenceIdeal.Gen Cert.UpReferenceIdeal.Value Idealize.ShloMosaic Idealize.ShloMosaic.TcCoe Idealize.SL.Sem

/-! ## The activation and the quantiser -/

theorem pay2_apply (Y : FVec Ideal S2048x7168 .f32) (r : Fin 2048) (C : Fin 3584) :
    k0_pay2 (F := Ideal) Y (ix2 r C) = UpSpec.act (Y (ix2 r ⟨C.val, by omega⟩)) (Y (ix2 r ⟨3584 + C.val, by omega⟩)) := by
  have e0 : extractStridedSlice S2048x3584 ![0, 0] Y slices_S2048x7168_o0_0_S2048x3584 (ix2 r C) = Y (ix2 r ⟨C.val, by omega⟩) := by
    unfold extractStridedSlice
    congr 1
    funext a; apply Fin.ext
    match a with
    | ⟨0, _⟩ => show 0 + r.val = r.val; omega
    | ⟨1, _⟩ => show 0 + C.val = C.val; omega
  have e1 : extractStridedSlice S2048x3584 ![0, 3584] Y slices_S2048x7168_o0_3584_S2048x3584 (ix2 r C) = Y (ix2 r ⟨3584 + C.val, by omega⟩) := by
    unfold extractStridedSlice
    congr 1
    funext a; apply Fin.ext
    match a with
    | ⟨0, _⟩ => show 0 + r.val = r.val; omega
    | ⟨1, _⟩ => rfl
  rw [← e0, ← e1]
  rfl

/-- The largest magnitudes. -/
def maxR (v : FVec Ideal S2048x28x128 .f32) : FVec Ideal S2048x28 .f32 :=
  multiReduction .maximumf [2] S2048x28 (absf v) 0xFF800000#32 reduces_S2048x28x128_S2048x28 (.inl rfl) rfl

theorem maxR_apply (v : FVec Ideal S2048x28x128 .f32) (p : Fin 2048) (q : Fin 28) :
    maxR v (ix2 p q) = Quant.amax (fun x : Fin 128 => v (ix3 p q x)) := by
  pointwise [maxR, Quant.amax]

/-- Over 448. -/
def ovrR (M : FVec Ideal S2048x28 .f32) : FVec Ideal S2048x28 .f32 := mulf M (broadcast S2048x28 (Scalar.ofBits .f32 0x3B124925#32))

theorem ovrR_apply (M : FVec Ideal S2048x28 .f32) (i : S2048x28.Idx) : ovrR M i = (M i : EReal) * Ideal.ofBits .f32 0x3B124925#32 := rfl

/-- The largest magnitudes over 448. -/
def magR (v : FVec Ideal S2048x28x128 .f32) : FVec Ideal S2048x28 .f32 := ovrR (maxR v)

theorem magR_apply (v : FVec Ideal S2048x28x128 .f32) (p : Fin 2048) (q : Fin 28) :
    magR v (ix2 p q) = Quant8.mag (fun x : Fin 128 => v (ix3 p q x)) := by
  unfold magR Quant8.mag
  rw [ovrR_apply, maxR_apply]

/-- The powers of two. -/
def powR : FVec Ideal S2048x28x252 .f32 :=
  exp2 (subf (sitofp .f32 (iota .tc S2048x28x252 32 [2] iota_S2048x28x252_d2_w32)) (broadcast S2048x28x252 (Scalar.ofBits .f32 0x42FA0000#32)))

theorem powR_apply (p : Fin 2048) (q : Fin 28) (j : Fin 252) : powR (ix3 p q j) = Quant8.power j := by
  have e : iota .tc S2048x28x252 32 [2] iota_S2048x28x252_d2_w32 (ix3 p q j) = BitVec.ofNat 32 j.val := by pointwise
  show Ideal.exp2 (((((iota .tc S2048x28x252 32 [2] iota_S2048x28x252_d2_w32 (ix3 p q j)).toInt : ℝ) : EReal)) - Ideal.ofBits .f32 0x42FA0000#32) = _
  rw [e]
  rfl

/-- The powers above a magnitude, infinity for the others. -/
def canR (P : FVec Ideal S2048x28x252 .f32) (M : FVec Ideal S2048x28 .f32) : FVec Ideal S2048x28x252 .f32 :=
  select (cmpf .ogt P (broadcastTo S2048x28x252 (shapeCast S2048x28x1 M shapeCasts_S2048x28_S2048x28x1) broadcasts_S2048x28x1_S2048x28x252)) P (broadcast S2048x28x252 (Scalar.ofBits .f32 0x7F800000#32))

theorem canR_apply (P : FVec Ideal S2048x28x252 .f32) (M : FVec Ideal S2048x28 .f32) (p : Fin 2048) (q : Fin 28) (j : Fin 252) :
    canR P M (ix3 p q j) = Scalar.select (Ideal.cmp .ogt (P (ix3 p q j)) (M (ix2 p q))) (P (ix3 p q j)) (Ideal.ofBits .f32 0x7F800000#32) := by
  have e : broadcastTo S2048x28x252 (shapeCast S2048x28x1 M shapeCasts_S2048x28_S2048x28x1) broadcasts_S2048x28x1_S2048x28x252 (ix3 p q j) = M (ix2 p q) := by
    pointwise
  rw [← e]
  rfl

/-- The least of them. -/
def minR (V : FVec Ideal S2048x28x252 .f32) : FVec Ideal S2048x28 .f32 :=
  multiReduction .minimumf [2] S2048x28 V 0x7F800000#32 reduces_S2048x28x252_S2048x28 (.inl rfl) rfl

theorem minR_apply (V : FVec Ideal S2048x28x252 .f32) (p : Fin 2048) (q : Fin 28) :
    minR V (ix2 p q) = Finset.univ.fold min (Ideal.ofBits .f32 0x7F800000#32) fun j : Fin 252 => (V (ix3 p q j) : EReal) := by
  pointwise [minR]

/-- The scales. -/
def scR (M A : FVec Ideal S2048x28 .f32) : FVec Ideal S2048x28 .f32 :=
  select (ori (cmpf .olt M (broadcast S2048x28 (Scalar.ofBits .f32 0x00800000#32))) (cmpf .oge M (broadcast S2048x28 (Scalar.ofBits .f32 0x7E800000#32))))
    (broadcast S2048x28 (Scalar.ofBits .f32 0x3F800000#32)) A

theorem scR_at (M A : FVec Ideal S2048x28 .f32) (p : Fin 2048) (q : Fin 28) : scR M A (ix2 p q) =
    Scalar.select (IntOp.ori (Ideal.cmp .olt (M (ix2 p q)) (Ideal.ofBits .f32 0x00800000#32)) (Ideal.cmp .oge (M (ix2 p q)) (Ideal.ofBits .f32 0x7E800000#32)))
      (Ideal.ofBits .f32 0x3F800000#32) (A (ix2 p q)) := rfl

theorem scR_apply (v : FVec Ideal S2048x28x128 .f32) (p : Fin 2048) (q : Fin 28) :
    scR (magR v) (minR (canR powR (magR v))) (ix2 p q) = Quant8.scale (Quant8.mag (fun x : Fin 128 => v (ix3 p q x))) := by
  have e : minR (canR powR (magR v)) (ix2 p q) = Quant8.above (magR v (ix2 p q)) := by
    rw [minR_apply]
    unfold Quant8.above
    refine congrArg (fun f : Fin 252 → EReal => Finset.univ.fold min (Ideal.ofBits .f32 0x7F800000#32) f) (funext fun j => ?_)
    exact (canR_apply _ _ p q j).trans (by rw [powR_apply])
  rw [scR_at, e, magR_apply]
  rfl

/-- The largest magnitudes. -/
def maxC (v : FVec Ideal S16x128x3584 .f32) : FVec Ideal S16x3584 .f32 :=
  multiReduction .maximumf [1] S16x3584 (absf v) 0xFF800000#32 reduces_S16x128x3584_S16x3584 (.inl rfl) rfl

theorem maxC_apply (v : FVec Ideal S16x128x3584 .f32) (p : Fin 16) (q : Fin 3584) :
    maxC v (ix2 p q) = Quant.amax (fun x : Fin 128 => v (ix3 p x q)) := by
  pointwise [maxC, Quant.amax]

/-- Over 448. -/
def ovrC (M : FVec Ideal S16x3584 .f32) : FVec Ideal S16x3584 .f32 := mulf M (broadcast S16x3584 (Scalar.ofBits .f32 0x3B124925#32))

theorem ovrC_apply (M : FVec Ideal S16x3584 .f32) (i : S16x3584.Idx) : ovrC M i = (M i : EReal) * Ideal.ofBits .f32 0x3B124925#32 := rfl

/-- The largest magnitudes over 448. -/
def magC (v : FVec Ideal S16x128x3584 .f32) : FVec Ideal S16x3584 .f32 := ovrC (maxC v)

theorem magC_apply (v : FVec Ideal S16x128x3584 .f32) (p : Fin 16) (q : Fin 3584) :
    magC v (ix2 p q) = Quant8.mag (fun x : Fin 128 => v (ix3 p x q)) := by
  unfold magC Quant8.mag
  rw [ovrC_apply, maxC_apply]

/-- The powers of two. -/
def powC : FVec Ideal S16x3584x252 .f32 :=
  exp2 (subf (sitofp .f32 (iota .tc S16x3584x252 32 [2] iota_S16x3584x252_d2_w32)) (broadcast S16x3584x252 (Scalar.ofBits .f32 0x42FA0000#32)))

theorem powC_apply (p : Fin 16) (q : Fin 3584) (j : Fin 252) : powC (ix3 p q j) = Quant8.power j := by
  have e : iota .tc S16x3584x252 32 [2] iota_S16x3584x252_d2_w32 (ix3 p q j) = BitVec.ofNat 32 j.val := by pointwise
  show Ideal.exp2 (((((iota .tc S16x3584x252 32 [2] iota_S16x3584x252_d2_w32 (ix3 p q j)).toInt : ℝ) : EReal)) - Ideal.ofBits .f32 0x42FA0000#32) = _
  rw [e]
  rfl

/-- The powers above a magnitude, infinity for the others. -/
def canC (P : FVec Ideal S16x3584x252 .f32) (M : FVec Ideal S16x3584 .f32) : FVec Ideal S16x3584x252 .f32 :=
  select (cmpf .ogt P (broadcastTo S16x3584x252 (shapeCast S16x3584x1 M shapeCasts_S16x3584_S16x3584x1) broadcasts_S16x3584x1_S16x3584x252)) P (broadcast S16x3584x252 (Scalar.ofBits .f32 0x7F800000#32))

theorem canC_apply (P : FVec Ideal S16x3584x252 .f32) (M : FVec Ideal S16x3584 .f32) (p : Fin 16) (q : Fin 3584) (j : Fin 252) :
    canC P M (ix3 p q j) = Scalar.select (Ideal.cmp .ogt (P (ix3 p q j)) (M (ix2 p q))) (P (ix3 p q j)) (Ideal.ofBits .f32 0x7F800000#32) := by
  have e : broadcastTo S16x3584x252 (shapeCast S16x3584x1 M shapeCasts_S16x3584_S16x3584x1) broadcasts_S16x3584x1_S16x3584x252 (ix3 p q j) = M (ix2 p q) := by
    pointwise
  rw [← e]
  rfl

/-- The least of them. -/
def minC (V : FVec Ideal S16x3584x252 .f32) : FVec Ideal S16x3584 .f32 :=
  multiReduction .minimumf [2] S16x3584 V 0x7F800000#32 reduces_S16x3584x252_S16x3584 (.inl rfl) rfl

theorem minC_apply (V : FVec Ideal S16x3584x252 .f32) (p : Fin 16) (q : Fin 3584) :
    minC V (ix2 p q) = Finset.univ.fold min (Ideal.ofBits .f32 0x7F800000#32) fun j : Fin 252 => (V (ix3 p q j) : EReal) := by
  pointwise [minC]

/-- The scales. -/
def scC (M A : FVec Ideal S16x3584 .f32) : FVec Ideal S16x3584 .f32 :=
  select (ori (cmpf .olt M (broadcast S16x3584 (Scalar.ofBits .f32 0x00800000#32))) (cmpf .oge M (broadcast S16x3584 (Scalar.ofBits .f32 0x7E800000#32))))
    (broadcast S16x3584 (Scalar.ofBits .f32 0x3F800000#32)) A

theorem scC_at (M A : FVec Ideal S16x3584 .f32) (p : Fin 16) (q : Fin 3584) : scC M A (ix2 p q) =
    Scalar.select (IntOp.ori (Ideal.cmp .olt (M (ix2 p q)) (Ideal.ofBits .f32 0x00800000#32)) (Ideal.cmp .oge (M (ix2 p q)) (Ideal.ofBits .f32 0x7E800000#32)))
      (Ideal.ofBits .f32 0x3F800000#32) (A (ix2 p q)) := rfl

theorem scC_apply (v : FVec Ideal S16x128x3584 .f32) (p : Fin 16) (q : Fin 3584) :
    scC (magC v) (minC (canC powC (magC v))) (ix2 p q) = Quant8.scale (Quant8.mag (fun x : Fin 128 => v (ix3 p x q))) := by
  have e : minC (canC powC (magC v)) (ix2 p q) = Quant8.above (magC v (ix2 p q)) := by
    rw [minC_apply]
    unfold Quant8.above
    refine congrArg (fun f : Fin 252 → EReal => Finset.univ.fold min (Ideal.ofBits .f32 0x7F800000#32) f) (funext fun j => ?_)
    exact (canC_apply _ _ p q j).trans (by rw [powC_apply])
  rw [scC_at, e, magC_apply]
  rfl

/-- A row's product in groups of 128 columns. -/
theorem pay3_apply (Y : FVec Ideal S2048x7168 .f32) (r : Fin 2048) (l : Fin 28) (x : Fin 128) :
    k0_pay3 (F := Ideal) Y (ix3 r l x) = k0_pay2 (F := Ideal) Y (ix2 r ⟨128 * l.val + x.val, by omega⟩) := by
  have e : ∀ v : FVec Ideal S2048x3584 .f32, shapeCast S2048x28x128 v shapeCasts_S2048x3584_S2048x28x128 (ix3 r l x) = v (ix2 r ⟨128 * l.val + x.val, by omega⟩) := by
    intro v
    have e' : shapeCast S2048x28x128 v shapeCasts_S2048x3584_S2048x28x128 (ix3 r l x) = v (ix2 r ⟨l.val * 128 + x.val, by omega⟩) := by pointwise
    rw [e']; exact congrArg (fun z => v (ix2 r z)) (Fin.ext (by show l.val * 128 + x.val = 128 * l.val + x.val; omega))
  unfold k0_pay3
  generalize k0_pay2 (F := Ideal) Y = v
  exact e v

theorem pay4_eq (Y : FVec Ideal S2048x7168 .f32) : k0_pay4 (F := Ideal) Y = scR (magR (k0_pay3 Y)) (minR (canR powR (magR (k0_pay3 Y)))) := rfl

/-- The codes of a grouped product, with each group's scale. -/
def codR (v : FVec Ideal S2048x28x128 .f32) (s : FVec Ideal S2048x28 .f32) : FVec Ideal S8x256x3584 .fp8e4m3 :=
  shapeCast S8x256x3584 (truncf .fp8e4m3 (minimumf (broadcast S2048x28x128 (Scalar.ofBits .f32 0x43E00000#32)) (maximumf (broadcast S2048x28x128 (Scalar.ofBits .f32 0xC3E00000#32))
    (mulf v (broadcastTo S2048x28x128 (shapeCast S2048x28x1 (divf (broadcast S2048x28 (Scalar.ofBits .f32 0x3F800000#32)) s) shapeCasts_S2048x28_S2048x28x1) broadcasts_S2048x28x1_S2048x28x128)))) bitsLt_fp8e4m3_f32) shapeCasts_S2048x28x128_S8x256x3584

theorem codR_apply (v : FVec Ideal S2048x28x128 .f32) (s : FVec Ideal S2048x28 .f32) (d : Fin 8) (r : Fin 256) (C : Fin 3584) :
    codR v s (ix3 d r C) = Quant8.code (v (ix3 ⟨256 * d.val + r.val, by omega⟩ ⟨C.val / 128, by omega⟩ ⟨C.val % 128, by omega⟩)) (s (ix2 ⟨256 * d.val + r.val, by omega⟩ ⟨C.val / 128, by omega⟩)) := by
  have ec : ∀ u : FVec Ideal S2048x28x128 .fp8e4m3, shapeCast S8x256x3584 u shapeCasts_S2048x28x128_S8x256x3584 (ix3 d r C) = u (ix3 ⟨256 * d.val + r.val, by omega⟩ ⟨C.val / 128, by omega⟩ ⟨C.val % 128, by omega⟩) := by
    intro u
    have e' : shapeCast S8x256x3584 u shapeCasts_S2048x28x128_S8x256x3584 (ix3 d r C) = u (ix3 ⟨d.val * 256 + r.val, by omega⟩ ⟨C.val / 128, by omega⟩ ⟨C.val % 128, by omega⟩) := by pointwise
    rw [e']; congr 2; apply Fin.ext; show d.val * 256 + r.val = 256 * d.val + r.val; omega
  have eb : ∀ (u : FVec Ideal S2048x28 .f32) (p : Fin 2048) (q : Fin 28) (x : Fin 128), broadcastTo S2048x28x128 (shapeCast S2048x28x1 u shapeCasts_S2048x28_S2048x28x1) broadcasts_S2048x28x1_S2048x28x128 (ix3 p q x) = u (ix2 p q) := by
    intro u p q x
    pointwise
  unfold codR
  rw [ec]
  exact congrArg (fun z : EReal => Quant8.clip _ z) (eb _ _ _ _)

theorem pay5_eq (Y : FVec Ideal S2048x7168 .f32) : k0_pay5 (F := Ideal) Y = codR (k0_pay3 Y) (k0_pay4 Y) := rfl

/-- The scales in 128 lanes. -/
def lanR (s : FVec Ideal S2048x28 .f32) (z : FVec Ideal S2048x100 .f32) : FVec Ideal S8x256x128 .f32 :=
  shapeCast S8x256x128 (concatenate S2048x128 1 [⟨S2048x28, s⟩, ⟨S2048x100, z⟩] concatenates_S2048x28_S2048x100_S2048x128_d1) shapeCasts_S2048x128_S8x256x128

theorem lanR_apply (s : FVec Ideal S2048x28 .f32) (z : FVec Ideal S2048x100 .f32) (d : Fin 8) (r : Fin 256) (l : Fin 128) :
    lanR s z (ix3 d r l) = if h : l.val < 28 then s (ix2 ⟨256 * d.val + r.val, by omega⟩ ⟨l.val, h⟩) else z (ix2 ⟨256 * d.val + r.val, by omega⟩ ⟨l.val - 28, by omega⟩) := by
  have ec : ∀ u : FVec Ideal S2048x128 .f32, shapeCast S8x256x128 u shapeCasts_S2048x128_S8x256x128 (ix3 d r l) = u (ix2 ⟨256 * d.val + r.val, by omega⟩ l) := by
    intro u
    have e' : shapeCast S8x256x128 u shapeCasts_S2048x128_S8x256x128 (ix3 d r l) = u (ix2 ⟨d.val * 256 + r.val, by omega⟩ l) := by pointwise
    rw [e']; congr 2; apply Fin.ext; show d.val * 256 + r.val = 256 * d.val + r.val; omega
  unfold lanR
  rw [ec]
  generalize (⟨256 * d.val + r.val, by omega⟩ : Fin 2048) = p
  pointwise

theorem pay6_eq (Y : FVec Ideal S2048x7168 .f32) : k0_pay6 (F := Ideal) Y = lanR (k0_pay4 Y) (broadcast S2048x100 (Scalar.sitofp .f32 0#32)) := rfl

/-- The activated product in groups of 128 rows. -/
theorem pay7_apply (v : FVec Ideal S2048x3584 .f32) (g : Fin 16) (x : Fin 128) (C : Fin 3584) :
    k0_pay7 (F := Ideal) v (ix3 g x C) = v (ix2 ⟨128 * g.val + x.val, by omega⟩ C) := by
  have e' : k0_pay7 (F := Ideal) v (ix3 g x C) = v (ix2 ⟨g.val * 128 + x.val, by omega⟩ C) := by pointwise [k0_pay7]
  rw [e']; exact congrArg (fun z => v (ix2 z C)) (Fin.ext (by show g.val * 128 + x.val = 128 * g.val + x.val; omega))

theorem pay8_eq (v : FVec Ideal S2048x3584 .f32) : k0_pay8 (F := Ideal) v = scC (magC (k0_pay7 v)) (minC (canC powC (magC (k0_pay7 v)))) := rfl

/-- The codes of a product grouped by rows, with each group's scale. -/
def codC (v : FVec Ideal S16x128x3584 .f32) (s : FVec Ideal S16x3584 .f32) : FVec Ideal S8x256x3584 .fp8e4m3 :=
  shapeCast S8x256x3584 (truncf .fp8e4m3 (minimumf (broadcast S16x128x3584 (Scalar.ofBits .f32 0x43E00000#32)) (maximumf (broadcast S16x128x3584 (Scalar.ofBits .f32 0xC3E00000#32))
    (mulf v (broadcastTo S16x128x3584 (shapeCast S16x1x3584 (divf (broadcast S16x3584 (Scalar.ofBits .f32 0x3F800000#32)) s) shapeCasts_S16x3584_S16x1x3584) broadcasts_S16x1x3584_S16x128x3584)))) bitsLt_fp8e4m3_f32) shapeCasts_S16x128x3584_S8x256x3584

theorem codC_apply (v : FVec Ideal S16x128x3584 .f32) (s : FVec Ideal S16x3584 .f32) (d : Fin 8) (r : Fin 256) (C : Fin 3584) :
    codC v s (ix3 d r C) = Quant8.code (v (ix3 ⟨2 * d.val + r.val / 128, by omega⟩ ⟨r.val % 128, by omega⟩ C)) (s (ix2 ⟨2 * d.val + r.val / 128, by omega⟩ C)) := by
  have ec : ∀ u : FVec Ideal S16x128x3584 .fp8e4m3, shapeCast S8x256x3584 u shapeCasts_S16x128x3584_S8x256x3584 (ix3 d r C) = u (ix3 ⟨2 * d.val + r.val / 128, by omega⟩ ⟨r.val % 128, by omega⟩ C) := by
    intro u
    have e' : shapeCast S8x256x3584 u shapeCasts_S16x128x3584_S8x256x3584 (ix3 d r C) = u (ix3 ⟨d.val * 2 + r.val / 128, by omega⟩ ⟨r.val % 128, by omega⟩ C) := by pointwise
    rw [e']
    have e1 : (⟨d.val * 2 + r.val / 128, by omega⟩ : Fin 16) = ⟨2 * d.val + r.val / 128, by omega⟩ := Fin.ext (by dsimp only; omega)
    rw [e1]
  have eb : ∀ (u : FVec Ideal S16x3584 .f32) (p : Fin 16) (x : Fin 128) (q : Fin 3584), broadcastTo S16x128x3584 (shapeCast S16x1x3584 u shapeCasts_S16x3584_S16x1x3584) broadcasts_S16x1x3584_S16x128x3584 (ix3 p x q) = u (ix2 p q) := by
    intro u p x q
    pointwise
  unfold codC
  rw [ec]
  exact congrArg (fun z : EReal => Quant8.clip _ z) (eb _ _ _ _)

theorem pay9_eq (v : FVec Ideal S2048x3584 .f32) : k0_pay9 (F := Ideal) v = codC (k0_pay7 v) (k0_pay8 v) := rfl

theorem cast16 (u : FVec Ideal S16x3584 .f32) (d : Fin 8) (b : Fin 2) (C : Fin 3584) :
    shapeCast S8x2x3584 u shapeCasts_S16x3584_S8x2x3584 (ix3 d b C) = u (ix2 ⟨2 * d.val + b.val, by omega⟩ C) := by
  have e' : shapeCast S8x2x3584 u shapeCasts_S16x3584_S8x2x3584 (ix3 d b C) = u (ix2 ⟨d.val * 2 + b.val, by omega⟩ C) := by pointwise
  rw [e']; congr 2; apply Fin.ext; show d.val * 2 + b.val = 2 * d.val + b.val; omega

theorem pay10_eq (v : FVec Ideal S2048x3584 .f32) : k0_pay10 (F := Ideal) v = shapeCast S8x2x3584 (k0_pay8 v) shapeCasts_S16x3584_S8x2x3584 := rfl

end Cert.UpReferenceIdeal.Read

end
-- ==== Proof.UpRef.lean ====
/-
  The up projection's reference, read at an index: the product of the dequantised operands, its activation, and the two
  quantised forms of the result.
-/
module

public import proofs.«01_k».proof.Proof.UpRefRows
public import proofs.«01_k».proof.Proof.UpRefQuant
public import proofs.«01_k».proof.Proof.UpSpec
public import Idealize.ShloMosaic.Lib.Pointwise

@[expose] public section

set_option maxRecDepth 16384

noncomputable section

namespace Cert.UpReferenceIdeal.Read

open Cert.UpReferenceIdeal Cert.UpReferenceIdeal.Gen Cert.UpReferenceIdeal.Value Idealize.ShloMosaic Idealize.ShloMosaic.TcCoe Idealize.SL.Sem

/-! ## The results -/

variable (a0 : Vec Ideal S1 .i32) (a1 : Vec Ideal S256x12288 .fp8e4m3) (a2 : Vec Ideal S256x128 .f32) (a3 : Vec Ideal S7x256x12288 .fp8e4m3) (a4 : Vec Ideal S7x256x128 .f32)
  (a5 : Vec Ideal S12288x7168 .fp8e4m3) (a6 : Vec Ideal S96x56 .f32)

theorem ldr (y : Fin 256) (l : Fin 96) : View.ld (Val := Elt Ideal) (e' := .f32) a2 r0_1 (ix2 y l) = a2 (ix2 y ⟨l.val, by omega⟩) := by
  show (a2 _ : EReal) = a2 _
  congr 1
  funext a; apply Fin.ext
  match a with
  | ⟨0, _⟩ => show 0 + 1 * y.val = y.val; omega
  | ⟨1, _⟩ => show 0 + 1 * l.val = l.val; omega

theorem ldo (d : Fin 7) (y : Fin 256) (l : Fin 96) : View.ld (Val := Elt Ideal) (e' := .f32) a4 r0_3 (ix3 d y l) = a4 (ix3 d y ⟨l.val, by omega⟩) := by
  show (a4 _ : EReal) = a4 _
  congr 1
  funext a; apply Fin.ext
  match a with
  | ⟨0, _⟩ => show 0 + 1 * d.val = d.val; omega
  | ⟨1, _⟩ => show 0 + 1 * y.val = y.val; omega
  | ⟨2, _⟩ => show 0 + 1 * l.val = l.val; omega

theorem pay11_eq : k0_pay11 (F := Ideal) a0 a1 a2 a3 a4 a5 a6 = k0_pay1 a1 (View.ld a2 r0_1) a3 (View.ld a4 r0_3) a0 a5 a6 := by
  unfold k0_pay11
  have h1 : View.ld (Val := Elt Ideal) (e' := .fp8e4m3) a1 r0_0 = a1 := View.ld_unit_zero (S := S256x12288) hz1 _ a1
  have h3 : View.ld (Val := Elt Ideal) (e' := .fp8e4m3) a3 r0_2 = a3 := View.ld_unit_zero (S := S7x256x12288) hz3 _ a3
  have h0 : View.ld (Val := Elt Ideal) (e' := .i32) a0 r0_4 = a0 := View.ld_unit_zero (S := S1) hz0 _ a0
  have h5 : View.ld (Val := Elt Ideal) (e' := .fp8e4m3) a5 r0_5 = a5 := View.ld_unit_zero (S := S12288x7168) hz1 _ a5
  have h6 : View.ld (Val := Elt Ideal) (e' := .f32) a6 r0_6 = a6 := View.ld_unit_zero (S := S96x56) hz1 _ a6
  rw [h1, h3, h0, h5, h6]

theorem row_apply (s : Fin 8) (r : Fin 256) (k : Fin 12288) (R : Fin 2048) (hR : R.val = 256 * s.val + r.val) :
    rowsV devV (rankV a0) (allV (locV a1 (View.ld a2 r0_1))) (befV (othV a3 (View.ld a4 r0_3))) (aftV (othV a3 (View.ld a4 r0_3))) (ix2 R k) = UpSpec.row a0 a1 a2 a3 a4 s r k := by
  have hs : (⟨R.val / 256, by omega⟩ : Fin 8) = s := Fin.ext (by dsimp only; omega)
  have hr : (⟨R.val % 256, by omega⟩ : Fin 256) = r := Fin.ext (by dsimp only; omega)
  rw [rowsV_apply, hs, hr, devV_apply, rankV_apply, allV_apply, befV_apply, aftV_apply, locV_apply, othV_apply, othV_apply, ldr, ldo, ldo, sel_eq, sel_slt]
  unfold UpSpec.row UpSpec.src
  by_cases h : (BitVec.ofNat 32 s.val).slt (a0 (ix1 0)) = true
  · simp only [if_pos h]
  · simp only [if_neg h]

theorem prod_apply (s : Fin 8) (r : Fin 256) (C : Fin 7168) (R : Fin 2048) (hR : R.val = 256 * s.val + r.val) :
    k0_pay11 (F := Ideal) a0 a1 a2 a3 a4 a5 a6 (ix2 R C) = UpSpec.prod a0 a1 a2 a3 a4 a5 a6 s r C := by
  rw [pay11_eq, pay1_eq, prodV_apply]
  unfold UpSpec.prod
  refine Finset.sum_congr rfl fun k _ => ?_
  rw [wV_apply, row_apply a0 a1 a2 a3 a4 s r k R hR]

theorem hval_apply (s : Fin 8) (r : Fin 256) (C : Fin 3584) (R : Fin 2048) (hR : R.val = 256 * s.val + r.val) :
    k0_pay2 (F := Ideal) (k0_pay11 a0 a1 a2 a3 a4 a5 a6) (ix2 R C) = UpSpec.hval a0 a1 a2 a3 a4 a5 a6 s r C := by
  rw [pay2_apply, prod_apply a0 a1 a2 a3 a4 a5 a6 s r _ R hR, prod_apply a0 a1 a2 a3 a4 a5 a6 s r _ R hR]
  rfl

theorem rowScale_apply (s : Fin 8) (r : Fin 256) (l : Fin 28) (R : Fin 2048) (hR : R.val = 256 * s.val + r.val) :
    k0_pay4 (F := Ideal) (k0_pay11 a0 a1 a2 a3 a4 a5 a6) (ix2 R l) = UpSpec.rowScale a0 a1 a2 a3 a4 a5 a6 s r l := by
  rw [pay4_eq, scR_apply]
  unfold UpSpec.rowScale
  refine congrArg Quant8.scale (congrArg Quant8.mag (funext fun x => ?_))
  rw [pay3_apply, hval_apply a0 a1 a2 a3 a4 a5 a6 s r _ R hR]

theorem colScale_apply (s : Fin 8) (b : Fin 2) (C : Fin 3584) (g : Fin 16) (hg : g.val = 2 * s.val + b.val) :
    k0_pay8 (F := Ideal) (k0_pay2 (k0_pay11 a0 a1 a2 a3 a4 a5 a6)) (ix2 g C) = UpSpec.colScale a0 a1 a2 a3 a4 a5 a6 s b C := by
  rw [pay8_eq, scC_apply]
  unfold UpSpec.colScale
  refine congrArg Quant8.scale (congrArg Quant8.mag (funext fun x => ?_))
  rw [pay7_apply, hval_apply a0 a1 a2 a3 a4 a5 a6 s ⟨128 * b.val + x.val, by omega⟩ _ _ (by dsimp only; omega)]

theorem rowCodes_eq : Value.G7 (F := Ideal) a0 a1 a2 a3 a4 a5 a6 = UpSpec.rowCodes a0 a1 a2 a3 a4 a5 a6 := by
  funext y
  idx_vars y
  unfold Value.G7
  rw [pay5_eq, codR_apply, pay3_apply, hval_apply a0 a1 a2 a3 a4 a5 a6 y0 y1 _ _ rfl, rowScale_apply a0 a1 a2 a3 a4 a5 a6 y0 y1 _ _ rfl]
  unfold UpSpec.rowCodes
  congr 2
  apply Fin.ext
  show 128 * (y2.val / 128) + y2.val % 128 = y2.val
  omega

theorem rowScales_eq : Value.G8 (F := Ideal) a0 a1 a2 a3 a4 a5 a6 = UpSpec.rowScales a0 a1 a2 a3 a4 a5 a6 := by
  funext y
  idx_vars y
  unfold Value.G8
  rw [pay6_eq, lanR_apply]
  unfold UpSpec.rowScales
  by_cases h : y2.val < 28
  · rw [dif_pos h, rowScale_apply a0 a1 a2 a3 a4 a5 a6 y0 y1 _ _ rfl, dif_pos (show ((ix3 y0 y1 y2 : S8x256x128.Idx) 2).val < 28 from h)]; rfl
  · rw [dif_neg h, dif_neg (show ¬((ix3 y0 y1 y2 : S8x256x128.Idx) 2).val < 28 from h)]
    show (((0#32 : BitVec 32).toInt : ℝ) : EReal) = 0
    simp

theorem colCodes_eq : Value.G9 (F := Ideal) a0 a1 a2 a3 a4 a5 a6 = UpSpec.colCodes a0 a1 a2 a3 a4 a5 a6 := by
  funext y
  idx_vars y
  unfold Value.G9 k0_pay12
  rw [pay9_eq, codC_apply, pay7_apply, hval_apply a0 a1 a2 a3 a4 a5 a6 y0 y1 _ _ (by dsimp only; omega), colScale_apply a0 a1 a2 a3 a4 a5 a6 y0 ⟨y1.val / 128, by omega⟩ _ _ rfl]
  rfl

theorem colScales_eq : Value.G10 (F := Ideal) a0 a1 a2 a3 a4 a5 a6 = UpSpec.colScales a0 a1 a2 a3 a4 a5 a6 := by
  funext y
  idx_vars y
  unfold Value.G10 k0_pay12
  rw [pay10_eq, cast16, colScale_apply a0 a1 a2 a3 a4 a5 a6 y0 y1 _ _ rfl]
  rfl

end Cert.UpReferenceIdeal.Read

end
-- ==== Proof.UpFrame.lean ====
/-
  The frame certificate of one program: what its outputs hold after each grid point, the body's obligation and the
  run. It is the generated module of that name with the contents of each case named first, so that reading the
  recursion at a point compares names and not the contents written out.
-/
module

public import proofs.«01_k».proof.Proof.Gen.Up.Frame.RunC
public import Idealize.ShloMosaic.Lib.Claim

@[expose] public section

-- membership in a rectangle of production extents (`View.cover_of_tiled`): the elaborator's structural look
-- recurses once per coordinate of the long axes
set_option maxRecDepth 16384

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 8 tile its block (2 stores of `S1x256x128`, checked by the kernel's evaluation: Lib/Ring.lean `Piece.tiledL`, linear in the pieces, through a loop's `@[irreducible]` trip theorem too), so they cover it. -/
theorem cover0_A_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1 S1x256x128.size (by sl_kernel_rfl) y

/-- What case A leaves in output 8's staging buffer: its pieces read back over junk. -/
def out0_A_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_8.read (Elt F) (VO0_8.writes (Elt F) VO0_8.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1)

/-- Case A's pieces for output 9 tile its block (3 stores of `S1x256x128`, checked by the kernel's evaluation: Lib/Ring.lean `Piece.tiledL`, linear in the pieces, through a loop's `@[irreducible]` trip theorem too), so they cover it. -/
theorem cover0_A_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x256x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1 S1x256x128.size (by sl_kernel_rfl) y

/-- What case A leaves in output 9's staging buffer: its pieces read back over junk. -/
def out0_A_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x256x128 .f32 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1)

/-- Case A's pieces for output 10 tile its block (4 stores of `S1x128x128`, checked by the kernel's evaluation: Lib/Ring.lean `Piece.tiledL`, linear in the pieces, through a loop's `@[irreducible]` trip theorem too), so they cover it. -/
theorem cover0_A_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1 S1x128x128.size (by sl_kernel_rfl) y

/-- What case A leaves in output 10's staging buffer: its pieces read back over junk. -/
def out0_A_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_10.read (Elt F) (VO0_10.writes (Elt F) VO0_10.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1)

/-- Case A's pieces for output 11 tile its block (4 stores of `S1x1x128`, checked by the kernel's evaluation: Lib/Ring.lean `Piece.tiledL`, linear in the pieces, through a loop's `@[irreducible]` trip theorem too), so they cover it. -/
theorem cover0_A_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x2x256.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1 S1x1x128.size (by sl_kernel_rfl) y

/-- What case A leaves in output 11's staging buffer: its pieces read back over junk. -/
def out0_A_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x2x256 .f32 :=
  VO0_11.read (Elt F) (VO0_11.writes (Elt F) VO0_11.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1)

/-- Case A's pieces for scratch `arg16`, which the kernel carries between points, cover it: 96 pieces of `S256x128` tiling it (Lib/Ring.lean `Piece.tiledL`). -/
theorem scover0_A_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S256x12288.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1 S256x128.size (by sl_kernel_rfl) y

/-- What case A leaves in scratch `arg16`: its pieces read back over junk. -/
def sout0_A_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S256x12288 .bf16 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1)

/-- Case B's pieces for output 8 tile its block (2 stores of `S1x256x128`, checked by the kernel's evaluation: Lib/Ring.lean `Piece.tiledL`, linear in the pieces, through a loop's `@[irreducible]` trip theorem too), so they cover it. -/
theorem cover0_B_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1 S1x256x128.size (by sl_kernel_rfl) y

/-- What case B leaves in output 8's staging buffer: its pieces read back over junk. -/
def out0_B_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_8.read (Elt F) (VO0_8.writes (Elt F) VO0_8.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1)

/-- Case B's pieces for output 9 tile its block (3 stores of `S1x256x128`, checked by the kernel's evaluation: Lib/Ring.lean `Piece.tiledL`, linear in the pieces, through a loop's `@[irreducible]` trip theorem too), so they cover it. -/
theorem cover0_B_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x256x128.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1 S1x256x128.size (by sl_kernel_rfl) y

/-- What case B leaves in output 9's staging buffer: its pieces read back over junk. -/
def out0_B_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x256x128 .f32 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1)

/-- Case B's pieces for output 10 tile its block (4 stores of `S1x128x128`, checked by the kernel's evaluation: Lib/Ring.lean `Piece.tiledL`, linear in the pieces, through a loop's `@[irreducible]` trip theorem too), so they cover it. -/
theorem cover0_B_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1 S1x128x128.size (by sl_kernel_rfl) y

/-- What case B leaves in output 10's staging buffer: its pieces read back over junk. -/
def out0_B_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_10.read (Elt F) (VO0_10.writes (Elt F) VO0_10.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1)

/-- Case B's pieces for output 11 tile its block (4 stores of `S1x1x128`, checked by the kernel's evaluation: Lib/Ring.lean `Piece.tiledL`, linear in the pieces, through a loop's `@[irreducible]` trip theorem too), so they cover it. -/
theorem cover0_B_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x2x256.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1 S1x1x128.size (by sl_kernel_rfl) y

/-- What case B leaves in output 11's staging buffer: its pieces read back over junk. -/
def out0_B_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x2x256 .f32 :=
  VO0_11.read (Elt F) (VO0_11.writes (Elt F) VO0_11.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1)

/-- Case B's pieces for scratch `arg16`, which the kernel carries between points, cover it: 96 pieces of `S256x128` tiling it (Lib/Ring.lean `Piece.tiledL`). -/
theorem scover0_B_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S256x12288.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1 S256x128.size (by sl_kernel_rfl) y

/-- What case B leaves in scratch `arg16`: its pieces read back over junk. -/
def sout0_B_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S256x12288 .bf16 :=
  VS0_0.read (Elt F) (VS0_0.writes (Elt F) VS0_0.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1)

/-- Case C's pieces for output 8 tile its block (2 stores of `S1x256x128`, checked by the kernel's evaluation: Lib/Ring.lean `Piece.tiledL`, linear in the pieces, through a loop's `@[irreducible]` trip theorem too), so they cover it. -/
theorem cover0_C_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x256x256.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).1 S1x256x128.size (by sl_kernel_rfl) y

/-- What case C leaves in output 8's staging buffer: its pieces read back over junk. -/
def out0_C_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x256x256 .fp8e4m3 :=
  VO0_8.read (Elt F) (VO0_8.writes (Elt F) VO0_8.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).1)

/-- Case C's pieces for output 9 tile its block (2 stores of `S1x256x128`, checked by the kernel's evaluation: Lib/Ring.lean `Piece.tiledL`, linear in the pieces, through a loop's `@[irreducible]` trip theorem too), so they cover it. -/
theorem cover0_C_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x256x128.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.1 S1x256x128.size (by sl_kernel_rfl) y

/-- What case C leaves in output 9's staging buffer: its pieces read back over junk. -/
def out0_C_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x256x128 .f32 :=
  VO0_9.read (Elt F) (VO0_9.writes (Elt F) VO0_9.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.1)

/-- Case C's pieces for output 10 tile its block (4 stores of `S1x128x128`, checked by the kernel's evaluation: Lib/Ring.lean `Piece.tiledL`, linear in the pieces, through a loop's `@[irreducible]` trip theorem too), so they cover it. -/
theorem cover0_C_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x256x256.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.1 S1x128x128.size (by sl_kernel_rfl) y

/-- What case C leaves in output 10's staging buffer: its pieces read back over junk. -/
def out0_C_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x256x256 .fp8e4m3 :=
  VO0_10.read (Elt F) (VO0_10.writes (Elt F) VO0_10.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.1)

/-- Case C's pieces for output 11 tile its block (4 stores of `S1x1x128`, checked by the kernel's evaluation: Lib/Ring.lean `Piece.tiledL`, linear in the pieces, through a loop's `@[irreducible]` trip theorem too), so they cover it. -/
theorem cover0_C_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x2x256.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.2.1 S1x1x128.size (by sl_kernel_rfl) y

/-- What case C leaves in output 11's staging buffer: its pieces read back over junk. -/
def out0_C_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x2x256 .f32 :=
  VO0_11.read (Elt F) (VO0_11.writes (Elt F) VO0_11.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.2.1)

/-- Case C stores nothing into scratch `arg16`: it holds what the point before left. -/
def sout0_C_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S256x12288 .bf16 := xs0

/-! ## What the outputs hold after each point -/

/-- What a point of case A leaves. -/
def leaveA (hO : Ok m) (c : Dev nD) (t : Fin (cfgM m hO).N) (h0 : t.val % 14 = 0) (h1 : cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) : Vec F S1x256x256 .fp8e4m3 × Vec F S1x256x128 .f32 × Vec F S1x256x256 .fp8e4m3 × Vec F S1x2x256 .f32 × Vec F S256x12288 .bf16 :=
  (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1)

/-- What a point of case B leaves. -/
def leaveB (hO : Ok m) (c : Dev nD) (t : Fin (cfgM m hO).N) (h0 : t.val % 14 = 0) (h1 : ¬cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) : Vec F S1x256x256 .fp8e4m3 × Vec F S1x256x128 .f32 × Vec F S1x256x256 .fp8e4m3 × Vec F S1x2x256 .f32 × Vec F S256x12288 .bf16 :=
  (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1)

/-- What a point of case C leaves. -/
def leaveC (hO : Ok m) (c : Dev nD) (t : Fin (cfgM m hO).N) (h0 : ¬t.val % 14 = 0) (h2 : ¬t.val % 14 = 0) (xo9 : Vec F S1x256x128 .f32) (xs0 : Vec F S256x12288 .bf16) : Vec F S1x256x256 .fp8e4m3 × Vec F S1x256x128 .f32 × Vec F S1x256x256 .fp8e4m3 × Vec F S1x2x256 .f32 × Vec F S256x12288 .bf16 :=
  (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, out0_C_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0)

/-- What the outputs' staging buffers and the scratch the kernel carries between points hold after the body at position `n`. -/
def outsAt0 (hO : Ok m) (c : Dev nD) : (n : ℕ) → n < (cfgM m hO).N → Vec F S1x256x256 .fp8e4m3 × Vec F S1x256x128 .f32 × Vec F S1x256x256 .fp8e4m3 × Vec F S1x2x256 .f32 × Vec F S256x12288 .bf16
  | 0, hn => if h1 : cond0_1 (grid0.coords ⟨0, hn⟩) (tbM0_0.view.readAt (Elt F) (Rect.unit (s := S1) ![0] S1.size inb_S1_S1_0).toLoadRect (tbl m 0) (Shape.Idx.first (numel1_S1.symm ▸ Nat.one_pos))) then leaveA m hO c ⟨0, hn⟩ (Nat.zero_mod _) h1 (Nat.zero_mod _)
    else leaveB m hO c ⟨0, hn⟩ (Nat.zero_mod _) h1 (Nat.zero_mod _)
  | n + 1, hn =>
    if h0 : (n + 1) % 14 = 0 then
      if h1 : cond0_1 (grid0.coords ⟨n + 1, hn⟩) (tbM0_0.view.readAt (Elt F) (Rect.unit (s := S1) ![0] S1.size inb_S1_S1_0).toLoadRect (tbl m 0) (Shape.Idx.first (numel1_S1.symm ▸ Nat.one_pos))) then leaveA m hO c ⟨n + 1, hn⟩ h0 h1 h0
      else leaveB m hO c ⟨n + 1, hn⟩ h0 h1 h0
    else leaveC m hO c ⟨n + 1, hn⟩ h0 h0 (outsAt0 hO c n (Nat.lt_of_succ_lt hn)).2.1 (outsAt0 hO c n (Nat.lt_of_succ_lt hn)).2.2.2.2

theorem outsAt0_zero (hO : Ok m) (c : Dev nD) (hn : 0 < (cfgM m hO).N) : outsAt0 m hO c 0 hn =
    if h1 : cond0_1 (grid0.coords ⟨0, hn⟩) (tbM0_0.view.readAt (Elt F) (Rect.unit (s := S1) ![0] S1.size inb_S1_S1_0).toLoadRect (tbl m 0) (Shape.Idx.first (numel1_S1.symm ▸ Nat.one_pos))) then leaveA m hO c ⟨0, hn⟩ (Nat.zero_mod _) h1 (Nat.zero_mod _)
    else leaveB m hO c ⟨0, hn⟩ (Nat.zero_mod _) h1 (Nat.zero_mod _) := rfl

theorem outsAt0_succ (hO : Ok m) (c : Dev nD) (n : ℕ) (hn : n + 1 < (cfgM m hO).N) : outsAt0 m hO c (n + 1) hn =
    if h0 : (n + 1) % 14 = 0 then
      if h1 : cond0_1 (grid0.coords ⟨n + 1, hn⟩) (tbM0_0.view.readAt (Elt F) (Rect.unit (s := S1) ![0] S1.size inb_S1_S1_0).toLoadRect (tbl m 0) (Shape.Idx.first (numel1_S1.symm ▸ Nat.one_pos))) then leaveA m hO c ⟨n + 1, hn⟩ h0 h1 h0
      else leaveB m hO c ⟨n + 1, hn⟩ h0 h1 h0
    else leaveC m hO c ⟨n + 1, hn⟩ h0 h0 (outsAt0 m hO c n (Nat.lt_of_succ_lt hn)).2.1 (outsAt0 m hO c n (Nat.lt_of_succ_lt hn)).2.2.2.2 := rfl

/-- `outsAt0` at a point of case A: that case's contents. -/
theorem outsAt0_A (hO : Ok m) (c : Dev nD) (t : Fin (cfgM m hO).N) (h0 : t.val % 14 = 0) (h1 : cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) :
    outsAt0 m hO c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1) := by
  refine Eq.trans (b := leaveA m hO c t h0 h1 h2) ?_ rfl
  obtain ⟨n, hn⟩ := t
  cases n with
  | zero => exact (outsAt0_zero m hO c hn).trans (dif_pos h1)
  | succ n => exact (outsAt0_succ m hO c n hn).trans ((dif_pos h0).trans (dif_pos h1))

/-- `outsAt0` at a point of case B: that case's contents. -/
theorem outsAt0_B (hO : Ok m) (c : Dev nD) (t : Fin (cfgM m hO).N) (h0 : t.val % 14 = 0) (h1 : ¬cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) :
    outsAt0 m hO c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1) := by
  refine Eq.trans (b := leaveB m hO c t h0 h1 h2) ?_ rfl
  obtain ⟨n, hn⟩ := t
  cases n with
  | zero => exact (outsAt0_zero m hO c hn).trans (dif_neg h1)
  | succ n => exact (outsAt0_succ m hO c n hn).trans ((dif_pos h0).trans (dif_neg h1))

/-- `outsAt0` at a point of case C: that case's contents, over what the point before left. -/
theorem outsAt0_C (hO : Ok m) (c : Dev nD) (t : Fin (cfgM m hO).N) (h0 : ¬t.val % 14 = 0) (h2 : ¬t.val % 14 = 0) :
    outsAt0 m hO c t.val t.isLt = (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, out0_C_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2) := by
  refine Eq.trans (b := leaveC m hO c t h0 h2 (outsAt0 m hO c (t.val - 1) (Nat.lt_of_le_of_lt (Nat.sub_le _ _) t.isLt)).2.1 (outsAt0 m hO c (t.val - 1) (Nat.lt_of_le_of_lt (Nat.sub_le _ _) t.isLt)).2.2.2.2) ?_ rfl
  obtain ⟨n, hn⟩ := t
  cases n with
  | zero => exact absurd (Nat.zero_mod _) h0
  | succ n => exact (outsAt0_succ m hO c n hn).trans (dif_neg h0)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.2.2.2) ∗ (∃ d, owns (c : Thread nD τ) scM0_1 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
    | ⟨9, _⟩ => (outsAt0 m hO c t.val t.isLt).2.1
    | ⟨10, _⟩ => (outsAt0 m hO c t.val t.isLt).2.2.1
    | ⟨11, _⟩ => (outsAt0 m hO c t.val t.isLt).2.2.2.1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt).1 := by dsimp only [dats]; try rfl
theorem after0_9 (hO : Ok m) (c : Dev nD) (t : Fin (cfgM m hO).N) : (dats m hO 0 c).after 9 t = (outsAt0 m hO c t.val t.isLt).2.1 := by dsimp only [dats]; try rfl
theorem after0_10 (hO : Ok m) (c : Dev nD) (t : Fin (cfgM m hO).N) : (dats m hO 0 c).after 10 t = (outsAt0 m hO c t.val t.isLt).2.2.1 := by dsimp only [dats]; try rfl
theorem after0_11 (hO : Ok m) (c : Dev nD) (t : Fin (cfgM m hO).N) : (dats m hO 0 c).after 11 t = (outsAt0 m hO c t.val t.isLt).2.2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- At a point of case C output 9's current staging buffer holds what the body left at the point before: the point is
    not the first, the buffer was not written back between (`flush0_9`), the window is live and uncut (Lib/Pipeline/Frame.lean
    `Dat.before_out_kept`). -/
theorem before0_9_C (hO : Ok m) (c : Dev nD) (t : Fin (cfgM m hO).N) (h0 : ¬t.val % 14 = 0) (h2 : ¬t.val % 14 = 0) (d) :
    (dats m hO 0 c).before 9 t d = (outsAt0 m hO c (t.val - 1) (Nat.lt_of_le_of_lt (Nat.sub_le _ _) t.isLt)).2.1 := by
  have hN : t.val < 112 := lt_of_lt_of_eq t.isLt (show (cfgM m hO).N = 112 from N_0)
  rw [Dat.before_out_kept _ 9 rfl t (by omega) (Bool.eq_false_iff.mpr fun h => by have := (flush0_9 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.succ = PhiS m hO c (t.val + 1) t.isLt from rfl, PhiS_succ, PhiT0_eq]
  have hN : t.val < 112 := lt_of_lt_of_eq t.isLt (show (cfgM m hO).N = 112 from N_0)
  by_cases h0 : t.val % 14 = 0
  · by_cases h1 : cond0_1 (grid0.coords t) (tbM0_0.view.readAt (Elt F) (Rect.unit (s := S1) ![0] S1.size inb_S1_S1_0).toLoadRect (tbl m 0) (Shape.Idx.first (numel1_S1.symm ▸ Nat.one_pos)))
    · by_cases h2 : t.val % 14 = 0
      · by_cases hz : t.val = 0
        · rw [PhiS_castSucc m hO c t, PhiS_zero m hO c _ _ hz, PhiT0_eq, PhiA0_eq]
          rw [outsAt0_A m hO c t h0 h1 h2]
          unfold out0_A_8 out0_A_9 out0_A_10 out0_A_11 sout0_A_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        · rw [PhiS_castSucc m hO c t, PhiS_pos m hO c _ _ hz, PhiT0_eq]
          rw [outsAt0_A m hO c t h0 h1 h2]
          unfold out0_A_8 out0_A_9 out0_A_10 out0_A_11 sout0_A_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexists _; iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
      · exfalso; omega
    · by_cases h2 : t.val % 14 = 0
      · by_cases hz : t.val = 0
        · rw [PhiS_castSucc m hO c t, PhiS_zero m hO c _ _ hz, PhiT0_eq, PhiA0_eq]
          rw [outsAt0_B m hO c t h0 h1 h2]
          unfold out0_B_8 out0_B_9 out0_B_10 out0_B_11 sout0_B_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _)
        · rw [PhiS_castSucc m hO c t, PhiS_pos m hO c _ _ hz, PhiT0_eq]
          rw [outsAt0_B m hO c t h0 h1 h2]
          unfold out0_B_8 out0_B_9 out0_B_10 out0_B_11 sout0_B_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexists _; iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _)
      · exfalso; omega
  · by_cases h2 : t.val % 14 = 0
    · exfalso; omega
    · by_cases hz : t.val = 0
      · exfalso; have hN : t.val < 112 := lt_of_lt_of_eq t.isLt (show (cfgM m hO).N = 112 from N_0); omega
      · rw [PhiS_castSucc m hO c t, PhiS_pos m hO c _ _ hz, PhiT0_eq]
        rw [outsAt0_C m hO c t h0 h2]
        simp only [before0_9_C m hO c t h0 h2]
        unfold out0_C_8 out0_C_9 out0_C_10 out0_C_11 sout0_C_0; (try dsimp only)
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexists _; iexact H10
        isplitl [H11]; · iexists _; iexact H11
        isplitl [HS0]; · iexact HS0
        isplitl [HS1]; · iexact HS1
        isplitl [HT0]; · iexact HT0
        isplitl [HT1]; · iexact HT1
        iintro ⟨H0, H1, H2, H3, H4, H5, H6, H7, ⟨%e8, H8⟩, ⟨%e9, H9⟩, ⟨%e10, H10⟩, ⟨%e11, H11⟩, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 112 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_Up`'s statement (Defs.lean) at any `F` — Proof.lean cites it at `Bits`:
    `theorem Cert.Proof.claim : Cert.Claim := ⟨Cert.Up.Gen.facts, fun m ρ _ => Cert.Up.Gen.frame m ρ⟩`; here for every contents of the PREFETCHED TABLES, UNDER `Gen.Ok m` (the pipeline's side condition of
    them), which Proof.lean proves from the precondition: `⟨…, fun m ρ h => Cert.Up.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Up.Gen

end
-- ==== Proof.UpIdealFrame.lean ====
/-
  The frame certificate of one program: what its outputs hold after each grid point, the body's obligation and the
  run. It is the generated module of that name with the contents of each case named first, so that reading the
  recursion at a point compares names and not the contents written out.
-/
module

public import proofs.«01_k».proof.Proof.Gen.UpIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 8 tile its block (2 stores of `S1x256x128`, checked by the kernel's evaluation: Lib/Ring.lean `Piece.tiledL`, linear in the pieces, through a loop's `@[irreducible]` trip theorem too), so they cover it. -/
theorem cover0_A_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1 S1x256x128.size (by sl_kernel_rfl) y

/-- What case A leaves in output 8's staging buffer: its pieces read back over junk. -/
def out0_A_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_8.read (Elt F) (VO0_8.writes (Elt F) VO0_8.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1)

/-- Case A's pieces for output 9 tile its block (3 stores of `S1x256x128`, checked by the kernel's evaluation: Lib/Ring.lean `Piece.tiledL`, linear in the pieces, through a loop's `@[irreducible]` trip theorem too), so they cover it. -/
theorem cover0_A_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x256x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1 S1x256x128.size (by sl_kernel_rfl) y

/-- What case A leaves in output 9's staging buffer: its pieces read back over junk. -/
def out0_A_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x256x128 .f32 :=
  VO0_9.read (Elt F) (VO0_9.writes (Elt F) VO0_9.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1)

/-- Case A's pieces for output 10 tile its block (4 stores of `S1x128x128`, checked by the kernel's evaluation: Lib/Ring.lean `Piece.tiledL`, linear in the pieces, through a loop's `@[irreducible]` trip theorem too), so they cover it. -/
theorem cover0_A_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1 S1x128x128.size (by sl_kernel_rfl) y

/-- What case A leaves in output 10's staging buffer: its pieces read back over junk. -/
def out0_A_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_10.read (Elt F) (VO0_10.writes (Elt F) VO0_10.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1)

/-- Case A's pieces for output 11 tile its block (4 stores of `S1x1x128`, checked by the kernel's evaluation: Lib/Ring.lean `Piece.tiledL`, linear in the pieces, through a loop's `@[irreducible]` trip theorem too), so they cover it. -/
theorem cover0_A_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S1x2x256.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1 S1x1x128.size (by sl_kernel_rfl) y

/-- What case A leaves in output 11's staging buffer: its pieces read back over junk. -/
def out0_A_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S1x2x256 .f32 :=
  VO0_11.read (Elt F) (VO0_11.writes (Elt F) VO0_11.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1)

/-- Case A's pieces for scratch `arg16`, which the kernel carries between points, cover it: 96 pieces of `S256x128` tiling it (Lib/Ring.lean `Piece.tiledL`). -/
theorem scover0_A_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) (y : S256x12288.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1 S256x128.size (by sl_kernel_rfl) y

/-- What case A leaves in scratch `arg16`: its pieces read back over junk. -/
def sout0_A_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : cond0_1 i (tbM0_0.view.readAt (Elt F) (Rect.unit (s := S1) ![0] S1.size inb_S1_S1_0).toLoadRect xt0 (Shape.Idx.first (numel1_S1.symm ▸ Nat.one_pos)))) : Vec F S256x12288 .bf16 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1)

/-- Case B's pieces for output 8 tile its block (2 stores of `S1x256x128`, checked by the kernel's evaluation: Lib/Ring.lean `Piece.tiledL`, linear in the pieces, through a loop's `@[irreducible]` trip theorem too), so they cover it. -/
theorem cover0_B_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1 S1x256x128.size (by sl_kernel_rfl) y

/-- What case B leaves in output 8's staging buffer: its pieces read back over junk. -/
def out0_B_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_8.read (Elt F) (VO0_8.writes (Elt F) VO0_8.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).1)

/-- Case B's pieces for output 9 tile its block (3 stores of `S1x256x128`, checked by the kernel's evaluation: Lib/Ring.lean `Piece.tiledL`, linear in the pieces, through a loop's `@[irreducible]` trip theorem too), so they cover it. -/
theorem cover0_B_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x256x128.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1 S1x256x128.size (by sl_kernel_rfl) y

/-- What case B leaves in output 9's staging buffer: its pieces read back over junk. -/
def out0_B_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x256x128 .f32 :=
  VO0_9.read (Elt F) (VO0_9.writes (Elt F) VO0_9.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.1)

/-- Case B's pieces for output 10 tile its block (4 stores of `S1x128x128`, checked by the kernel's evaluation: Lib/Ring.lean `Piece.tiledL`, linear in the pieces, through a loop's `@[irreducible]` trip theorem too), so they cover it. -/
theorem cover0_B_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x256x256.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1 S1x128x128.size (by sl_kernel_rfl) y

/-- What case B leaves in output 10's staging buffer: its pieces read back over junk. -/
def out0_B_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x256x256 .fp8e4m3 :=
  VO0_10.read (Elt F) (VO0_10.writes (Elt F) VO0_10.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.1)

/-- Case B's pieces for output 11 tile its block (4 stores of `S1x1x128`, checked by the kernel's evaluation: Lib/Ring.lean `Piece.tiledL`, linear in the pieces, through a loop's `@[irreducible]` trip theorem too), so they cover it. -/
theorem cover0_B_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S1x2x256.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1 S1x1x128.size (by sl_kernel_rfl) y

/-- What case B leaves in output 11's staging buffer: its pieces read back over junk. -/
def out0_B_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S1x2x256 .f32 :=
  VO0_11.read (Elt F) (VO0_11.writes (Elt F) VO0_11.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.1)

/-- Case B's pieces for scratch `arg16`, which the kernel carries between points, cover it: 96 pieces of `S256x128` tiling it (Lib/Ring.lean `Piece.tiledL`). -/
theorem scover0_B_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) (y : S256x12288.Idx) :
    ∃ pc ∈ (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1, y ∈ pc.1.set :=
  View.cover_of_tiledL (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1 S256x128.size (by sl_kernel_rfl) y

/-- What case B leaves in scratch `arg16`: its pieces read back over junk. -/
def sout0_B_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (hc1 : ¬cond0_1 i (tbM0_0.view.readAt (Elt F) (Rect.unit (s := S1) ![0] S1.size inb_S1_S1_0).toLoadRect xt0 (Shape.Idx.first (numel1_S1.symm ▸ Nat.one_pos)))) : Vec F S256x12288 .bf16 :=
  VS0_0.read (Elt F) (VS0_0.writes (Elt F) VS0_0.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1).2.2.2.2.1)

/-- Case C's pieces for output 8 tile its block (2 stores of `S1x256x128`, checked by the kernel's evaluation: Lib/Ring.lean `Piece.tiledL`, linear in the pieces, through a loop's `@[irreducible]` trip theorem too), so they cover it. -/
theorem cover0_C_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x256x256.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).1 S1x256x128.size (by sl_kernel_rfl) y

/-- What case C leaves in output 8's staging buffer: its pieces read back over junk. -/
def out0_C_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x256x256 .fp8e4m3 :=
  VO0_8.read (Elt F) (VO0_8.writes (Elt F) VO0_8.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).1)

/-- Case C's pieces for output 9 tile its block (2 stores of `S1x256x128`, checked by the kernel's evaluation: Lib/Ring.lean `Piece.tiledL`, linear in the pieces, through a loop's `@[irreducible]` trip theorem too), so they cover it. -/
theorem cover0_C_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x256x128.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.1 S1x256x128.size (by sl_kernel_rfl) y

/-- What case C leaves in output 9's staging buffer: its pieces read back over junk. -/
def out0_C_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x256x128 .f32 :=
  VO0_9.read (Elt F) (VO0_9.writes (Elt F) VO0_9.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.1)

/-- Case C's pieces for output 10 tile its block (4 stores of `S1x128x128`, checked by the kernel's evaluation: Lib/Ring.lean `Piece.tiledL`, linear in the pieces, through a loop's `@[irreducible]` trip theorem too), so they cover it. -/
theorem cover0_C_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x256x256.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.1 S1x128x128.size (by sl_kernel_rfl) y

/-- What case C leaves in output 10's staging buffer: its pieces read back over junk. -/
def out0_C_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x256x256 .fp8e4m3 :=
  VO0_10.read (Elt F) (VO0_10.writes (Elt F) VO0_10.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.1)

/-- Case C's pieces for output 11 tile its block (4 stores of `S1x1x128`, checked by the kernel's evaluation: Lib/Ring.lean `Piece.tiledL`, linear in the pieces, through a loop's `@[irreducible]` trip theorem too), so they cover it. -/
theorem cover0_C_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) (y : S1x2x256.Idx) :
    ∃ pc ∈ (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.2.1, y ∈ pc.1.set :=
  View.cover_of_tiledL (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.2.1 S1x1x128.size (by sl_kernel_rfl) y

/-- What case C leaves in output 11's staging buffer: its pieces read back over junk. -/
def out0_C_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S1x2x256 .f32 :=
  VO0_11.read (Elt F) (VO0_11.writes (Elt F) VO0_11.junk (kernelRun0_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0).2.2.2.1)

/-- Case C stores nothing into scratch `arg16`: it holds what the point before left. -/
def sout0_C_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec F S256x12288 .fp8e4m3) (x1 : Vec F S256x128 .f32) (x2 : Vec F S1x256x12288 .fp8e4m3) (x3 : Vec F S1x256x128 .f32) (x4 : Vec F S12288x256 .fp8e4m3) (x5 : Vec F S12288x256 .fp8e4m3) (x6 : Vec F S96x28 .f32) (x7 : Vec F S96x28 .f32) (xt0 : TbBuf0 (F := F) c tbM0_0) (xt1 : TbBuf0 (F := F) c tbM0_1) (xo9 : Vec F S1x256x128 .f32) (xs0 : Vec F S256x12288 .bf16) : Vec F S256x12288 .bf16 := xs0

/-! ## What the outputs hold after each point -/

/-- What a point of case A leaves. -/
def leaveA (hO : Ok m) (c : Dev nD) (t : Fin (cfgM m hO).N) (h0 : t.val % 14 = 0) (h1 : cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) : Vec F S1x256x256 .fp8e4m3 × Vec F S1x256x128 .f32 × Vec F S1x256x256 .fp8e4m3 × Vec F S1x2x256 .f32 × Vec F S256x12288 .bf16 :=
  (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1)

/-- What a point of case B leaves. -/
def leaveB (hO : Ok m) (c : Dev nD) (t : Fin (cfgM m hO).N) (h0 : t.val % 14 = 0) (h1 : ¬cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) : Vec F S1x256x256 .fp8e4m3 × Vec F S1x256x128 .f32 × Vec F S1x256x256 .fp8e4m3 × Vec F S1x2x256 .f32 × Vec F S256x12288 .bf16 :=
  (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1)

/-- What a point of case C leaves. -/
def leaveC (hO : Ok m) (c : Dev nD) (t : Fin (cfgM m hO).N) (h0 : ¬t.val % 14 = 0) (h2 : ¬t.val % 14 = 0) (xo9 : Vec F S1x256x128 .f32) (xs0 : Vec F S256x12288 .bf16) : Vec F S1x256x256 .fp8e4m3 × Vec F S1x256x128 .f32 × Vec F S1x256x256 .fp8e4m3 × Vec F S1x2x256 .f32 × Vec F S256x12288 .bf16 :=
  (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, out0_C_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) xo9 xs0)

/-- What the outputs' staging buffers and the scratch the kernel carries between points hold after the body at position `n`. -/
def outsAt0 (hO : Ok m) (c : Dev nD) : (n : ℕ) → n < (cfgM m hO).N → Vec F S1x256x256 .fp8e4m3 × Vec F S1x256x128 .f32 × Vec F S1x256x256 .fp8e4m3 × Vec F S1x2x256 .f32 × Vec F S256x12288 .bf16
  | 0, hn => if h1 : cond0_1 (grid0.coords ⟨0, hn⟩) (tbM0_0.view.readAt (Elt F) (Rect.unit (s := S1) ![0] S1.size inb_S1_S1_0).toLoadRect (tbl m 0) (Shape.Idx.first (numel1_S1.symm ▸ Nat.one_pos))) then leaveA m hO c ⟨0, hn⟩ (Nat.zero_mod _) h1 (Nat.zero_mod _)
    else leaveB m hO c ⟨0, hn⟩ (Nat.zero_mod _) h1 (Nat.zero_mod _)
  | n + 1, hn =>
    if h0 : (n + 1) % 14 = 0 then
      if h1 : cond0_1 (grid0.coords ⟨n + 1, hn⟩) (tbM0_0.view.readAt (Elt F) (Rect.unit (s := S1) ![0] S1.size inb_S1_S1_0).toLoadRect (tbl m 0) (Shape.Idx.first (numel1_S1.symm ▸ Nat.one_pos))) then leaveA m hO c ⟨n + 1, hn⟩ h0 h1 h0
      else leaveB m hO c ⟨n + 1, hn⟩ h0 h1 h0
    else leaveC m hO c ⟨n + 1, hn⟩ h0 h0 (outsAt0 hO c n (Nat.lt_of_succ_lt hn)).2.1 (outsAt0 hO c n (Nat.lt_of_succ_lt hn)).2.2.2.2

theorem outsAt0_zero (hO : Ok m) (c : Dev nD) (hn : 0 < (cfgM m hO).N) : outsAt0 m hO c 0 hn =
    if h1 : cond0_1 (grid0.coords ⟨0, hn⟩) (tbM0_0.view.readAt (Elt F) (Rect.unit (s := S1) ![0] S1.size inb_S1_S1_0).toLoadRect (tbl m 0) (Shape.Idx.first (numel1_S1.symm ▸ Nat.one_pos))) then leaveA m hO c ⟨0, hn⟩ (Nat.zero_mod _) h1 (Nat.zero_mod _)
    else leaveB m hO c ⟨0, hn⟩ (Nat.zero_mod _) h1 (Nat.zero_mod _) := rfl

theorem outsAt0_succ (hO : Ok m) (c : Dev nD) (n : ℕ) (hn : n + 1 < (cfgM m hO).N) : outsAt0 m hO c (n + 1) hn =
    if h0 : (n + 1) % 14 = 0 then
      if h1 : cond0_1 (grid0.coords ⟨n + 1, hn⟩) (tbM0_0.view.readAt (Elt F) (Rect.unit (s := S1) ![0] S1.size inb_S1_S1_0).toLoadRect (tbl m 0) (Shape.Idx.first (numel1_S1.symm ▸ Nat.one_pos))) then leaveA m hO c ⟨n + 1, hn⟩ h0 h1 h0
      else leaveB m hO c ⟨n + 1, hn⟩ h0 h1 h0
    else leaveC m hO c ⟨n + 1, hn⟩ h0 h0 (outsAt0 m hO c n (Nat.lt_of_succ_lt hn)).2.1 (outsAt0 m hO c n (Nat.lt_of_succ_lt hn)).2.2.2.2 := rfl

/-- `outsAt0` at a point of case A: that case's contents. -/
theorem outsAt0_A (hO : Ok m) (c : Dev nD) (t : Fin (cfgM m hO).N) (h0 : t.val % 14 = 0) (h1 : cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) :
    outsAt0 m hO c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1) := by
  refine Eq.trans (b := leaveA m hO c t h0 h1 h2) ?_ rfl
  obtain ⟨n, hn⟩ := t
  cases n with
  | zero => exact (outsAt0_zero m hO c hn).trans (dif_pos h1)
  | succ n => exact (outsAt0_succ m hO c n hn).trans ((dif_pos h0).trans (dif_pos h1))

/-- `outsAt0` at a point of case B: that case's contents. -/
theorem outsAt0_B (hO : Ok m) (c : Dev nD) (t : Fin (cfgM m hO).N) (h0 : t.val % 14 = 0) (h1 : ¬cond0_1 (grid0.coords t) (tbM0_0.view.readAt (Elt F) (Rect.unit (s := S1) ![0] S1.size inb_S1_S1_0).toLoadRect (tbl m 0) (Shape.Idx.first (numel1_S1.symm ▸ Nat.one_pos)))) (h2 : t.val % 14 = 0) :
    outsAt0 m hO c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, out0_B_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1) := by
  refine Eq.trans (b := leaveB m hO c t h0 h1 h2) ?_ rfl
  obtain ⟨n, hn⟩ := t
  cases n with
  | zero => exact (outsAt0_zero m hO c hn).trans (dif_neg h1)
  | succ n => exact (outsAt0_succ m hO c n hn).trans ((dif_pos h0).trans (dif_neg h1))

/-- `outsAt0` at a point of case C: that case's contents, over what the point before left. -/
theorem outsAt0_C (hO : Ok m) (c : Dev nD) (t : Fin (cfgM m hO).N) (h0 : ¬t.val % 14 = 0) (h2 : ¬t.val % 14 = 0) :
    outsAt0 m hO c t.val t.isLt = (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, out0_C_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2.2.2) := by
  refine Eq.trans (b := leaveC m hO c t h0 h2 (outsAt0 m hO c (t.val - 1) (Nat.lt_of_le_of_lt (Nat.sub_le _ _) t.isLt)).2.1 (outsAt0 m hO c (t.val - 1) (Nat.lt_of_le_of_lt (Nat.sub_le _ _) t.isLt)).2.2.2.2) ?_ rfl
  obtain ⟨n, hn⟩ := t
  cases n with
  | zero => exact absurd (Nat.zero_mod _) h0
  | succ n => exact (outsAt0_succ m hO c n hn).trans (dif_neg h0)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.2.2.2) ∗ (∃ d, owns (c : Thread nD τ) scM0_1 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
    | ⟨9, _⟩ => (outsAt0 m hO c t.val t.isLt).2.1
    | ⟨10, _⟩ => (outsAt0 m hO c t.val t.isLt).2.2.1
    | ⟨11, _⟩ => (outsAt0 m hO c t.val t.isLt).2.2.2.1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt).1 := by dsimp only [dats]; try rfl
theorem after0_9 (hO : Ok m) (c : Dev nD) (t : Fin (cfgM m hO).N) : (dats m hO 0 c).after 9 t = (outsAt0 m hO c t.val t.isLt).2.1 := by dsimp only [dats]; try rfl
theorem after0_10 (hO : Ok m) (c : Dev nD) (t : Fin (cfgM m hO).N) : (dats m hO 0 c).after 10 t = (outsAt0 m hO c t.val t.isLt).2.2.1 := by dsimp only [dats]; try rfl
theorem after0_11 (hO : Ok m) (c : Dev nD) (t : Fin (cfgM m hO).N) : (dats m hO 0 c).after 11 t = (outsAt0 m hO c t.val t.isLt).2.2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- At a point of case C output 9's current staging buffer holds what the body left at the point before: the point is
    not the first, the buffer was not written back between (`flush0_9`), the window is live and uncut (Lib/Pipeline/Frame.lean
    `Dat.before_out_kept`). -/
theorem before0_9_C (hO : Ok m) (c : Dev nD) (t : Fin (cfgM m hO).N) (h0 : ¬t.val % 14 = 0) (h2 : ¬t.val % 14 = 0) (d) :
    (dats m hO 0 c).before 9 t d = (outsAt0 m hO c (t.val - 1) (Nat.lt_of_le_of_lt (Nat.sub_le _ _) t.isLt)).2.1 := by
  have hN : t.val < 112 := lt_of_lt_of_eq t.isLt (show (cfgM m hO).N = 112 from N_0)
  rw [Dat.before_out_kept _ 9 rfl t (by omega) (Bool.eq_false_iff.mpr fun h => by have := (flush0_9 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.succ = PhiS m hO c (t.val + 1) t.isLt from rfl, PhiS_succ, PhiT0_eq]
  have hN : t.val < 112 := lt_of_lt_of_eq t.isLt (show (cfgM m hO).N = 112 from N_0)
  by_cases h0 : t.val % 14 = 0
  · by_cases h1 : cond0_1 (grid0.coords t) (tbM0_0.view.readAt (Elt F) (Rect.unit (s := S1) ![0] S1.size inb_S1_S1_0).toLoadRect (tbl m 0) (Shape.Idx.first (numel1_S1.symm ▸ Nat.one_pos)))
    · by_cases h2 : t.val % 14 = 0
      · by_cases hz : t.val = 0
        · rw [PhiS_castSucc m hO c t, PhiS_zero m hO c _ _ hz, PhiT0_eq, PhiA0_eq]
          rw [outsAt0_A m hO c t h0 h1 h2]
          unfold out0_A_8 out0_A_9 out0_A_10 out0_A_11 sout0_A_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        · rw [PhiS_castSucc m hO c t, PhiS_pos m hO c _ _ hz, PhiT0_eq]
          rw [outsAt0_A m hO c t h0 h1 h2]
          unfold out0_A_8 out0_A_9 out0_A_10 out0_A_11 sout0_A_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexists _; iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
      · exfalso; omega
    · by_cases h2 : t.val % 14 = 0
      · by_cases hz : t.val = 0
        · rw [PhiS_castSucc m hO c t, PhiS_zero m hO c _ _ hz, PhiT0_eq, PhiA0_eq]
          rw [outsAt0_B m hO c t h0 h1 h2]
          unfold out0_B_8 out0_B_9 out0_B_10 out0_B_11 sout0_B_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _)
        · rw [PhiS_castSucc m hO c t, PhiS_pos m hO c _ _ hz, PhiT0_eq]
          rw [outsAt0_B m hO c t h0 h1 h2]
          unfold out0_B_8 out0_B_9 out0_B_10 out0_B_11 sout0_B_0; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ ((hcond0_0 t).mpr h0) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexists _; iexact HS0
          isplitl [HS1]; · iexact HS1
          isplitl [HT0]; · iexact HT0
          isplitl [HT1]; · iexact HT1
          iintro ⟨H0, H1, H2, H3, H4, H5, H6, H7, ⟨%e8, H8⟩, ⟨%e9, H9⟩, ⟨%e10, H10⟩, ⟨%e11, H11⟩, ⟨%es0, HS0⟩, HS1, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _)
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _)
      · exfalso; omega
  · by_cases h2 : t.val % 14 = 0
    · exfalso; omega
    · by_cases hz : t.val = 0
      · exfalso; have hN : t.val < 112 := lt_of_lt_of_eq t.isLt (show (cfgM m hO).N = 112 from N_0); omega
      · rw [PhiS_castSucc m hO c t, PhiS_pos m hO c _ _ hz, PhiT0_eq]
        rw [outsAt0_C m hO c t h0 h2]
        simp only [before0_9_C m hO c t h0 h2]
        unfold out0_C_8 out0_C_9 out0_C_10 out0_C_11 sout0_C_0; (try dsimp only)
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexists _; iexact H10
        isplitl [H11]; · iexists _; iexact H11
        isplitl [HS0]; · iexact HS0
        isplitl [HS1]; · iexact HS1
        isplitl [HT0]; · iexact HT0
        isplitl [HT1]; · iexact HT1
        iintro ⟨H0, H1, H2, H3, H4, H5, H6, H7, ⟨%e8, H8⟩, ⟨%e9, H9⟩, ⟨%e10, H10⟩, ⟨%e11, H11⟩, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 112 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_UpIdeal`'s statement (Defs.lean) at any `F` — Proof.lean cites it at `Bits`:
    `theorem Cert.Proof.claim : Cert.Claim := ⟨Cert.UpIdeal.Gen.facts, fun m ρ _ => Cert.UpIdeal.Gen.frame m ρ⟩`; here for every contents of the PREFETCHED TABLES, UNDER `Gen.Ok m` (the pipeline's side condition of
    them), which Proof.lean proves from the precondition: `⟨…, fun m ρ h => Cert.UpIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.UpIdeal.Gen

end
-- ==== Proof.UpBlocks.lean ====
/-
  The two dequantised operands one grid step of the up projection multiplies: the rows — this device's own (`aLoc`) or
  another's (`aOth`) — and the gate and up columns side by side (`wBlk`), each the codes times their group's scale.
-/
module

public import proofs.«01_k».proof.Proof.Gen.UpIdeal.Loops
public import Idealize.ShloMosaic.Lib.Pointwise
public import Idealize.ShloMosaic.Lib.VecWindow
public import Idealize.ShloMosaic.Lib.Ring

@[expose] public section

set_option maxRecDepth 16384

noncomputable section

namespace Cert.UpIdeal.Blocks

open Cert.UpIdeal Cert.UpIdeal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- A covered load of a whole buffer, every piece of whose writes agrees with one function `G`, reads `G`. -/
theorem readCov_of_pieces {S : Shape} {Val : EltTy → Type} {e : EltTy} [∀ e, Nonempty (Val e)] {sig : RefSig} {κ : Kind} {sp : Space}
    (v : View sig κ sp S e) {off : Fin S.rank → Nat} (h : off = fun _ => 0) (inb : ∀ a, off a + S.size a ≤ S.size a)
    (L : List (View.Piece Val S e)) (G : S.Idx → Val e)
    (hG : ∀ p ∈ L, ∀ x : p.1.shape.Idx, p.2 x = G (p.1.emb x)) (hc : ∀ y : S.Idx, ∃ p ∈ L, y ∈ p.1.set) :
    v.readCov L (Rect.unit off S.size inb).toLoadRect = G := by
  rw [View.readCov_eq_canon_ld _ _ _ hc, View.ld_unit_zero h]
  exact funext fun y => View.canon_apply_of_pieces G L hG y (hc y)

/-- The device's own rows: code times the scale of its group of 128 columns. -/
def aLoc (x0 : Vec Ideal S256x12288 .fp8e4m3) (x1 : Vec Ideal S256x128 .f32) : Vec Ideal S256x12288 .bf16 :=
  fun y => (x0 y : EReal) * (x1 (ix2 (⟨(y 0).val, (y 0).isLt⟩ : Fin 256) (⟨(y 1).val / 128, by have : (y 1).val < 12288 := (y 1).isLt; omega⟩ : Fin 128)) : EReal)

/-- Another device's rows. -/
def aOth (x2 : Vec Ideal S1x256x12288 .fp8e4m3) (x3 : Vec Ideal S1x256x128 .f32) : Vec Ideal S256x12288 .bf16 :=
  fun y => (x2 (ix3 (0 : Fin 1) (⟨(y 0).val, (y 0).isLt⟩ : Fin 256) (⟨(y 1).val, (y 1).isLt⟩ : Fin 12288)) : EReal)
    * (x3 (ix3 (0 : Fin 1) (⟨(y 0).val, (y 0).isLt⟩ : Fin 256) (⟨(y 1).val / 128, by have : (y 1).val < 12288 := (y 1).isLt; omega⟩ : Fin 128)) : EReal)

/-- One half's columns at the step's column block `n`: code times the scale of its 128 × 128 tile. -/
def wHalf (n : Fin 14) (x : Vec Ideal S12288x256 .fp8e4m3) (s : Vec Ideal S96x28 .f32) : Vec Ideal S12288x256 .bf16 :=
  fun y => (x y : EReal) * (s (ix2 (⟨(y 0).val / 128, by have : (y 0).val < 12288 := (y 0).isLt; omega⟩ : Fin 96)
    (⟨2 * n.val + (y 1).val / 128, by have : (y 1).val < 256 := (y 1).isLt; omega⟩ : Fin 28)) : EReal)

/-- The gate columns, then the up columns. -/
def wBlk (n : Fin 14) (x4 x5 : Vec Ideal S12288x256 .fp8e4m3) (x6 x7 : Vec Ideal S96x28 .f32) : Vec Ideal S12288x512 .bf16 :=
  fun y => if h : (y 1).val < 256 then wHalf n x4 x6 (ix2 (⟨(y 0).val, (y 0).isLt⟩ : Fin 12288) (⟨(y 1).val, h⟩ : Fin 256))
    else wHalf n x5 x7 (ix2 (⟨(y 0).val, (y 0).isLt⟩ : Fin 12288) (⟨(y 1).val - 256, by have : (y 1).val < 512 := (y 1).isLt; omega⟩ : Fin 256))

/-! ## The offsets -/

theorem off2 : ∀ (k : Fin k0_t1_loop.trips) (r : Fin 8), k0_off2 k (BitVec.ofNat 32 r.val) = ![0, 128 * (8 * k.val + r.val)] := by decide +kernel
theorem off3 : ∀ (k : Fin k0_t2_loop.trips) (r : Fin 8), k0_off3 k (BitVec.ofNat 32 r.val) = ![0, 0, 128 * (8 * k.val + r.val)] := by decide +kernel
theorem off4 : ∀ (k : Fin k0_t2_loop.trips) (r : Fin 8), k0_off4 k (BitVec.ofNat 32 r.val) = ![0, 128 * (8 * k.val + r.val)] := by decide +kernel
theorem off5 : ∀ (k : Fin k0_t3_loop.trips), k0_off5 k = ![128 * k.val, 0] := by decide +kernel
theorem off6 : ∀ (i : grid0.Coords) (k : Fin k0_t3_loop.trips) (j : Fin 2), k0_off6 i k (BitVec.ofNat 32 j.val) = ![k.val, 2 * (i 1).val + j.val] := by
  intro i
  have h : ∀ (n : Fin 14) (k : Fin k0_t3_loop.trips) (j : Fin 2), (![(Scalar.indexCast (Scf.iv 0#32 1#32 k : BitVec 32)).toNat, (Scalar.indexCast (Scalar.addi (Scalar.muli (BitVec.ofNat 32 n.val) 2#32) (BitVec.ofNat 32 j.val))).toNat] : Fin 2 → ℕ) = ![k.val, 2 * n.val + j.val] := by decide +kernel
  exact h (i 1)
theorem off7 : ∀ (k : Fin k0_t3_loop.trips), k0_off7 k = ![128 * k.val, 0] := by decide +kernel
theorem off8 : ∀ (k : Fin k0_t3_loop.trips), k0_off8 k = ![128 * k.val, 128] := by decide +kernel
theorem off9 : ∀ (k : Fin k0_t3_loop.trips), k0_off9 k = ![128 * k.val, 128] := by decide +kernel
theorem off10 : ∀ (k : Fin k0_t3_loop.trips), k0_off10 k = ![128 * k.val, 256] := by decide +kernel
theorem off11 : ∀ (k : Fin k0_t3_loop.trips), k0_off11 k = ![128 * k.val, 384] := by decide +kernel

theorem rot1 : ∀ (k : Fin k0_t1_loop.trips) (j : Fin 8), (j.val + 128 - (Scalar.andi (Scalar.subi 128#32 (Scalar.muli (Scf.iv 0#32 1#32 k) 8#32)) 127#32 : BitVec 32).toNat % 128) % 128 = 8 * k.val + j.val := by decide +kernel
theorem rot2 : ∀ (k : Fin k0_t2_loop.trips) (j : Fin 8), (j.val + 128 - (Scalar.andi (Scalar.subi 128#32 (Scalar.muli (Scf.iv 0#32 1#32 k) 8#32)) 127#32 : BitVec 32).toNat % 128) % 128 = 8 * k.val + j.val := by decide +kernel

/-- Lane `j` of the rotated scales, broadcast along the lanes: the scale at the lane the rotation brought there. -/
theorem laneScale (s : FVec Ideal S256x128 .f32) (sh : BitVec 32) (j K : ℕ) (hK : K < 128) (h : (j + 128 - sh.toNat % 128) % 128 = K)
    (hr : S256x128.Rotates 1 none) (hs : S256x128.Slices ![0, j] S256x1) (hc : S256x1.ShapeCasts S256x1) (hb : S256x1.Broadcasts S256x128) (r : Fin 256) (l : Fin 128) :
    broadcastTo S256x128 (shapeCast S256x1 (extractStridedSlice S256x1 ![0, j] (dynamicRotate 1 sh none s hr) hs) hc) hb (ix2 r l) = s (ix2 r ⟨K, hK⟩) := by
  rw [shapeCast_self]
  unfold broadcastTo extractStridedSlice dynamicRotate
  dsimp only
  congr 1
  funext a; apply Fin.ext
  match a with
  | ⟨0, _⟩ => show 0 + r.val = r.val; omega
  | ⟨1, _⟩ => exact h

theorem cast3 {α : Type} (v : S1x256x128.Idx → α) (h : S1x256x128.ShapeCasts S256x128) (r : Fin 256) (l : Fin 128) : shapeCast S256x128 v h (ix2 r l) = v (ix3 (0 : Fin 1) r l) := by
  pointwise

section Pieces
variable (c : Dev nD) (i : grid0.Coords) (arg2 : Memref sig .tc .smem S1 .i32) (harg2 : arg2.IsWhole) (arg3 : Memref sig .tc .smem S8 .i32) (harg3 : arg3.IsWhole) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole)

/-- One group of the device's own rows, stored at its columns. -/
theorem aPiece (x0 : Vec Ideal S256x12288 .fp8e4m3) (x1 : Vec Ideal S256x128 .f32) (k : Fin k0_t1_loop.trips) (j : Fin 8)
    (o : Fin 2 → ℕ) (ho : o = ![0, 128 * (8 * k.val + j.val)]) (inb : ∀ a, o a + S256x128.size a ≤ S256x12288.size a)
    (h8 : FTy.fp8e4m3.bits < FTy.bf16.bits) (hb : FTy.bf16.bits < FTy.f32.bits) (hsl : S256x128.Slices ![0, j.val] S256x1) (hc : S256x1.ShapeCasts S256x1) (hbr : S256x1.Broadcasts S256x128) (hs : S256x128.ShapeCasts S256x128)
    (x : S256x128.Idx) :
    shapeCast S256x128 (mulf (extf .bf16 (View.readAt (Elt Ideal) arg4.view (Rect.unit (s := S256x12288) o S256x128.size inb).toLoadRect (harg4.unread x0) : FVec Ideal S256x128 .fp8e4m3) h8)
      (truncf .bf16 (broadcastTo S256x128 (shapeCast S256x1 (extractStridedSlice S256x1 ![0, j.val] (k0_pay6 (F := Ideal) x1 0#32 1#32 k) hsl) hc) hbr) hb)) hs x
    = aLoc x0 x1 ((Rect.unit (s := S256x12288) o S256x128.size inb).emb x) := by
  subst ho
  have hk : k.val < 12 := Nat.lt_of_lt_of_le k.isLt k0_t1_abs.2.1
  rw [shapeCast_self]
  simp only [View.readAt_eq_ld, harg4.read_unread]
  obtain ⟨x0', x1', rfl⟩ : ∃ (a : Fin 256) (b : Fin 128), x = ix2 a b := ⟨x 0, x 1, by funext a; fin_cases a <;> rfl⟩
  show (x0 _ : EReal) * (broadcastTo S256x128 (shapeCast S256x1 (extractStridedSlice S256x1 ![0, j.val] (k0_pay6 (F := Ideal) x1 0#32 1#32 k) hsl) hc) hbr (ix2 x0' x1') : EReal) = (x0 _ : EReal) * (x1 _ : EReal)
  congr 1
  refine (laneScale x1 _ j.val (8 * k.val + j.val) (by omega) (rot1 k j) rotates_S256x128_d1 hsl hc hbr x0' x1').trans ?_
  congr 1
  funext a; apply Fin.ext
  match a with
  | ⟨0, _⟩ => show x0'.val = 0 + 1 * x0'.val; omega
  | ⟨1, _⟩ => show 8 * k.val + j.val = (128 * (8 * k.val + j.val) + 1 * x1'.val) / 128; omega

theorem aTrip (k0_h1 : k0_cond1 i = 1#1) (x0 : Vec Ideal S256x12288 .fp8e4m3) (x1 : Vec Ideal S256x128 .f32) (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x1 (harg4.unread x0) k, ∀ x : p.1.shape.Idx, p.2 x = aLoc x0 x1 (p.1.emb x) := by
  unfold tripL_k0_t1 trip_k0_t1
  intro p hp
  simp only [List.mem_cons, List.not_mem_nil, or_false] at hp
  rcases hp with rfl | rfl | rfl | rfl | rfl | rfl | rfl | rfl
  · exact fun x => aPiece arg4 harg4 x0 x1 k 7 _ (off2 k 7) _ _ _ slices_S256x128_o0_7_S256x1 shapeCasts_S256x1_S256x1 broadcasts_S256x1_S256x128 _ x
  · exact fun x => aPiece arg4 harg4 x0 x1 k 6 _ (off2 k 6) _ _ _ slices_S256x128_o0_6_S256x1 shapeCasts_S256x1_S256x1 broadcasts_S256x1_S256x128 _ x
  · exact fun x => aPiece arg4 harg4 x0 x1 k 5 _ (off2 k 5) _ _ _ slices_S256x128_o0_5_S256x1 shapeCasts_S256x1_S256x1 broadcasts_S256x1_S256x128 _ x
  · exact fun x => aPiece arg4 harg4 x0 x1 k 4 _ (off2 k 4) _ _ _ slices_S256x128_o0_4_S256x1 shapeCasts_S256x1_S256x1 broadcasts_S256x1_S256x128 _ x
  · exact fun x => aPiece arg4 harg4 x0 x1 k 3 _ (off2 k 3) _ _ _ slices_S256x128_o0_3_S256x1 shapeCasts_S256x1_S256x1 broadcasts_S256x1_S256x128 _ x
  · exact fun x => aPiece arg4 harg4 x0 x1 k 2 _ (off2 k 2) _ _ _ slices_S256x128_o0_2_S256x1 shapeCasts_S256x1_S256x1 broadcasts_S256x1_S256x128 _ x
  · exact fun x => aPiece arg4 harg4 x0 x1 k 1 _ (off2 k 1) _ _ _ slices_S256x128_o0_1_S256x1 shapeCasts_S256x1_S256x1 broadcasts_S256x1_S256x128 _ x
  · exact fun x => aPiece arg4 harg4 x0 x1 k 0 _ (off2 k 0) _ _ _ slices_S256x128_o0_0_S256x1 shapeCasts_S256x1_S256x1 broadcasts_S256x1_S256x128 _ x

theorem aPb (k0_h1 : k0_cond1 i = 1#1) (x0 : Vec Ideal S256x12288 .fp8e4m3) (x1 : Vec Ideal S256x128 .f32) (n : ℕ) (hn : n ≤ k0_t1_loop.trips) :
    ∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x1 (harg4.unread x0) n, ∀ x : p.1.shape.Idx, p.2 x = aLoc x0 x1 (p.1.emb x) := by
  induction n with
  | zero => intro p hp; exact absurd hp (by unfold pb_k0_t1; exact List.not_mem_nil)
  | succ n ih =>
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x1 (harg4.unread x0) ⟨n, hn⟩
    intro p hp
    rw [show pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x1 (harg4.unread x0) (n + 1) = _ from e] at hp
    rcases List.mem_append.1 hp with h | h
    · exact aTrip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x0 x1 _ p h
    · exact ih (Nat.le_of_succ_le hn) p h

theorem aCov (k0_h1 : k0_cond1 i = 1#1) (v : Vec Ideal S256x128 .f32) (X : BufTy.Contents (Elt Ideal) arg4.view.ty) (y : S256x12288.Idx) :
    ∃ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v X (Scf.trips k0_t1_loop.lb k0_t1_loop.ub k0_t1_loop.st), y ∈ p.1.set :=
  View.cover_of_tiledL (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v X (Scf.trips k0_t1_loop.lb k0_t1_loop.ub k0_t1_loop.st)) S256x128.size (by sl_kernel_rfl) y

/-- One group of another device's rows. -/
theorem oPiece (x2 : Vec Ideal S1x256x12288 .fp8e4m3) (x3 : Vec Ideal S1x256x128 .f32) (k : Fin k0_t2_loop.trips) (j : Fin 8)
    (o : Fin 2 → ℕ) (ho : o = ![0, 128 * (8 * k.val + j.val)]) (inb : ∀ a, o a + S256x128.size a ≤ S256x12288.size a)
    (o3 : Fin 3 → ℕ) (ho3 : o3 = ![0, 0, 128 * (8 * k.val + j.val)]) (inb3 : ∀ a, o3 a + S1x256x128.size a ≤ S1x256x12288.size a)
    (h8 : FTy.fp8e4m3.bits < FTy.bf16.bits) (hb : FTy.bf16.bits < FTy.f32.bits) (hsl : S256x128.Slices ![0, j.val] S256x1) (hc : S256x1.ShapeCasts S256x1) (hbr : S256x1.Broadcasts S256x128) (hs : S256x128.ShapeCasts S256x128)
    (h3 : S1x256x128.ShapeCasts S256x128) (x : S256x128.Idx) :
    shapeCast S256x128 (mulf (extf .bf16 (shapeCast S256x128 (View.readAt (Elt Ideal) arg6.view (Rect.unit (s := S1x256x12288) o3 S1x256x128.size inb3).toLoadRect (harg6.unread x2) : FVec Ideal S1x256x128 .fp8e4m3) h3) h8)
      (truncf .bf16 (broadcastTo S256x128 (shapeCast S256x1 (extractStridedSlice S256x1 ![0, j.val] (k0_pay15 (F := Ideal) (k0_pay29 x3) 0#32 1#32 k) hsl) hc) hbr) hb)) hs x
    = aOth x2 x3 ((Rect.unit (s := S256x12288) o S256x128.size inb).emb x) := by
  subst ho ho3
  have hk : k.val < 12 := Nat.lt_of_lt_of_le k.isLt k0_t2_abs.2.1
  rw [shapeCast_self]
  simp only [View.readAt_eq_ld, harg6.read_unread]
  obtain ⟨x0', x1', rfl⟩ : ∃ (a : Fin 256) (b : Fin 128), x = ix2 a b := ⟨x 0, x 1, by funext a; fin_cases a <;> rfl⟩
  have e1 : shapeCast S256x128 (View.ld x2 (Rect.unit (s := S1x256x12288) ![0, 0, 128 * (8 * k.val + j.val)] S1x256x128.size inb3) : FVec Ideal S1x256x128 .fp8e4m3) h3 (ix2 x0' x1')
      = x2 (ix3 (0 : Fin 1) x0' (⟨128 * (8 * k.val + j.val) + x1'.val, by omega⟩ : Fin 12288)) := by
    rw [cast3]
    show x2 _ = x2 _
    congr 1
    funext a; apply Fin.ext
    match a with
    | ⟨0, _⟩ => rfl
    | ⟨1, _⟩ => show 0 + 1 * x0'.val = x0'.val; omega
    | ⟨2, _⟩ => show 128 * (8 * k.val + j.val) + 1 * x1'.val = 128 * (8 * k.val + j.val) + x1'.val; omega
  have e2 := laneScale (k0_pay29 (F := Ideal) x3) _ j.val (8 * k.val + j.val) (by omega) (rot2 k j) rotates_S256x128_d1 hsl hc hbr x0' x1'
  have e3 : k0_pay29 (F := Ideal) x3 (ix2 x0' ⟨8 * k.val + j.val, by omega⟩) = x3 (ix3 (0 : Fin 1) x0' ⟨8 * k.val + j.val, by omega⟩) := by
    exact cast3 _ _ _ _
  show (shapeCast S256x128 (View.ld x2 (Rect.unit (s := S1x256x12288) ![0, 0, 128 * (8 * k.val + j.val)] S1x256x128.size inb3) : FVec Ideal S1x256x128 .fp8e4m3) h3 (ix2 x0' x1') : EReal) * (broadcastTo S256x128 (shapeCast S256x1 (extractStridedSlice S256x1 ![0, j.val] (k0_pay15 (F := Ideal) (k0_pay29 x3) 0#32 1#32 k) hsl) hc) hbr (ix2 x0' x1') : EReal) = (x2 _ : EReal) * (x3 _ : EReal)
  refine congrArg₂ (fun a b : EReal => a * b) (e1.trans ?_) ((e2.trans e3).trans ?_)
  · congr 1
    funext a; apply Fin.ext
    match a with
    | ⟨0, _⟩ => rfl
    | ⟨1, _⟩ => show x0'.val = 0 + 1 * x0'.val; omega
    | ⟨2, _⟩ => show 128 * (8 * k.val + j.val) + x1'.val = 128 * (8 * k.val + j.val) + 1 * x1'.val; omega
  · congr 1
    funext a; apply Fin.ext
    match a with
    | ⟨0, _⟩ => rfl
    | ⟨1, _⟩ => show x0'.val = 0 + 1 * x0'.val; omega
    | ⟨2, _⟩ => show 8 * k.val + j.val = (128 * (8 * k.val + j.val) + 1 * x1'.val) / 128; omega

theorem oTrip (k0_h1 : k0_cond1 i = 1#1) (x2 : Vec Ideal S1x256x12288 .fp8e4m3) (x3 : Vec Ideal S1x256x128 .f32) (k : Fin k0_t2_loop.trips) :
    ∀ p ∈ tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x3 (harg6.unread x2) k, ∀ x : p.1.shape.Idx, p.2 x = aOth x2 x3 (p.1.emb x) := by
  unfold tripL_k0_t2 trip_k0_t2
  intro p hp
  simp only [List.mem_cons, List.not_mem_nil, or_false] at hp
  rcases hp with rfl | rfl | rfl | rfl | rfl | rfl | rfl | rfl
  · exact fun x => oPiece arg6 harg6 x2 x3 k 7 _ (off4 k 7) (k0_off4_inb i k k0_h1 7) _ (off3 k 7) (k0_off3_inb i k k0_h1 7) _ _ slices_S256x128_o0_7_S256x1 shapeCasts_S256x1_S256x1 broadcasts_S256x1_S256x128 _ shapeCasts_S1x256x128_S256x128 x
  · exact fun x => oPiece arg6 harg6 x2 x3 k 6 _ (off4 k 6) (k0_off4_inb i k k0_h1 6) _ (off3 k 6) (k0_off3_inb i k k0_h1 6) _ _ slices_S256x128_o0_6_S256x1 shapeCasts_S256x1_S256x1 broadcasts_S256x1_S256x128 _ shapeCasts_S1x256x128_S256x128 x
  · exact fun x => oPiece arg6 harg6 x2 x3 k 5 _ (off4 k 5) (k0_off4_inb i k k0_h1 5) _ (off3 k 5) (k0_off3_inb i k k0_h1 5) _ _ slices_S256x128_o0_5_S256x1 shapeCasts_S256x1_S256x1 broadcasts_S256x1_S256x128 _ shapeCasts_S1x256x128_S256x128 x
  · exact fun x => oPiece arg6 harg6 x2 x3 k 4 _ (off4 k 4) (k0_off4_inb i k k0_h1 4) _ (off3 k 4) (k0_off3_inb i k k0_h1 4) _ _ slices_S256x128_o0_4_S256x1 shapeCasts_S256x1_S256x1 broadcasts_S256x1_S256x128 _ shapeCasts_S1x256x128_S256x128 x
  · exact fun x => oPiece arg6 harg6 x2 x3 k 3 _ (off4 k 3) (k0_off4_inb i k k0_h1 3) _ (off3 k 3) (k0_off3_inb i k k0_h1 3) _ _ slices_S256x128_o0_3_S256x1 shapeCasts_S256x1_S256x1 broadcasts_S256x1_S256x128 _ shapeCasts_S1x256x128_S256x128 x
  · exact fun x => oPiece arg6 harg6 x2 x3 k 2 _ (off4 k 2) (k0_off4_inb i k k0_h1 2) _ (off3 k 2) (k0_off3_inb i k k0_h1 2) _ _ slices_S256x128_o0_2_S256x1 shapeCasts_S256x1_S256x1 broadcasts_S256x1_S256x128 _ shapeCasts_S1x256x128_S256x128 x
  · exact fun x => oPiece arg6 harg6 x2 x3 k 1 _ (off4 k 1) (k0_off4_inb i k k0_h1 1) _ (off3 k 1) (k0_off3_inb i k k0_h1 1) _ _ slices_S256x128_o0_1_S256x1 shapeCasts_S256x1_S256x1 broadcasts_S256x1_S256x128 _ shapeCasts_S1x256x128_S256x128 x
  · exact fun x => oPiece arg6 harg6 x2 x3 k 0 _ (off4 k 0) (k0_off4_inb i k k0_h1 0) _ (off3 k 0) (k0_off3_inb i k k0_h1 0) _ _ slices_S256x128_o0_0_S256x1 shapeCasts_S256x1_S256x1 broadcasts_S256x1_S256x128 _ shapeCasts_S1x256x128_S256x128 x

theorem oPb (k0_h1 : k0_cond1 i = 1#1) (x2 : Vec Ideal S1x256x12288 .fp8e4m3) (x3 : Vec Ideal S1x256x128 .f32) (n : ℕ) (hn : n ≤ k0_t2_loop.trips) :
    ∀ p ∈ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x3 (harg6.unread x2) n, ∀ x : p.1.shape.Idx, p.2 x = aOth x2 x3 (p.1.emb x) := by
  induction n with
  | zero => intro p hp; exact absurd hp (by unfold pb_k0_t2; exact List.not_mem_nil)
  | succ n ih =>
    have e := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x3 (harg6.unread x2) ⟨n, hn⟩
    intro p hp
    rw [show pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x3 (harg6.unread x2) (n + 1) = _ from e] at hp
    rcases List.mem_append.1 hp with h | h
    · exact oTrip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 x2 x3 _ p h
    · exact ih (Nat.le_of_succ_le hn) p h

theorem oCov (k0_h1 : k0_cond1 i = 1#1) (v : Vec Ideal S1x256x128 .f32) (X : BufTy.Contents (Elt Ideal) arg6.view.ty) (y : S256x12288.Idx) :
    ∃ p ∈ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v X (Scf.trips k0_t2_loop.lb k0_t2_loop.ub k0_t2_loop.st), y ∈ p.1.set :=
  View.cover_of_tiledL (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v X (Scf.trips k0_t2_loop.lb k0_t2_loop.ub k0_t2_loop.st)) S256x128.size (by sl_kernel_rfl) y

/-- One tile of one half's columns. -/
theorem wPiece (m8 : Memref sig .tc .vmem S12288x256 .fp8e4m3) (hm8 : m8.IsWhole) (m10 : Memref sig .tc .smem S96x28 .f32) (hm10 : m10.IsWhole)
    (x : Vec Ideal S12288x256 .fp8e4m3) (s : Vec Ideal S96x28 .f32) (k : Fin k0_t3_loop.trips) (j : Fin 2)
    (o : Fin 2 → ℕ) (ho : o = ![128 * k.val, 128 * j.val]) (inb : ∀ a, o a + S128x128.size a ≤ S12288x256.size a)
    (o5 : Fin 2 → ℕ) (ho5 : o5 = ![k.val, 2 * (i 1).val + j.val]) (inb5 : ∀ a, o5 a + S1x1.size a ≤ S96x28.size a) (hn : 0 < S1x1.numel)
    (hb : FTy.bf16.bits < FTy.f32.bits) (h8 : FTy.fp8e4m3.bits < FTy.bf16.bits) (hs : S128x128.ShapeCasts S128x128) (y : S128x128.Idx) :
    shapeCast S128x128 (mulf (extf .bf16 (View.readAt (Elt Ideal) m8.view (Rect.unit (s := S12288x256) o S128x128.size inb).toLoadRect (hm8.unread x) : FVec Ideal S128x128 .fp8e4m3) h8)
      (truncf .bf16 (broadcast S128x128 (View.readAt (Elt Ideal) m10.view (Rect.unit (s := S96x28) o5 S1x1.size inb5).toLoadRect (hm10.unread s) (Shape.Idx.first hn)) : FVec Ideal S128x128 .f32) hb)) hs y
    = wHalf (i 1) x s (ix2 (⟨128 * k.val + (y 0).val, by have := k0_t3_abs.2.1; have := k.isLt; have : (y 0).val < 128 := (y 0).isLt; omega⟩ : Fin 12288) (⟨128 * j.val + (y 1).val, by have : (y 1).val < 128 := (y 1).isLt; omega⟩ : Fin 256)) := by
  subst ho ho5
  have hk : k.val < 96 := Nat.lt_of_lt_of_le k.isLt k0_t3_abs.2.1
  rw [shapeCast_self]
  simp only [View.readAt_eq_ld, hm8.read_unread, hm10.read_unread]
  show (x _ : EReal) * (s _ : EReal) = (x _ : EReal) * (s _ : EReal)
  have h0 : (y 0).val < 128 := (y 0).isLt
  have h1 : (y 1).val < 128 := (y 1).isLt
  refine congrArg₂ (fun a b : EReal => a * b) (congrArg x ?_) (congrArg s ?_)
  · funext a; apply Fin.ext
    match a with
    | ⟨0, _⟩ => show 128 * k.val + 1 * (y 0).val = 128 * k.val + (y 0).val; omega
    | ⟨1, _⟩ => show 128 * j.val + 1 * (y 1).val = 128 * j.val + (y 1).val; omega
  · funext a; apply Fin.ext
    match a with
    | ⟨0, _⟩ => show k.val + 1 * 0 = (128 * k.val + (y 0).val) / 128; omega
    | ⟨1, _⟩ => show 2 * (i 1).val + j.val + 1 * 0 = 2 * (i 1).val + (128 * j.val + (y 1).val) / 128; omega

theorem wEmb (n : Fin 14) (x4 x5 : Vec Ideal S12288x256 .fp8e4m3) (x6 x7 : Vec Ideal S96x28 .f32) (r C : ℕ) (hr : r < 96) (hC : C < 4)
    (o : Fin 2 → ℕ) (ho : o = ![128 * r, 128 * C]) (inb : ∀ a, o a + S128x128.size a ≤ S12288x512.size a) (y : S128x128.Idx) :
    wBlk n x4 x5 x6 x7 ((Rect.unit (s := S12288x512) o S128x128.size inb).emb y)
      = if h : C < 2 then wHalf n x4 x6 (ix2 (⟨128 * r + (y 0).val, by have : (y 0).val < 128 := (y 0).isLt; omega⟩ : Fin 12288) (⟨128 * C + (y 1).val, by have : (y 1).val < 128 := (y 1).isLt; omega⟩ : Fin 256))
        else wHalf n x5 x7 (ix2 (⟨128 * r + (y 0).val, by have : (y 0).val < 128 := (y 0).isLt; omega⟩ : Fin 12288) (⟨128 * (C - 2) + (y 1).val, by have : (y 1).val < 128 := (y 1).isLt; omega⟩ : Fin 256)) := by
  subst ho
  have h0 : (y 0).val < 128 := (y 0).isLt
  have h1 : (y 1).val < 128 := (y 1).isLt
  have e0 : ((Rect.unit (s := S12288x512) ![128 * r, 128 * C] S128x128.size inb).emb y 0).val = 128 * r + (y 0).val := by show 128 * r + 1 * (y 0).val = _; omega
  have e1 : ((Rect.unit (s := S12288x512) ![128 * r, 128 * C] S128x128.size inb).emb y 1).val = 128 * C + (y 1).val := by show 128 * C + 1 * (y 1).val = _; omega
  unfold wBlk
  by_cases h : C < 2
  · rw [dif_pos h, dif_pos (by omega)]
    congr 2
    · exact Fin.ext e0
    · exact Fin.ext e1
  · rw [dif_neg h, dif_neg (by omega)]
    congr 2
    · exact Fin.ext e0
    · exact Fin.ext (by show ((Rect.unit (s := S12288x512) ![128 * r, 128 * C] S128x128.size inb).emb y 1).val - 256 = 128 * (C - 2) + (y 1).val; rw [e1]; omega)

theorem wTrip (x4 x5 : Vec Ideal S12288x256 .fp8e4m3) (x6 x7 : Vec Ideal S96x28 .f32) (a1 : BitVec 32) (k : Fin k0_t3_loop.trips) :
    ∀ p ∈ tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 (harg8.unread x4) (harg9.unread x5) (harg10.unread x6) (harg11.unread x7) k, ∀ x : p.1.shape.Idx, p.2 x = wBlk (i 1) x4 x5 x6 x7 (p.1.emb x) := by
  have hk : k.val < 96 := Nat.lt_of_lt_of_le k.isLt k0_t3_abs.2.1
  unfold tripL_k0_t3 trip_k0_t3
  intro p hp
  simp only [List.mem_cons, List.not_mem_nil, or_false] at hp
  rcases hp with rfl | rfl | rfl | rfl
  · exact fun y => (wPiece i arg9 harg9 arg11 harg11 x5 x7 k 1 _ (off8 k) _ _ (off6 i k 1) _ _ _ _ _ y).trans ((wEmb (i 1) x4 x5 x6 x7 k.val 3 hk (by decide) _ (off11 k) (k0_off11_inb k) y).trans (dif_neg (by decide))).symm
  · exact fun y => (wPiece i arg9 harg9 arg11 harg11 x5 x7 k 0 _ (off5 k) _ _ (off6 i k 0) _ _ _ _ _ y).trans ((wEmb (i 1) x4 x5 x6 x7 k.val 2 hk (by decide) _ (off10 k) (k0_off10_inb k) y).trans (dif_neg (by decide))).symm
  · exact fun y => (wPiece i arg8 harg8 arg10 harg10 x4 x6 k 1 _ (off8 k) _ _ (off6 i k 1) _ _ _ _ _ y).trans ((wEmb (i 1) x4 x5 x6 x7 k.val 1 hk (by decide) _ (off9 k) (k0_off9_inb k) y).trans (dif_pos (by decide))).symm
  · exact fun y => (wPiece i arg8 harg8 arg10 harg10 x4 x6 k 0 _ (off5 k) _ _ (off6 i k 0) _ _ _ _ _ y).trans ((wEmb (i 1) x4 x5 x6 x7 k.val 0 hk (by decide) _ (off7 k) (k0_off7_inb k) y).trans (dif_pos (by decide))).symm

theorem wPb (x4 x5 : Vec Ideal S12288x256 .fp8e4m3) (x6 x7 : Vec Ideal S96x28 .f32) (a1 : BitVec 32) (n : ℕ) (hn : n ≤ k0_t3_loop.trips) :
    ∀ p ∈ pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 (harg8.unread x4) (harg9.unread x5) (harg10.unread x6) (harg11.unread x7) n, ∀ x : p.1.shape.Idx, p.2 x = wBlk (i 1) x4 x5 x6 x7 (p.1.emb x) := by
  induction n with
  | zero => intro p hp; exact absurd hp (by unfold pb_k0_t3; exact List.not_mem_nil)
  | succ n ih =>
    have e := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 (harg8.unread x4) (harg9.unread x5) (harg10.unread x6) (harg11.unread x7) ⟨n, hn⟩
    intro p hp
    rw [show pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 (harg8.unread x4) (harg9.unread x5) (harg10.unread x6) (harg11.unread x7) (n + 1) = _ from e] at hp
    rcases List.mem_append.1 hp with h | h
    · exact wTrip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 a1 _ p h
    · exact ih (Nat.le_of_succ_le hn) p h

theorem wCov (a1 : BitVec 32) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (y : S12288x512.Idx) :
    ∃ p ∈ pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 X8 X9 X10 X11 (Scf.trips k0_t3_loop.lb k0_t3_loop.ub k0_t3_loop.st), y ∈ p.1.set :=
  View.cover_of_tiledL (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 X8 X9 X10 X11 (Scf.trips k0_t3_loop.lb k0_t3_loop.ub k0_t3_loop.st)) S128x128.size (by sl_kernel_rfl) y

end Pieces

end Cert.UpIdeal.Blocks

end
-- ==== Proof.UpQuant.lean ====
/-
  The quantiser of the up projection on whole blocks: groups of 128 columns of each row, and groups of 128 rows of each
  column, of one step's block of 256 × 256 values.
-/
module

public import proofs.«01_k».proof.Proof.Gen.UpIdeal.Loops
public import proofs.«01_k».proof.Proof.Quant8
public import Idealize.ShloMosaic.Lib.VecWindow

@[expose] public section

set_option maxRecDepth 16384

noncomputable section

namespace Cert.UpIdeal.Quant

open Cert.UpIdeal Cert.UpIdeal.Gen Idealize.ShloMosaic Idealize.ShloMosaic.TcCoe Idealize.SL.Sem

/-! ## Scale and inverse scale of a vector of magnitudes -/

section Field
variable {S : Shape}

/-- One comparison of the search for the exponent field. -/
def stepV (b : BitVec 32) (x : FVec Ideal S .f32) (e : IVec S 32) : IVec S 32 :=
  select (cmpf .oge x (bitcastToFloat .f32 (addi e (broadcast S b)))) (addi e (broadcast S b)) e

theorem stepV_apply (b : BitVec 32) (x : FVec Ideal S .f32) (e : IVec S 32) (i : S.Idx) : stepV b x e i = Quant8.step b (x i) (e i) := rfl

/-- The search. -/
def searchV (x : FVec Ideal S .f32) : IVec S 32 :=
  stepV 8388608#32 x (stepV 16777216#32 x (stepV 33554432#32 x (stepV 67108864#32 x (stepV 134217728#32 x (stepV 268435456#32 x
    (stepV 536870912#32 x (stepV 1073741824#32 x (broadcast S 0#32))))))))

/-- The exponent field. -/
def fieldV (x : FVec Ideal S .f32) : IVec S 32 :=
  select (cmpf .oge x (broadcast S (Scalar.ofBits .f32 0x7E800000#32))) (broadcast S 2139095040#32) (searchV x)

/-- The search on one value. -/
def search (x : EReal) : BitVec 32 :=
  Quant8.step 8388608#32 x (Quant8.step 16777216#32 x (Quant8.step 33554432#32 x (Quant8.step 67108864#32 x (Quant8.step 134217728#32 x (Quant8.step 268435456#32 x
    (Quant8.step 536870912#32 x (Quant8.step 1073741824#32 x 0#32)))))))

theorem searchV_apply (x : FVec Ideal S .f32) (i : S.Idx) : searchV x i = search (x i) := by
  unfold searchV search
  iterate 8 rw [stepV_apply]
  rfl

theorem field_search (x : EReal) : Scalar.select (Ideal.cmp .oge x (Ideal.ofBits .f32 0x7E800000#32)) 2139095040#32 (search x) = Quant8.field x := by
  unfold search Quant8.field
  rfl

theorem fieldV_apply (x : FVec Ideal S .f32) (i : S.Idx) : fieldV x i = Quant8.field (x i) := by
  show Scalar.select (Ideal.cmp .oge (x i) (Ideal.ofBits .f32 0x7E800000#32)) 2139095040#32 (searchV x i) = _
  rw [searchV_apply]
  exact field_search (x i)

def specialV (x : FVec Ideal S .f32) : IVec S 1 := ori (cmpi .eq (fieldV x) (broadcast S 0#32)) (cmpi .eq (fieldV x) (broadcast S 2139095040#32))

theorem specialV_apply (x : FVec Ideal S .f32) (i : S.Idx) : specialV x i = Quant8.special (x i) := by
  show IntOp.ori (IntOp.cmpi .eq (fieldV x i) 0#32) (IntOp.cmpi .eq (fieldV x i) 2139095040#32) = _
  rw [fieldV_apply]
  rfl

def scaleV (x : FVec Ideal S .f32) : FVec Ideal S .f32 :=
  bitcastToFloat .f32 (select (specialV x) (broadcast S 1065353216#32) (addi (fieldV x) (broadcast S 8388608#32)))

theorem scaleV_apply (x : FVec Ideal S .f32) (i : S.Idx) : scaleV x i = Quant8.scale (x i) := by
  show Ideal.ofBits .f32 (Scalar.select (specialV x i) 1065353216#32 (fieldV x i + 8388608#32)) = _
  rw [fieldV_apply, specialV_apply]
  exact Quant8.kscale_eq (x i)

def invV (x : FVec Ideal S .f32) : FVec Ideal S .f32 :=
  bitcastToFloat .f32 (select (specialV x) (broadcast S 1065353216#32) (subi (broadcast S 2122317824#32) (fieldV x)))

theorem invV_apply (x : FVec Ideal S .f32) (i : S.Idx) : invV x i = Quant8.kinv (x i) := by
  show Ideal.ofBits .f32 (Scalar.select (specialV x i) 1065353216#32 (2122317824#32 - fieldV x i)) = _
  rw [fieldV_apply, specialV_apply]
  rfl

/-- Values times inverse scales, clipped. -/
def clipV (g i : FVec Ideal S .f32) : FVec Ideal S .f32 :=
  minimumf (broadcast S (Scalar.ofBits .f32 0x43E00000#32)) (maximumf (broadcast S (Scalar.ofBits .f32 0xC3E00000#32)) (mulf g i))

theorem clipV_apply (g v : FVec Ideal S .f32) (i : S.Idx) : clipV g v i = Quant8.clip (g i) (v i) := rfl

end Field

/-! ## Rows -/

def rowX (g : FVec Ideal S256x128 .f32) : FVec Ideal S256x128 .f32 :=
  mulf (broadcastTo S256x128 (shapeCast S256x1 (shapeCast S256x1 (multiReduction .maximumf [1] S256 (absf g) 0xFF800000#32 reduces_S256x128_S256 (.inl rfl) rfl)
    shapeCasts_S256_S256x1) shapeCasts_S256x1_S256x1) broadcasts_S256x1_S256x128) (broadcast S256x128 (Scalar.ofBits .f32 0x3B124925#32))

theorem rowX_apply (g : FVec Ideal S256x128 .f32) (r : Fin 256) (l : Fin 128) : rowX g (ix2 r l) = Quant8.mag (fun x : Fin 128 => g (ix2 r x)) := by
  pointwise [rowX, Quant8.mag, Quant.amax]

def rowCodes (g : FVec Ideal S256x128 .f32) : FVec Ideal S1x256x128 .fp8e4m3 :=
  shapeCast S1x256x128 (truncf .fp8e4m3 (clipV g (invV (rowX g))) bitsLt_fp8e4m3_f32) shapeCasts_S256x128_S1x256x128

theorem cast13 {α : Type} (v : S256x128.Idx → α) (h : S256x128.ShapeCasts S1x256x128) (r : Fin 256) (l : Fin 128) : shapeCast S1x256x128 v h (ix3 (0 : Fin 1) r l) = v (ix2 r l) := by
  pointwise

theorem cast31 {α : Type} (v : S1x256x128.Idx → α) (h : S1x256x128.ShapeCasts S256x128) (r : Fin 256) (l : Fin 128) : shapeCast S256x128 v h (ix2 r l) = v (ix3 (0 : Fin 1) r l) := by
  pointwise

theorem rowCodes_apply (g : FVec Ideal S256x128 .f32) (r : Fin 256) (l : Fin 128) :
    rowCodes g (ix3 (0 : Fin 1) r l) = Quant8.code (g (ix2 r l)) (Quant8.scale (Quant8.mag fun x : Fin 128 => g (ix2 r x))) := by
  unfold rowCodes
  rw [cast13]
  show clipV g (invV (rowX g)) (ix2 r l) = _
  rw [clipV_apply, invV_apply, rowX_apply]
  exact Quant8.clip_kinv _ _

/-- A block with lane `2n + j` replaced by a column. -/
def lane (n j : BitVec 32) (s : FVec Ideal S256x128 .f32) (p : Vec Ideal S1x256x128 .f32) : FVec Ideal S1x256x128 .f32 :=
  shapeCast S1x256x128 (select (cmpi .eq (iota .tc S256x128 32 [1] iota_S256x128_d1_w32) (broadcast S256x128 (Scalar.addi (Scalar.muli n 2#32) j))) s
    (shapeCast S256x128 p shapeCasts_S1x256x128_S256x128)) shapeCasts_S256x128_S1x256x128

theorem lane_cond : ∀ (n : Fin 14) (j : Fin 2) (l : Fin 128),
    IntOp.cmpi CmpIPredicate.eq (BitVec.ofNat 32 l.val) (Scalar.addi (Scalar.muli (BitVec.ofNat 32 n.val) 2#32) (BitVec.ofNat 32 j.val)) = (if l.val = 2 * n.val + j.val then 1#1 else 0#1) := by
  decide +kernel

theorem lane_apply (n : Fin 14) (j : Fin 2) (s : FVec Ideal S256x128 .f32) (p : Vec Ideal S1x256x128 .f32) (r : Fin 256) (l : Fin 128) :
    lane (BitVec.ofNat 32 n.val) (BitVec.ofNat 32 j.val) s p (ix3 (0 : Fin 1) r l) = (if l.val = 2 * n.val + j.val then (s (ix2 r l) : EReal) else (p (ix3 (0 : Fin 1) r l) : EReal)) := by
  unfold lane
  rw [cast13]
  pointwise
  rw [lane_cond]
  split <;> rfl

/-! ## Columns -/

def colX (q : FVec Ideal S128x128 .f32) : FVec Ideal S1x128 .f32 :=
  mulf (shapeCast S1x128 (multiReduction .maximumf [0] S128 (absf q) 0xFF800000#32 reduces_S128x128_S128 (.inl rfl) rfl) shapeCasts_S128_S1x128)
    (broadcast S1x128 (Scalar.ofBits .f32 0x3B124925#32))

theorem colX_apply (q : FVec Ideal S128x128 .f32) (l : Fin 128) : colX q (ix2 (0 : Fin 1) l) = Quant8.mag (fun x : Fin 128 => q (ix2 x l)) := by
  pointwise [colX, Quant8.mag, Quant.amax]

def colCodes (q : FVec Ideal S128x128 .f32) : FVec Ideal S1x128x128 .fp8e4m3 :=
  shapeCast S1x128x128 (truncf .fp8e4m3 (clipV q (broadcastTo S128x128 (invV (colX q)) broadcasts_S1x128_S128x128)) bitsLt_fp8e4m3_f32) shapeCasts_S128x128_S1x128x128

theorem castC {α : Type} (v : S128x128.Idx → α) (h : S128x128.ShapeCasts S1x128x128) (r l : Fin 128) : shapeCast S1x128x128 v h (ix3 (0 : Fin 1) r l) = v (ix2 r l) := by
  pointwise

theorem bcastC {α : Type} (v : S1x128.Idx → α) (h : S1x128.Broadcasts S128x128) (r l : Fin 128) : broadcastTo S128x128 v h (ix2 r l) = v (ix2 (0 : Fin 1) l) := by
  pointwise

theorem castS {α : Type} (v : S1x128.Idx → α) (h : S1x128.ShapeCasts S1x1x128) (l : Fin 128) : shapeCast S1x1x128 v h (ix3 (0 : Fin 1) (0 : Fin 1) l) = v (ix2 (0 : Fin 1) l) := by
  pointwise

theorem colCodes_apply (q : FVec Ideal S128x128 .f32) (r l : Fin 128) :
    colCodes q (ix3 (0 : Fin 1) r l) = Quant8.code (q (ix2 r l)) (Quant8.scale (Quant8.mag fun x : Fin 128 => q (ix2 x l))) := by
  unfold colCodes
  rw [castC]
  show clipV q (broadcastTo S128x128 (invV (colX q)) broadcasts_S1x128_S128x128) (ix2 r l) = _
  rw [clipV_apply, bcastC, invV_apply, colX_apply]
  exact Quant8.clip_kinv _ _

def colScales (q : FVec Ideal S128x128 .f32) : FVec Ideal S1x1x128 .f32 := shapeCast S1x1x128 (scaleV (colX q)) shapeCasts_S1x128_S1x1x128

theorem colScales_apply (q : FVec Ideal S128x128 .f32) (l : Fin 128) :
    colScales q (ix3 (0 : Fin 1) (0 : Fin 1) l) = Quant8.scale (Quant8.mag fun x : Fin 128 => q (ix2 x l)) := by
  unfold colScales
  rw [castS, scaleV_apply, colX_apply]

/-! ## One step's block of values -/

/-- Columns `o …` of the block, 128 of them. -/
def grp (o : ℕ) (P : FVec Ideal S256x256 .f32) (h : S256x256.Slices ![0, o] S256x128) : FVec Ideal S256x128 .f32 := extractStridedSlice S256x128 ![0, o] P h

theorem grp_apply (o : ℕ) (ho : o + 128 ≤ 256) (P : FVec Ideal S256x256 .f32) (h : S256x256.Slices ![0, o] S256x128) (r : Fin 256) (l : Fin 128) :
    grp o P h (ix2 r l) = P (ix2 r ⟨o + l.val, by omega⟩) := by
  unfold grp extractStridedSlice
  congr 1
  funext a; apply Fin.ext
  match a with
  | ⟨0, _⟩ => show 0 + r.val = r.val; omega
  | ⟨1, _⟩ => rfl

/-- Rows `b …` of it, 128 of them. -/
def sub (b : ℕ) (g : FVec Ideal S256x128 .f32) (h : S256x128.Slices ![b, 0] S128x128) : FVec Ideal S128x128 .f32 := extractStridedSlice S128x128 ![b, 0] g h

theorem sub_apply (b : ℕ) (hb : b + 128 ≤ 256) (g : FVec Ideal S256x128 .f32) (h : S256x128.Slices ![b, 0] S128x128) (r l : Fin 128) :
    sub b g h (ix2 r l) = g (ix2 ⟨b + r.val, by omega⟩ l) := by
  unfold sub extractStridedSlice
  congr 1
  funext a; apply Fin.ext
  match a with
  | ⟨0, _⟩ => rfl
  | ⟨1, _⟩ => show 0 + l.val = l.val; omega

/-- The scale of row `r`'s group `j` of 128 columns. -/
def rowScaleB (P : FVec Ideal S256x256 .f32) (r : Fin 256) (j : Fin 2) : EReal :=
  Quant8.scale (Quant8.mag fun x : Fin 128 => (P (ix2 r (⟨128 * j.val + x.val, by omega⟩ : Fin 256)) : EReal))

/-- The scale of column `x`'s group `b` of 128 rows. -/
def colScaleB (P : FVec Ideal S256x256 .f32) (b : Fin 2) (x : Fin 256) : EReal :=
  Quant8.scale (Quant8.mag fun r : Fin 128 => (P (ix2 (⟨128 * b.val + r.val, by omega⟩ : Fin 256) x) : EReal))

/-- The block coded by rows. -/
def rowCodesB (P : FVec Ideal S256x256 .f32) : FVec Ideal S1x256x256 .fp8e4m3 := fun y =>
  Quant8.code (P (ix2 (⟨(y 1).val, (y 1).isLt⟩ : Fin 256) (⟨(y 2).val, (y 2).isLt⟩ : Fin 256)))
    (rowScaleB P ⟨(y 1).val, (y 1).isLt⟩ ⟨(y 2).val / 128, by have : (y 2).val < 256 := (y 2).isLt; omega⟩)

/-- The block coded by columns. -/
def colCodesB (P : FVec Ideal S256x256 .f32) : FVec Ideal S1x256x256 .fp8e4m3 := fun y =>
  Quant8.code (P (ix2 (⟨(y 1).val, (y 1).isLt⟩ : Fin 256) (⟨(y 2).val, (y 2).isLt⟩ : Fin 256)))
    (colScaleB P ⟨(y 1).val / 128, by have : (y 1).val < 256 := (y 1).isLt; omega⟩ ⟨(y 2).val, (y 2).isLt⟩)

/-- The columns' scales. -/
def colScalesB (P : FVec Ideal S256x256 .f32) : FVec Ideal S1x2x256 .f32 := fun y => colScaleB P ⟨(y 1).val, (y 1).isLt⟩ ⟨(y 2).val, (y 2).isLt⟩

/-- The rows' scales: the step's two lanes put into the block it found. -/
def rowScalesB (n : Fin 14) (P : FVec Ideal S256x256 .f32) (p : Vec Ideal S1x256x128 .f32) : Vec Ideal S1x256x128 .f32 := fun y =>
  if h : 2 * n.val ≤ (y 2).val ∧ (y 2).val < 2 * n.val + 2 then rowScaleB P ⟨(y 1).val, (y 1).isLt⟩ ⟨(y 2).val - 2 * n.val, by omega⟩ else (p y : EReal)

theorem idx3 {a b c : ℕ} (y : (⟨3, ![a, b, c]⟩ : Shape).Idx) : y = ix3 (⟨(y 0).val, (y 0).isLt⟩ : Fin a) (⟨(y 1).val, (y 1).isLt⟩ : Fin b) (⟨(y 2).val, (y 2).isLt⟩ : Fin c) := by
  funext a; match a with
  | ⟨0, _⟩ => rfl
  | ⟨1, _⟩ => rfl
  | ⟨2, _⟩ => rfl

theorem row_mag (P : FVec Ideal S256x256 .f32) (j : Fin 2) (o : ℕ) (ho : o = 128 * j.val) (h : S256x256.Slices ![0, o] S256x128) (r : Fin 256) :
    Quant8.scale (Quant8.mag fun x : Fin 128 => grp o P h (ix2 r x)) = rowScaleB P r j := by
  subst ho
  unfold rowScaleB
  exact congrArg (fun f => Quant8.scale (Quant8.mag f)) (funext fun x => grp_apply _ (by omega) P h r x)

theorem rowCodes_piece (P : FVec Ideal S256x256 .f32) (j : Fin 2) (o : ℕ) (ho : o = 128 * j.val) (h : S256x256.Slices ![0, o] S256x128)
    (inb : ∀ a, (![0, 0, o] : Fin 3 → ℕ) a + S1x256x128.size a ≤ S1x256x256.size a) (x : S1x256x128.Idx) :
    rowCodes (grp o P h) x = rowCodesB P ((Rect.unit (s := S1x256x256) ![0, 0, o] S1x256x128.size inb).emb x) := by
  obtain ⟨x1, x2, rfl⟩ : ∃ (b : Fin 256) (c : Fin 128), x = ix3 (0 : Fin 1) b c := ⟨⟨(x 1).val, (x 1).isLt⟩, ⟨(x 2).val, (x 2).isLt⟩, (idx3 x).trans (by congr 1; exact Subsingleton.elim _ _)⟩
  rw [rowCodes_apply, row_mag P j o ho, grp_apply o (by omega)]
  subst ho
  unfold rowCodesB
  have e1 : ((Rect.unit (s := S1x256x256) ![0, 0, 128 * j.val] S1x256x128.size inb).emb (ix3 (0 : Fin 1) x1 x2) 1).val = x1.val := by show 0 + 1 * x1.val = x1.val; omega
  have e2 : ((Rect.unit (s := S1x256x256) ![0, 0, 128 * j.val] S1x256x128.size inb).emb (ix3 (0 : Fin 1) x1 x2) 2).val = 128 * j.val + x2.val := by show 128 * j.val + 1 * x2.val = 128 * j.val + x2.val; omega
  congr 2
  · congr 1
    · exact Fin.ext e1.symm
    · exact Fin.ext e2.symm
  · exact Fin.ext e1.symm
  · apply Fin.ext
    show j.val = _ / 128
    rw [e2]; omega

theorem sub_grp (P : FVec Ideal S256x256 .f32) (j b : Fin 2) (o : ℕ) (ho : o = 128 * j.val) (u : ℕ) (hu : u = 128 * b.val)
    (h : S256x256.Slices ![0, o] S256x128) (h' : S256x128.Slices ![u, 0] S128x128) (r l : Fin 128) :
    sub u (grp o P h) h' (ix2 r l) = P (ix2 (⟨128 * b.val + r.val, by omega⟩ : Fin 256) (⟨128 * j.val + l.val, by omega⟩ : Fin 256)) := by
  subst ho hu
  rw [sub_apply _ (by omega), grp_apply _ (by omega)]

theorem col_mag (P : FVec Ideal S256x256 .f32) (j b : Fin 2) (o : ℕ) (ho : o = 128 * j.val) (u : ℕ) (hu : u = 128 * b.val)
    (h : S256x256.Slices ![0, o] S256x128) (h' : S256x128.Slices ![u, 0] S128x128) (l : Fin 128) :
    Quant8.scale (Quant8.mag fun x : Fin 128 => sub u (grp o P h) h' (ix2 x l)) = colScaleB P b ⟨128 * j.val + l.val, by omega⟩ := by
  unfold colScaleB
  exact congrArg (fun f => Quant8.scale (Quant8.mag f)) (funext fun x => sub_grp P j b o ho u hu h h' x l)

theorem colCodes_piece (P : FVec Ideal S256x256 .f32) (j b : Fin 2) (o : ℕ) (ho : o = 128 * j.val) (u : ℕ) (hu : u = 128 * b.val)
    (h : S256x256.Slices ![0, o] S256x128) (h' : S256x128.Slices ![u, 0] S128x128)
    (inb : ∀ a, (![0, u, o] : Fin 3 → ℕ) a + S1x128x128.size a ≤ S1x256x256.size a) (x : S1x128x128.Idx) :
    colCodes (sub u (grp o P h) h') x = colCodesB P ((Rect.unit (s := S1x256x256) ![0, u, o] S1x128x128.size inb).emb x) := by
  obtain ⟨x1, x2, rfl⟩ : ∃ (b : Fin 128) (c : Fin 128), x = ix3 (0 : Fin 1) b c := ⟨⟨(x 1).val, (x 1).isLt⟩, ⟨(x 2).val, (x 2).isLt⟩, (idx3 x).trans (by congr 1; exact Subsingleton.elim _ _)⟩
  rw [colCodes_apply, col_mag P j b o ho u hu, sub_grp P j b o ho u hu]
  subst ho hu
  unfold colCodesB
  have e1 : ((Rect.unit (s := S1x256x256) ![0, 128 * b.val, 128 * j.val] S1x128x128.size inb).emb (ix3 (0 : Fin 1) x1 x2) 1).val = 128 * b.val + x1.val := by show 128 * b.val + 1 * x1.val = _; omega
  have e2 : ((Rect.unit (s := S1x256x256) ![0, 128 * b.val, 128 * j.val] S1x128x128.size inb).emb (ix3 (0 : Fin 1) x1 x2) 2).val = 128 * j.val + x2.val := by show 128 * j.val + 1 * x2.val = _; omega
  congr 2
  · congr 1
    · exact Fin.ext e1.symm
    · exact Fin.ext e2.symm
  · apply Fin.ext
    show b.val = _ / 128
    rw [e1]; omega
  · exact Fin.ext e2.symm

theorem colScales_piece (P : FVec Ideal S256x256 .f32) (j b : Fin 2) (o : ℕ) (ho : o = 128 * j.val) (u : ℕ) (hu : u = 128 * b.val)
    (h : S256x256.Slices ![0, o] S256x128) (h' : S256x128.Slices ![u, 0] S128x128)
    (w : ℕ) (hw : w = b.val) (inb : ∀ a, (![0, w, o] : Fin 3 → ℕ) a + S1x1x128.size a ≤ S1x2x256.size a) (x : S1x1x128.Idx) :
    colScales (sub u (grp o P h) h') x = colScalesB P ((Rect.unit (s := S1x2x256) ![0, w, o] S1x1x128.size inb).emb x) := by
  obtain ⟨x2, rfl⟩ : ∃ (c : Fin 128), x = ix3 (0 : Fin 1) (0 : Fin 1) c := ⟨⟨(x 2).val, (x 2).isLt⟩, (idx3 x).trans (by congr 1 <;> exact Subsingleton.elim _ _)⟩
  rw [colScales_apply, col_mag P j b o ho u hu]
  subst ho hu hw
  unfold colScalesB
  have e1 : ((Rect.unit (s := S1x2x256) ![0, b.val, 128 * j.val] S1x1x128.size inb).emb (ix3 (0 : Fin 1) (0 : Fin 1) x2) 1).val = b.val := by show b.val + 1 * 0 = _; omega
  have e2 : ((Rect.unit (s := S1x2x256) ![0, b.val, 128 * j.val] S1x1x128.size inb).emb (ix3 (0 : Fin 1) (0 : Fin 1) x2) 2).val = 128 * j.val + x2.val := by show 128 * j.val + 1 * x2.val = _; omega
  congr 1
  exact Fin.ext e2.symm

theorem rowScale_apply (P : FVec Ideal S256x256 .f32) (j : Fin 2) (o : ℕ) (ho : o = 128 * j.val) (h : S256x256.Slices ![0, o] S256x128) (r : Fin 256) (l : Fin 128) :
    scaleV (rowX (grp o P h)) (ix2 r l) = rowScaleB P r j := by
  rw [scaleV_apply, rowX_apply, row_mag P j o ho]

theorem rowScalesB_of (n : Fin 14) (P : FVec Ideal S256x256 .f32) (p : Vec Ideal S1x256x128 .f32) (h0 : S256x256.Slices ![0, 0] S256x128) (h1 : S256x256.Slices ![0, 128] S256x128) :
    lane (BitVec.ofNat 32 n.val) 1#32 (scaleV (rowX (grp 128 P h1))) (lane (BitVec.ofNat 32 n.val) 0#32 (scaleV (rowX (grp 0 P h0))) p) = rowScalesB n P p := by
  funext y
  obtain ⟨r, l, rfl⟩ : ∃ (b : Fin 256) (c : Fin 128), y = ix3 (0 : Fin 1) b c := ⟨⟨(y 1).val, (y 1).isLt⟩, ⟨(y 2).val, (y 2).isLt⟩, (idx3 y).trans (by congr 1; exact Subsingleton.elim _ _)⟩
  rw [show (1#32 : BitVec 32) = BitVec.ofNat 32 (1 : Fin 2).val from rfl, show (0#32 : BitVec 32) = BitVec.ofNat 32 (0 : Fin 2).val from rfl]
  rw [lane_apply, lane_apply, rowScale_apply P 1 128 rfl, rowScale_apply P 0 0 rfl]
  have e : rowScalesB n P p (ix3 (0 : Fin 1) r l) = if h : 2 * n.val ≤ l.val ∧ l.val < 2 * n.val + 2 then rowScaleB P r ⟨l.val - 2 * n.val, by omega⟩ else (p (ix3 (0 : Fin 1) r l) : EReal) := rfl
  rw [e]
  by_cases h : 2 * n.val ≤ l.val ∧ l.val < 2 * n.val + 2
  · rw [dif_pos h]
    have hc : l.val - 2 * n.val = 0 ∨ l.val - 2 * n.val = 1 := by omega
    rcases hc with hc | hc
    · rw [if_neg (by show ¬ l.val = 2 * n.val + 1; omega), if_pos (by show l.val = 2 * n.val + 0; omega)]
      exact congrArg _ (Fin.ext hc.symm)
    · rw [if_pos (by show l.val = 2 * n.val + 1; omega)]
      exact congrArg _ (Fin.ext hc.symm)
  · rw [dif_neg h, if_neg (by show ¬ l.val = 2 * n.val + 1; omega), if_neg (by show ¬ l.val = 2 * n.val + 0; omega)]

theorem rowCodesB_canon (P : FVec Ideal S256x256 .f32) (h0 : S256x256.Slices ![0, 0] S256x128) (h1 : S256x256.Slices ![0, 128] S256x128)
    (L : List (View.Piece (Elt Ideal) S1x256x256 .fp8e4m3))
    (hL : L = [⟨Rect.unit ![0, 0, 128] S1x256x128.size inb_S1x256x256_S1x256x128_0_0_128, rowCodes (grp 128 P h1)⟩,
      ⟨Rect.unit ![0, 0, 0] S1x256x128.size inb_S1x256x256_S1x256x128_0_0_0, rowCodes (grp 0 P h0)⟩])
    (hc : ∀ y, ∃ p ∈ L, y ∈ p.1.set) : View.canon L = rowCodesB P := by
  funext y
  refine View.canon_apply_of_pieces _ L ?_ y (hc y)
  intro p hp
  rw [hL] at hp
  simp only [List.mem_cons, List.not_mem_nil, or_false] at hp
  rcases hp with rfl | rfl
  · exact fun x => rowCodes_piece P 1 128 rfl h1 inb_S1x256x256_S1x256x128_0_0_128 x
  · exact fun x => rowCodes_piece P 0 0 rfl h0 inb_S1x256x256_S1x256x128_0_0_0 x

theorem colCodesB_canon (P : FVec Ideal S256x256 .f32) (h0 : S256x256.Slices ![0, 0] S256x128) (h1 : S256x256.Slices ![0, 128] S256x128)
    (k0 : S256x128.Slices ![0, 0] S128x128) (k1 : S256x128.Slices ![128, 0] S128x128)
    (L : List (View.Piece (Elt Ideal) S1x256x256 .fp8e4m3))
    (hL : L = [⟨Rect.unit ![0, 128, 128] S1x128x128.size inb_S1x256x256_S1x128x128_0_128_128, colCodes (sub 128 (grp 128 P h1) k1)⟩,
      ⟨Rect.unit ![0, 0, 128] S1x128x128.size inb_S1x256x256_S1x128x128_0_0_128, colCodes (sub 0 (grp 128 P h1) k0)⟩,
      ⟨Rect.unit ![0, 128, 0] S1x128x128.size inb_S1x256x256_S1x128x128_0_128_0, colCodes (sub 128 (grp 0 P h0) k1)⟩,
      ⟨Rect.unit ![0, 0, 0] S1x128x128.size inb_S1x256x256_S1x128x128_0_0_0, colCodes (sub 0 (grp 0 P h0) k0)⟩])
    (hc : ∀ y, ∃ p ∈ L, y ∈ p.1.set) : View.canon L = colCodesB P := by
  funext y
  refine View.canon_apply_of_pieces _ L ?_ y (hc y)
  intro p hp
  rw [hL] at hp
  simp only [List.mem_cons, List.not_mem_nil, or_false] at hp
  rcases hp with rfl | rfl | rfl | rfl
  · exact fun x => colCodes_piece P 1 1 128 rfl 128 rfl h1 k1 inb_S1x256x256_S1x128x128_0_128_128 x
  · exact fun x => colCodes_piece P 1 0 128 rfl 0 rfl h1 k0 inb_S1x256x256_S1x128x128_0_0_128 x
  · exact fun x => colCodes_piece P 0 1 0 rfl 128 rfl h0 k1 inb_S1x256x256_S1x128x128_0_128_0 x
  · exact fun x => colCodes_piece P 0 0 0 rfl 0 rfl h0 k0 inb_S1x256x256_S1x128x128_0_0_0 x

theorem colScalesB_canon (P : FVec Ideal S256x256 .f32) (h0 : S256x256.Slices ![0, 0] S256x128) (h1 : S256x256.Slices ![0, 128] S256x128)
    (k0 : S256x128.Slices ![0, 0] S128x128) (k1 : S256x128.Slices ![128, 0] S128x128)
    (L : List (View.Piece (Elt Ideal) S1x2x256 .f32))
    (hL : L = [⟨Rect.unit ![0, 1, 128] S1x1x128.size inb_S1x2x256_S1x1x128_0_1_128, colScales (sub 128 (grp 128 P h1) k1)⟩,
      ⟨Rect.unit ![0, 0, 128] S1x1x128.size inb_S1x2x256_S1x1x128_0_0_128, colScales (sub 0 (grp 128 P h1) k0)⟩,
      ⟨Rect.unit ![0, 1, 0] S1x1x128.size inb_S1x2x256_S1x1x128_0_1_0, colScales (sub 128 (grp 0 P h0) k1)⟩,
      ⟨Rect.unit ![0, 0, 0] S1x1x128.size inb_S1x2x256_S1x1x128_0_0_0, colScales (sub 0 (grp 0 P h0) k0)⟩])
    (hc : ∀ y, ∃ p ∈ L, y ∈ p.1.set) : View.canon L = colScalesB P := by
  funext y
  refine View.canon_apply_of_pieces _ L ?_ y (hc y)
  intro p hp
  rw [hL] at hp
  simp only [List.mem_cons, List.not_mem_nil, or_false] at hp
  rcases hp with rfl | rfl | rfl | rfl
  · exact fun x => colScales_piece P 1 1 128 rfl 128 rfl h1 k1 1 rfl inb_S1x2x256_S1x1x128_0_1_128 x
  · exact fun x => colScales_piece P 1 0 128 rfl 0 rfl h1 k0 0 rfl inb_S1x2x256_S1x1x128_0_0_128 x
  · exact fun x => colScales_piece P 0 1 0 rfl 128 rfl h0 k1 1 rfl inb_S1x2x256_S1x1x128_0_1_0 x
  · exact fun x => colScales_piece P 0 0 0 rfl 0 rfl h0 k0 0 rfl inb_S1x2x256_S1x1x128_0_0_0 x

end Cert.UpIdeal.Quant

end
-- ==== Proof.UpStep.lean ====
/-
  One grid step of the up kernel, as functions of the blocks it reads: the block of activated products, coded by rows and
  by columns; the rows' scales are the block it found with the step's two lanes put in.
-/
module

public import proofs.«01_k».proof.Proof.UpIdealFrame
public import proofs.«01_k».proof.Proof.UpBlocks
public import proofs.«01_k».proof.Proof.UpQuant
public import proofs.«01_k».proof.Proof.UpSpec

@[expose] public section

set_option maxRecDepth 16384

noncomputable section

namespace Cert.UpIdeal.Step

open Cert.UpIdeal Cert.UpIdeal.Gen Cert.UpIdeal.Blocks Cert.UpIdeal.Quant Idealize.ShloMosaic Idealize.ShloMosaic.TcCoe Idealize.SL.Sem

/-- The block's product. -/
def mm (a : Vec Ideal S256x12288 .bf16) (w : Vec Ideal S12288x512 .bf16) : FVec Ideal S256x512 .f32 :=
  fun y => ∑ k : Fin 12288, (a (ix2 (⟨(y 0).val, (y 0).isLt⟩ : Fin 256) k) : EReal) * (w (ix2 k (⟨(y 1).val, (y 1).isLt⟩ : Fin 512)) : EReal)

theorem mm_eq (a : Vec Ideal S256x12288 .bf16) (w : Vec Ideal S12288x512 .bf16) :
    (matmul (φ₁ := .bf16) (φ₂ := .bf16) dot_S256x12288_S12288x512_S256x512_1_0_0_1_n_n none a w (constant S256x512 .f32 0x00000000#32) : FVec Ideal S256x512 .f32) = mm a w := by
  funext y
  idx_vars y
  pointwise
  rfl

/-- Gate and up columns of the product, put together. -/
def glu (Y : FVec Ideal S256x512 .f32) : FVec Ideal S256x256 .f32 := fun y =>
  UpSpec.act (Y (ix2 (⟨(y 0).val, (y 0).isLt⟩ : Fin 256) (⟨(y 1).val, by have : (y 1).val < 256 := (y 1).isLt; omega⟩ : Fin 512)))
    (Y (ix2 (⟨(y 0).val, (y 0).isLt⟩ : Fin 256) (⟨256 + (y 1).val, by have : (y 1).val < 256 := (y 1).isLt; omega⟩ : Fin 512)))

/-- The same as the kernel spells it. -/
def gluK (Y : FVec Ideal S256x512 .f32) : FVec Ideal S256x256 .f32 :=
  mulf (mulf (extractStridedSlice S256x256 ![0, 0] Y slices_S256x512_o0_0_S256x256)
    (divf (broadcast S256x256 (Scalar.ofBits .f32 0x3F800000#32)) (addf (broadcast S256x256 (Scalar.ofBits .f32 0x3F800000#32))
      (exp (subf (broadcast S256x256 (Scalar.ofBits .f32 0x00000000#32)) (extractStridedSlice S256x256 ![0, 0] Y slices_S256x512_o0_0_S256x256))))))
    (extractStridedSlice S256x256 ![0, 256] Y slices_S256x512_o0_256_S256x256)

theorem gluK_eq (Y : FVec Ideal S256x512 .f32) : gluK Y = glu Y := by
  funext y
  idx_vars y
  have e0 : extractStridedSlice S256x256 ![0, 0] Y slices_S256x512_o0_0_S256x256 (ix2 y0 y1) = Y (ix2 y0 (⟨y1.val, by omega⟩ : Fin 512)) := by
    unfold extractStridedSlice
    congr 1
    funext a; apply Fin.ext
    match a with
    | ⟨0, _⟩ => show 0 + y0.val = y0.val; omega
    | ⟨1, _⟩ => show 0 + y1.val = y1.val; omega
  have e1 : extractStridedSlice S256x256 ![0, 256] Y slices_S256x512_o0_256_S256x256 (ix2 y0 y1) = Y (ix2 y0 (⟨256 + y1.val, by omega⟩ : Fin 512)) := by
    unfold extractStridedSlice
    congr 1
    funext a; apply Fin.ext
    match a with
    | ⟨0, _⟩ => show 0 + y0.val = y0.val; omega
    | ⟨1, _⟩ => rfl
  show ((extractStridedSlice S256x256 ![0, 0] Y slices_S256x512_o0_0_S256x256 (ix2 y0 y1) : EReal) * Ideal.div (Ideal.ofBits .f32 0x3F800000#32) (Ideal.ofBits .f32 0x3F800000#32 + Ideal.exp (Ideal.ofBits .f32 0x00000000#32 - extractStridedSlice S256x256 ![0, 0] Y slices_S256x512_o0_0_S256x256 (ix2 y0 y1)))) * (extractStridedSlice S256x256 ![0, 256] Y slices_S256x512_o0_256_S256x256 (ix2 y0 y1) : EReal) = _
  rw [e0, e1]
  exact UpSpec.act_eq _ _

theorem pay33_eq (a : Vec Ideal S256x12288 .bf16) (w : Vec Ideal S12288x512 .bf16) : k0_pay33 (F := Ideal) a w = glu (mm a w) := by
  rw [← gluK_eq, ← mm_eq]
  rfl

section Loads
theorem ld2 {A B : ℕ} {sp : Space} {e : EltTy} (v : Memref sig .tc sp ⟨2, ![A, B]⟩ e) (hv : v.IsWhole) (inb) (x : Vec Ideal ⟨2, ![A, B]⟩ e) :
    View.readAt (Elt Ideal) v.view (Rect.unit (s := ⟨2, ![A, B]⟩) ![0, 0] ![A, B] inb).toLoadRect (hv.unread x) = x := by
  rw [View.readAt_eq_ld, hv.read_unread, View.ld_unit_zero (S := ⟨2, ![A, B]⟩) hz]

theorem ld3 {A B C : ℕ} {sp : Space} {e : EltTy} (v : Memref sig .tc sp ⟨3, ![A, B, C]⟩ e) (hv : v.IsWhole) (inb) (x : Vec Ideal ⟨3, ![A, B, C]⟩ e) :
    View.readAt (Elt Ideal) v.view (Rect.unit (s := ⟨3, ![A, B, C]⟩) ![0, 0, 0] ![A, B, C] inb).toLoadRect (hv.unread x) = x := by
  rw [View.readAt_eq_ld, hv.read_unread, View.ld_unit_zero (S := ⟨3, ![A, B, C]⟩) hz3]
end Loads

theorem prod_A (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : cond0_1 i (tbM0_0.view.readAt (Elt Ideal) (Rect.unit (s := S1) ![0] S1.size inb_S1_S1_0).toLoadRect xt0 (Shape.Idx.first (numel1_S1.symm ▸ Nat.one_pos)))) :  kernelRun0_A.sl.r_1 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x4 x5 x6 x7 = glu (mm (aLoc x0 x1) (wBlk (i 1) x4 x5 x6 x7)) := by
  unfold kernelRun0_A.sl.r_1
  rw [show View.readAt (Elt Ideal) arg5.view (Rect.unit ![0, 0] S256x128.size inb_S256x128_S256x128_0_0).toLoadRect (harg5.unread x1) = x1 from ld2 arg5 harg5 _ x1]
  rw [pay33_eq]
  have e1 := readCov_of_pieces arg16.view hz inb_S256x12288_S256x12288_0_0 _ _ (aPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 hc0 x0 x1 _ le_rfl) (fun y => aCov c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 hc0 x1 (harg4.unread x0) y)
  have e2 := readCov_of_pieces arg17.view hz inb_S12288x512_S12288x512_0_0 _ _ (wPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 (BitVec.ofNat 32 (i 1).val) _ le_rfl) (fun y => wCov c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (harg8.unread x4) (harg9.unread x5) (harg10.unread x6) (harg11.unread x7) y)
  exact congrArg₂ (fun a w => glu (mm a w)) e1 e2

theorem out_A_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : cond0_1 i (tbM0_0.view.readAt (Elt Ideal) (Rect.unit (s := S1) ![0] S1.size inb_S1_S1_0).toLoadRect xt0 (Shape.Idx.first (numel1_S1.symm ▸ Nat.one_pos)))) : out0_A_8 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = rowCodesB (glu (mm (aLoc x0 x1) (wBlk (i 1) x4 x5 x6 x7))) := by
  unfold out0_A_8
  rw [View.read_writes_eq_canon _ _ _ (cover0_A_8 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  refine rowCodesB_canon _ slices_S256x256_o0_0_S256x128 slices_S256x256_o0_128_S256x128 _ ?_ (cover0_A_8 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)
  unfold kernelRun0_A
  rfl

theorem out_A_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : cond0_1 i (tbM0_0.view.readAt (Elt Ideal) (Rect.unit (s := S1) ![0] S1.size inb_S1_S1_0).toLoadRect xt0 (Shape.Idx.first (numel1_S1.symm ▸ Nat.one_pos)))) : out0_A_10 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = colCodesB (glu (mm (aLoc x0 x1) (wBlk (i 1) x4 x5 x6 x7))) := by
  unfold out0_A_10
  rw [View.read_writes_eq_canon _ _ _ (cover0_A_10 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  refine colCodesB_canon _ slices_S256x256_o0_0_S256x128 slices_S256x256_o0_128_S256x128 slices_S256x128_o0_0_S128x128 slices_S256x128_o128_0_S128x128 _ ?_ (cover0_A_10 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)
  unfold kernelRun0_A
  rfl

theorem out_A_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : cond0_1 i (tbM0_0.view.readAt (Elt Ideal) (Rect.unit (s := S1) ![0] S1.size inb_S1_S1_0).toLoadRect xt0 (Shape.Idx.first (numel1_S1.symm ▸ Nat.one_pos)))) : out0_A_11 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = colScalesB (glu (mm (aLoc x0 x1) (wBlk (i 1) x4 x5 x6 x7))) := by
  unfold out0_A_11
  rw [View.read_writes_eq_canon _ _ _ (cover0_A_11 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  refine colScalesB_canon _ slices_S256x256_o0_0_S256x128 slices_S256x256_o0_128_S256x128 slices_S256x128_o0_0_S128x128 slices_S256x128_o128_0_S128x128 _ ?_ (cover0_A_11 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)
  unfold kernelRun0_A
  rfl

theorem out_A_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : cond0_1 i (tbM0_0.view.readAt (Elt Ideal) (Rect.unit (s := S1) ![0] S1.size inb_S1_S1_0).toLoadRect xt0 (Shape.Idx.first (numel1_S1.symm ▸ Nat.one_pos)))) : out0_A_9 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = rowScalesB (i 1) (glu (mm (aLoc x0 x1) (wBlk (i 1) x4 x5 x6 x7))) (fun _ => (0 : EReal)) := by
  unfold out0_A_9
  rw [View.read_writes_eq_canon _ _ _ (cover0_A_9 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_A c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  unfold kernelRun0_A
  dsimp only
  rw [View.canon_cons_unit_zero (S := S1x256x128) hz3]
  rw [← rowScalesB_of (i 1) _ _ slices_S256x256_o0_0_S256x128 slices_S256x256_o0_128_S256x128]
  have e1 : kernelRun0_A.sl.v99 (F := Ideal) c arg13 = (fun _ => (0 : EReal)) := by
    unfold kernelRun0_A.sl.v99 kernelRun0_A.sl.H9_1
    rw [View.readCov_full]
    funext y
    exact Ideal.ofBits_zero_f32
  have e2 : kernelRun0_A.sl.v342 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x4 x5 x6 x7 = _ := View.readCov_full _ _ _ _ _
  rw [e2, e1]
  rfl

theorem sout_A_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : cond0_1 i (tbM0_0.view.readAt (Elt Ideal) (Rect.unit (s := S1) ![0] S1.size inb_S1_S1_0).toLoadRect xt0 (Shape.Idx.first (numel1_S1.symm ▸ Nat.one_pos)))) : sout0_A_0 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = aLoc x0 x1 := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)]
  funext y
  refine View.canon_apply_of_pieces _ _ ?_ y (scover0_A_0 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 y)
  unfold kernelRun0_A
  dsimp only
  rw [show View.readAt (Elt Ideal) arg5.view (Rect.unit ![0, 0] S256x128.size inb_S256x128_S256x128_0_0).toLoadRect (harg5.unread x1) = x1 from ld2 arg5 harg5 _ x1]
  exact aPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 hc0 x0 x1 _ le_rfl

theorem prod_B (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : ¬cond0_1 i (tbM0_0.view.readAt (Elt Ideal) (Rect.unit (s := S1) ![0] S1.size inb_S1_S1_0).toLoadRect xt0 (Shape.Idx.first (numel1_S1.symm ▸ Nat.one_pos)))) :  kernelRun0_B.sl.r_1 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x2 x3 x4 x5 x6 x7 = glu (mm (aOth x2 x3) (wBlk (i 1) x4 x5 x6 x7)) := by
  unfold kernelRun0_B.sl.r_1
  rw [show View.readAt (Elt Ideal) arg7.view (Rect.unit ![0, 0, 0] S1x256x128.size inb_S1x256x128_S1x256x128_0_0_0).toLoadRect (harg7.unread x3) = x3 from ld3 arg7 harg7 _ x3]
  rw [pay33_eq]
  have e1 := readCov_of_pieces arg16.view hz inb_S256x12288_S256x12288_0_0 _ _ (oPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 hc0 x2 x3 _ le_rfl) (fun y => oCov c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 hc0 x3 (harg6.unread x2) y)
  have e2 := readCov_of_pieces arg17.view hz inb_S12288x512_S12288x512_0_0 _ _ (wPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 (BitVec.ofNat 32 (i 1).val) _ le_rfl) (fun y => wCov c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (harg8.unread x4) (harg9.unread x5) (harg10.unread x6) (harg11.unread x7) y)
  exact congrArg₂ (fun a w => glu (mm a w)) e1 e2

theorem out_B_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : ¬cond0_1 i (tbM0_0.view.readAt (Elt Ideal) (Rect.unit (s := S1) ![0] S1.size inb_S1_S1_0).toLoadRect xt0 (Shape.Idx.first (numel1_S1.symm ▸ Nat.one_pos)))) : out0_B_8 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = rowCodesB (glu (mm (aOth x2 x3) (wBlk (i 1) x4 x5 x6 x7))) := by
  unfold out0_B_8
  rw [View.read_writes_eq_canon _ _ _ (cover0_B_8 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  refine rowCodesB_canon _ slices_S256x256_o0_0_S256x128 slices_S256x256_o0_128_S256x128 _ ?_ (cover0_B_8 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)
  unfold kernelRun0_B
  rfl

theorem out_B_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : ¬cond0_1 i (tbM0_0.view.readAt (Elt Ideal) (Rect.unit (s := S1) ![0] S1.size inb_S1_S1_0).toLoadRect xt0 (Shape.Idx.first (numel1_S1.symm ▸ Nat.one_pos)))) : out0_B_10 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = colCodesB (glu (mm (aOth x2 x3) (wBlk (i 1) x4 x5 x6 x7))) := by
  unfold out0_B_10
  rw [View.read_writes_eq_canon _ _ _ (cover0_B_10 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  refine colCodesB_canon _ slices_S256x256_o0_0_S256x128 slices_S256x256_o0_128_S256x128 slices_S256x128_o0_0_S128x128 slices_S256x128_o128_0_S128x128 _ ?_ (cover0_B_10 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)
  unfold kernelRun0_B
  rfl

theorem out_B_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : ¬cond0_1 i (tbM0_0.view.readAt (Elt Ideal) (Rect.unit (s := S1) ![0] S1.size inb_S1_S1_0).toLoadRect xt0 (Shape.Idx.first (numel1_S1.symm ▸ Nat.one_pos)))) : out0_B_11 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = colScalesB (glu (mm (aOth x2 x3) (wBlk (i 1) x4 x5 x6 x7))) := by
  unfold out0_B_11
  rw [View.read_writes_eq_canon _ _ _ (cover0_B_11 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  refine colScalesB_canon _ slices_S256x256_o0_0_S256x128 slices_S256x256_o0_128_S256x128 slices_S256x128_o0_0_S128x128 slices_S256x128_o128_0_S128x128 _ ?_ (cover0_B_11 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)
  unfold kernelRun0_B
  rfl

theorem out_B_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : ¬cond0_1 i (tbM0_0.view.readAt (Elt Ideal) (Rect.unit (s := S1) ![0] S1.size inb_S1_S1_0).toLoadRect xt0 (Shape.Idx.first (numel1_S1.symm ▸ Nat.one_pos)))) : out0_B_9 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = rowScalesB (i 1) (glu (mm (aOth x2 x3) (wBlk (i 1) x4 x5 x6 x7))) (fun _ => (0 : EReal)) := by
  unfold out0_B_9
  rw [View.read_writes_eq_canon _ _ _ (cover0_B_9 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1), ← prod_B c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1]
  unfold kernelRun0_B
  dsimp only
  rw [View.canon_cons_unit_zero (S := S1x256x128) hz3]
  rw [← rowScalesB_of (i 1) _ _ slices_S256x256_o0_0_S256x128 slices_S256x256_o0_128_S256x128]
  have e1 : kernelRun0_B.sl.v99 (F := Ideal) c arg13 = (fun _ => (0 : EReal)) := by
    unfold kernelRun0_B.sl.v99 kernelRun0_B.sl.H9_1
    rw [View.readCov_full]
    funext y
    exact Ideal.ofBits_zero_f32
  have e2 : kernelRun0_B.sl.v342 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x2 x3 x4 x5 x6 x7 = _ := View.readCov_full _ _ _ _ _
  rw [e2, e1]
  rfl

theorem sout_B_0 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : cond0_0 i) (hc2 : cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (hc1 : ¬cond0_1 i (tbM0_0.view.readAt (Elt Ideal) (Rect.unit (s := S1) ![0] S1.size inb_S1_S1_0).toLoadRect xt0 (Shape.Idx.first (numel1_S1.symm ▸ Nat.one_pos)))) : sout0_B_0 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 = aOth x2 x3 := by
  unfold sout0_B_0
  rw [View.read_writes_eq_canon _ _ _ (scover0_B_0 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1)]
  funext y
  refine View.canon_apply_of_pieces _ _ ?_ y (scover0_B_0 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 hc1 y)
  unfold kernelRun0_B
  dsimp only
  rw [show View.readAt (Elt Ideal) arg7.view (Rect.unit ![0, 0, 0] S1x256x128.size inb_S1x256x128_S1x256x128_0_0_0).toLoadRect (harg7.unread x3) = x3 from ld3 arg7 harg7 _ x3]
  exact oPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 hc0 x2 x3 _ le_rfl

theorem prod_C (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (xo9 : Vec Ideal S1x256x128 .f32) (xs0 : Vec Ideal S256x12288 .bf16) :  kernelRun0_C.sl.r (F := Ideal) c i arg4 harg4 arg5 harg5 arg6 harg6 arg7 harg7 arg8 harg8 arg9 harg9 arg10 harg10 arg11 harg11 arg12 harg12 arg13 harg13 arg14 harg14 arg15 harg15 arg16 harg16 arg17 harg17 x4 x5 x6 x7 xs0 = glu (mm (xs0) (wBlk (i 1) x4 x5 x6 x7)) := by
  unfold kernelRun0_C.sl.r
  rw [pay33_eq]
  have e1 := ld2 arg16 harg16 inb_S256x12288_S256x12288_0_0 xs0
  have e2 := readCov_of_pieces arg17.view hz inb_S12288x512_S12288x512_0_0 _ _ (wPb c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 x4 x5 x6 x7 (BitVec.ofNat 32 (i 1).val) _ le_rfl) (fun y => wCov c i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (harg8.unread x4) (harg9.unread x5) (harg10.unread x6) (harg11.unread x7) y)
  exact congrArg₂ (fun a w => glu (mm a w)) e1 e2

theorem out_C_8 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (xo9 : Vec Ideal S1x256x128 .f32) (xs0 : Vec Ideal S256x12288 .bf16) : out0_C_8 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0 = rowCodesB (glu (mm (xs0) (wBlk (i 1) x4 x5 x6 x7))) := by
  unfold out0_C_8
  rw [View.read_writes_eq_canon _ _ _ (cover0_C_8 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0), ← prod_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0]
  refine rowCodesB_canon _ slices_S256x256_o0_0_S256x128 slices_S256x256_o0_128_S256x128 _ ?_ (cover0_C_8 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0)
  unfold kernelRun0_C
  rfl

theorem out_C_10 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (xo9 : Vec Ideal S1x256x128 .f32) (xs0 : Vec Ideal S256x12288 .bf16) : out0_C_10 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0 = colCodesB (glu (mm (xs0) (wBlk (i 1) x4 x5 x6 x7))) := by
  unfold out0_C_10
  rw [View.read_writes_eq_canon _ _ _ (cover0_C_10 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0), ← prod_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0]
  refine colCodesB_canon _ slices_S256x256_o0_0_S256x128 slices_S256x256_o0_128_S256x128 slices_S256x128_o0_0_S128x128 slices_S256x128_o128_0_S128x128 _ ?_ (cover0_C_10 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0)
  unfold kernelRun0_C
  rfl

theorem out_C_11 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (xo9 : Vec Ideal S1x256x128 .f32) (xs0 : Vec Ideal S256x12288 .bf16) : out0_C_11 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0 = colScalesB (glu (mm (xs0) (wBlk (i 1) x4 x5 x6 x7))) := by
  unfold out0_C_11
  rw [View.read_writes_eq_canon _ _ _ (cover0_C_11 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0), ← prod_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0]
  refine colScalesB_canon _ slices_S256x256_o0_0_S256x128 slices_S256x256_o0_128_S256x128 slices_S256x128_o0_0_S128x128 slices_S256x128_o128_0_S128x128 _ ?_ (cover0_C_11 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0)
  unfold kernelRun0_C
  rfl

theorem out_C_9 (c : Dev nD) (i : grid0.Coords) (arg4 : Memref sig .tc .vmem S256x12288 .fp8e4m3) (harg4 : arg4.IsWhole) (arg5 : Memref sig .tc .vmem S256x128 .f32) (harg5 : arg5.IsWhole) (arg6 : Memref sig .tc .vmem S1x256x12288 .fp8e4m3) (harg6 : arg6.IsWhole) (arg7 : Memref sig .tc .vmem S1x256x128 .f32) (harg7 : arg7.IsWhole) (arg8 : Memref sig .tc .vmem S12288x256 .fp8e4m3) (harg8 : arg8.IsWhole) (arg9 : Memref sig .tc .vmem S12288x256 .fp8e4m3) (harg9 : arg9.IsWhole) (arg10 : Memref sig .tc .smem S96x28 .f32) (harg10 : arg10.IsWhole) (arg11 : Memref sig .tc .smem S96x28 .f32) (harg11 : arg11.IsWhole) (arg12 : Memref sig .tc .vmem S1x256x256 .fp8e4m3) (harg12 : arg12.IsWhole) (arg13 : Memref sig .tc .vmem S1x256x128 .f32) (harg13 : arg13.IsWhole) (arg14 : Memref sig .tc .vmem S1x256x256 .fp8e4m3) (harg14 : arg14.IsWhole) (arg15 : Memref sig .tc .vmem S1x2x256 .f32) (harg15 : arg15.IsWhole) (arg16 : Memref sig .tc .vmem S256x12288 .bf16) (harg16 : arg16.IsWhole) (arg17 : Memref sig .tc .vmem S12288x512 .bf16) (harg17 : arg17.IsWhole) (hc0 : ¬cond0_0 i) (hc2 : ¬cond0_2 i)
    (x0 : Vec Ideal S256x12288 .fp8e4m3) (x1 : Vec Ideal S256x128 .f32) (x2 : Vec Ideal S1x256x12288 .fp8e4m3) (x3 : Vec Ideal S1x256x128 .f32) (x4 : Vec Ideal S12288x256 .fp8e4m3) (x5 : Vec Ideal S12288x256 .fp8e4m3) (x6 : Vec Ideal S96x28 .f32) (x7 : Vec Ideal S96x28 .f32) (xt0 : TbBuf0 (F := Ideal) c tbM0_0) (xt1 : TbBuf0 (F := Ideal) c tbM0_1) (xo9 : Vec Ideal S1x256x128 .f32) (xs0 : Vec Ideal S256x12288 .bf16) : out0_C_9 (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0 = rowScalesB (i 1) (glu (mm (xs0) (wBlk (i 1) x4 x5 x6 x7))) xo9 := by
  unfold out0_C_9
  rw [View.read_writes_eq_canon _ _ _ (cover0_C_9 c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0), ← prod_C c i arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xt1 xo9 xs0]
  unfold kernelRun0_C
  dsimp only
  rw [View.canon_cons_unit_zero (S := S1x256x128) hz3]
  rw [← rowScalesB_of (i 1) _ _ slices_S256x256_o0_0_S256x128 slices_S256x256_o0_128_S256x128]
  have e2 : kernelRun0_C.sl.v342 (F := Ideal) c i arg4 harg4 arg5 harg5 arg6 harg6 arg7 harg7 arg8 harg8 arg9 harg9 arg10 harg10 arg11 harg11 arg12 harg12 arg13 harg13 arg14 harg14 arg15 harg15 arg16 harg16 arg17 harg17 x4 x5 x6 x7 xo9 xs0 = _ := View.readCov_full _ _ _ _ _
  rw [e2]
  rw [show View.readAt (Elt Ideal) arg13.view (Rect.unit ![0, 0, 0] S1x256x128.size inb_S1x256x128_S1x256x128_0_0_0).toLoadRect (harg13.unread xo9) = xo9 from ld3 arg13 harg13 _ xo9]
  rfl

end Cert.UpIdeal.Step

end
-- ==== Proof.UpTables.lean ====
/-
  The up kernel's tables: the entry of the other devices' arrays that each device's rows are, computed on the host from
  this device's number. Every entry is inside those arrays, whatever the number.
-/
module

public import proofs.«01_k».proof.Proof.UpFrame
public import proofs.«01_k».proof.Proof.UpIdealFrame
public import proofs.«01_k».proof.Proof.UpSpec
public import Idealize.ShloMosaic.Lib.StableHlo.ReadAt

@[expose] public section

set_option maxRecDepth 16384

noncomputable section

namespace Cert.UpTables

open Idealize.ShloMosaic

/-- The table's word for device `s`. -/
def word (rank : BitVec 32) (s : BitVec 32) : BitVec 32 :=
  IntOp.minsi 6#32 (IntOp.maxsi 0#32 (Scalar.select (IntOp.cmpi .slt s rank) s (s - 1#32)))

theorem word_cases : ∀ (s : Fin 8) (b : Bool), (IntOp.minsi 6#32 (IntOp.maxsi 0#32 (Scalar.select (BitVec.ofBool b) (BitVec.ofNat 32 s.val) (BitVec.ofNat 32 s.val - 1#32)))).toNat =
    if b = true then min s.val 6 else s.val - 1 := by
  decide +kernel

theorem word_toNat (rank : BitVec 32) (s : Fin 8) : (word rank (BitVec.ofNat 32 s.val)).toNat = (UpSpec.src rank s).val := by
  refine (word_cases s ((BitVec.ofNat 32 s.val).slt rank)).trans ?_
  unfold UpSpec.src
  split <;> rfl

end Cert.UpTables

namespace Cert.Up.Tables

open Cert.Up Cert.Up.Gen Idealize.ShloMosaic Idealize.ShloMosaic.TcCoe Idealize.SL.Sem

variable {F : FTy → Type} [FloatOps F] (m : (ℓ : Loc nD τ sig) → Buf (Elt F) ℓ)

/-- This device's number. -/
abbrev rank : BitVec 32 := (m (((0 : Dev nD) : Thread nD τ).loc main_arg0) : S1.Idx → BitVec 32) (ix1 (0 : Fin 1))

theorem V_v7 (c : Dev nD) (s : Fin 8) : (V m c main_v7 : S8.Idx → BitVec 32) (ix1 s) = UpTables.word ((m ((c : Thread nD τ).loc main_arg0) : S1.Idx → BitVec 32) (ix1 (0 : Fin 1))) (BitVec.ofNat 32 s.val) := by
  unfold V UpTables.word
  after_reads_at
  rfl

theorem tbl_rank : (tbl m 0 : S1.Idx → BitVec 32) (ix1 (0 : Fin 1)) = rank m := congrFun (V_main_arg0 m 0) _

theorem at_eq (i : grid0.Coords) : cc0_transform_2 k0_off1_inb numel1_S1 (tbl m) i = ![(UpSpec.src (rank m) ⟨(i 0).val, (i 0).isLt⟩).val, 0, 0] := by
  have e : (tbl m).at 1 (Rect.unit (s := S8) ![(Scalar.indexCast (BitVec.ofNat 32 (i 0).val) : Index).toNat] S1.size (k0_off1_inb i)) numel1_S1 = (tbl m 1 : S8.Idx → BitVec 32) (ix1 (⟨(i 0).val, (i 0).isLt⟩ : Fin 8)) := by
    show (tbl m 1 : S8.Idx → BitVec 32) _ = _
    congr 1
    funext a; apply Fin.ext
    match a with
    | ⟨0, _⟩ =>
      have h8 : (i 0).val < 8 := (i 0).isLt
      show (BitVec.ofNat 32 (i 0).val).toNat + 1 * 0 = (i 0).val
      rw [BitVec.toNat_ofNat]; omega
  show ![((tbl m).at 1 (Rect.unit (s := S8) ![(Scalar.indexCast (BitVec.ofNat 32 (i 0).val) : Index).toNat] S1.size (k0_off1_inb i)) numel1_S1 : BitVec 32).toNat, 0, 0] = _
  rw [e, show (tbl m 1 : S8.Idx → BitVec 32) (ix1 (⟨(i 0).val, (i 0).isLt⟩ : Fin 8)) = _ from V_v7 m 0 ⟨(i 0).val, (i 0).isLt⟩, UpTables.word_toNat]

theorem at_eq3 (i : grid0.Coords) : cc0_transform_3 k0_off1_inb numel1_S1 (tbl m) i = ![(UpSpec.src (rank m) ⟨(i 0).val, (i 0).isLt⟩).val, 0, 0] := at_eq m i

/-- Every entry is inside the other devices' arrays. -/
theorem ok : Ok m := by
  have hb : ∀ (i : grid0.Coords) (a : Fin 3), ((![(UpSpec.src (rank m) ⟨(i 0).val, (i 0).isLt⟩).val, 0, 0] : Fin 3 → ℕ) a + 1) * S1x256x12288.size a ≤ S7x256x12288.size a := by
    intro i a
    have h := (UpSpec.src (rank m) ⟨(i 0).val, (i 0).isLt⟩).isLt
    match a with
    | ⟨0, _⟩ => show ((UpSpec.src (rank m) ⟨(i 0).val, (i 0).isLt⟩).val + 1) * 1 ≤ 7; omega
    | ⟨1, _⟩ => show (0 + 1) * 256 ≤ 256; omega
    | ⟨2, _⟩ => show (0 + 1) * 12288 ≤ 12288; omega
  have hs : ∀ (i : grid0.Coords) (a : Fin 3), ((![(UpSpec.src (rank m) ⟨(i 0).val, (i 0).isLt⟩).val, 0, 0] : Fin 3 → ℕ) a + 1) * S1x256x128.size a ≤ S7x256x128.size a := by
    intro i a
    have h := (UpSpec.src (rank m) ⟨(i 0).val, (i 0).isLt⟩).isLt
    match a with
    | ⟨0, _⟩ => show ((UpSpec.src (rank m) ⟨(i 0).val, (i 0).isLt⟩).val + 1) * 1 ≤ 7; omega
    | ⟨1, _⟩ => show (0 + 1) * 256 ≤ 256; omega
    | ⟨2, _⟩ => show (0 + 1) * 128 ≤ 128; omega
  refine ⟨fun i => ?_, fun i => ?_⟩
  · have hi : ∀ a, (cc0_transform_2 k0_off1_inb numel1_S1 (tbl m) i a + 1) * S1x256x12288.size a ≤ S7x256x12288.size a := by
      rw [at_eq m i]; exact hb i
    exact ⟨hi, Or.inr (Affine.block_words_dvd (of_decide_eq_true rfl) (by decide))⟩
  · have hi : ∀ a, (cc0_transform_3 k0_off1_inb numel1_S1 (tbl m) i a + 1) * S1x256x128.size a ≤ S7x256x128.size a := by
      rw [at_eq3 m i]; exact hs i
    exact ⟨hi, Or.inl rfl⟩

end Cert.Up.Tables

namespace Cert.UpIdeal.Tables

open Cert.UpIdeal Cert.UpIdeal.Gen Idealize.ShloMosaic Idealize.ShloMosaic.TcCoe Idealize.SL.Sem

variable {F : FTy → Type} [FloatOps F] (m : (ℓ : Loc nD τ sig) → Buf (Elt F) ℓ)

/-- This device's number. -/
abbrev rank : BitVec 32 := (m (((0 : Dev nD) : Thread nD τ).loc main_arg0) : S1.Idx → BitVec 32) (ix1 (0 : Fin 1))

theorem V_v7 (c : Dev nD) (s : Fin 8) : (V m c main_v7 : S8.Idx → BitVec 32) (ix1 s) = UpTables.word ((m ((c : Thread nD τ).loc main_arg0) : S1.Idx → BitVec 32) (ix1 (0 : Fin 1))) (BitVec.ofNat 32 s.val) := by
  unfold V UpTables.word
  after_reads_at
  rfl

theorem tbl_rank : (tbl m 0 : S1.Idx → BitVec 32) (ix1 (0 : Fin 1)) = rank m := congrFun (V_main_arg0 m 0) _

theorem at_eq (i : grid0.Coords) : cc0_transform_2 k0_off1_inb numel1_S1 (tbl m) i = ![(UpSpec.src (rank m) ⟨(i 0).val, (i 0).isLt⟩).val, 0, 0] := by
  have e : (tbl m).at 1 (Rect.unit (s := S8) ![(Scalar.indexCast (BitVec.ofNat 32 (i 0).val) : Index).toNat] S1.size (k0_off1_inb i)) numel1_S1 = (tbl m 1 : S8.Idx → BitVec 32) (ix1 (⟨(i 0).val, (i 0).isLt⟩ : Fin 8)) := by
    show (tbl m 1 : S8.Idx → BitVec 32) _ = _
    congr 1
    funext a; apply Fin.ext
    match a with
    | ⟨0, _⟩ =>
      have h8 : (i 0).val < 8 := (i 0).isLt
      show (BitVec.ofNat 32 (i 0).val).toNat + 1 * 0 = (i 0).val
      rw [BitVec.toNat_ofNat]; omega
  show ![((tbl m).at 1 (Rect.unit (s := S8) ![(Scalar.indexCast (BitVec.ofNat 32 (i 0).val) : Index).toNat] S1.size (k0_off1_inb i)) numel1_S1 : BitVec 32).toNat, 0, 0] = _
  rw [e, show (tbl m 1 : S8.Idx → BitVec 32) (ix1 (⟨(i 0).val, (i 0).isLt⟩ : Fin 8)) = _ from V_v7 m 0 ⟨(i 0).val, (i 0).isLt⟩, UpTables.word_toNat]

theorem at_eq3 (i : grid0.Coords) : cc0_transform_3 k0_off1_inb numel1_S1 (tbl m) i = ![(UpSpec.src (rank m) ⟨(i 0).val, (i 0).isLt⟩).val, 0, 0] := at_eq m i

/-- Every entry is inside the other devices' arrays. -/
theorem ok : Ok m := by
  have hb : ∀ (i : grid0.Coords) (a : Fin 3), ((![(UpSpec.src (rank m) ⟨(i 0).val, (i 0).isLt⟩).val, 0, 0] : Fin 3 → ℕ) a + 1) * S1x256x12288.size a ≤ S7x256x12288.size a := by
    intro i a
    have h := (UpSpec.src (rank m) ⟨(i 0).val, (i 0).isLt⟩).isLt
    match a with
    | ⟨0, _⟩ => show ((UpSpec.src (rank m) ⟨(i 0).val, (i 0).isLt⟩).val + 1) * 1 ≤ 7; omega
    | ⟨1, _⟩ => show (0 + 1) * 256 ≤ 256; omega
    | ⟨2, _⟩ => show (0 + 1) * 12288 ≤ 12288; omega
  have hs : ∀ (i : grid0.Coords) (a : Fin 3), ((![(UpSpec.src (rank m) ⟨(i 0).val, (i 0).isLt⟩).val, 0, 0] : Fin 3 → ℕ) a + 1) * S1x256x128.size a ≤ S7x256x128.size a := by
    intro i a
    have h := (UpSpec.src (rank m) ⟨(i 0).val, (i 0).isLt⟩).isLt
    match a with
    | ⟨0, _⟩ => show ((UpSpec.src (rank m) ⟨(i 0).val, (i 0).isLt⟩).val + 1) * 1 ≤ 7; omega
    | ⟨1, _⟩ => show (0 + 1) * 256 ≤ 256; omega
    | ⟨2, _⟩ => show (0 + 1) * 128 ≤ 128; omega
  refine ⟨fun i => ?_, fun i => ?_⟩
  · have hi : ∀ a, (cc0_transform_2 k0_off1_inb numel1_S1 (tbl m) i a + 1) * S1x256x12288.size a ≤ S7x256x12288.size a := by
      rw [at_eq m i]; exact hb i
    exact ⟨hi, Or.inr (Affine.block_words_dvd (of_decide_eq_true rfl) (by decide))⟩
  · have hi : ∀ a, (cc0_transform_3 k0_off1_inb numel1_S1 (tbl m) i a + 1) * S1x256x128.size a ≤ S7x256x128.size a := by
      rw [at_eq3 m i]; exact hs i
    exact ⟨hi, Or.inl rfl⟩

end Cert.UpIdeal.Tables

end
-- ==== Proof.UpFold.lean ====
/-
  The up kernel over its grid: what the four result arrays end holding, as functions of the argument arrays.
-/
module

public import proofs.«01_k».proof.Proof.UpStep
public import proofs.«01_k».proof.Proof.UpTables
public import proofs.«01_k».proof.Proof.UpSpec
public import Idealize.ShloMosaic.Lib.Pipeline.Value
public import Idealize.ShloMosaic.Lib.StableHlo.ReadAt

@[expose] public section

set_option maxRecDepth 16384

noncomputable section

namespace Cert.UpIdeal.Fold

open Cert.UpIdeal Cert.UpIdeal.Gen Cert.UpIdeal.Blocks Cert.UpIdeal.Quant Cert.UpIdeal.Step
open Idealize.ShloMosaic Idealize.ShloMosaic.TcCoe Idealize.SL.Sem

variable (m : (ℓ : Loc nD τ sig) → Buf (Elt Ideal) ℓ) (hO : Ok m)

abbrev A0 : Vec Ideal S1 .i32 := m (((0 : Dev nD) : Thread nD τ).loc main_arg0)
abbrev A1 : Vec Ideal S256x12288 .fp8e4m3 := m (((0 : Dev nD) : Thread nD τ).loc main_arg1)
abbrev A2 : Vec Ideal S256x128 .f32 := m (((0 : Dev nD) : Thread nD τ).loc main_arg2)
abbrev A3 : Vec Ideal S7x256x12288 .fp8e4m3 := m (((0 : Dev nD) : Thread nD τ).loc main_arg3)
abbrev A4 : Vec Ideal S7x256x128 .f32 := m (((0 : Dev nD) : Thread nD τ).loc main_arg4)
abbrev A5 : Vec Ideal S12288x7168 .fp8e4m3 := m (((0 : Dev nD) : Thread nD τ).loc main_arg5)
abbrev A6 : Vec Ideal S96x56 .f32 := m (((0 : Dev nD) : Thread nD τ).loc main_arg6)

abbrev b0 (t : Fin (cfgM m hO).N) : Vec Ideal S256x12288 .fp8e4m3 := iblk m hO 0 0 t
abbrev b1 (t : Fin (cfgM m hO).N) : Vec Ideal S256x128 .f32 := iblk m hO 0 1 t
abbrev b2 (t : Fin (cfgM m hO).N) : Vec Ideal S1x256x12288 .fp8e4m3 := iblk m hO 0 2 t
abbrev b3 (t : Fin (cfgM m hO).N) : Vec Ideal S1x256x128 .f32 := iblk m hO 0 3 t
abbrev b4 (t : Fin (cfgM m hO).N) : Vec Ideal S12288x256 .fp8e4m3 := iblk m hO 0 4 t
abbrev b5 (t : Fin (cfgM m hO).N) : Vec Ideal S12288x256 .fp8e4m3 := iblk m hO 0 5 t
abbrev b6 (t : Fin (cfgM m hO).N) : Vec Ideal S96x28 .f32 := iblk m hO 0 6 t
abbrev b7 (t : Fin (cfgM m hO).N) : Vec Ideal S96x28 .f32 := iblk m hO 0 7 t

/-! ## The grid -/

theorem coord0 : ∀ t : Fin grid0.N, (grid0.coords t 0).val = t.val / 14 := by decide +kernel
theorem coord1 : ∀ t : Fin grid0.N, (grid0.coords t 1).val = t.val % 14 := by decide +kernel

theorem N112 (t : Fin grid0.N) : t.val < 112 := lt_of_lt_of_eq t.isLt N_0

theorem index0 : ∀ t : Fin grid0.N, cc0_transform_0 (grid0.coords t) (0 : Fin 2) = 0 ∧ cc0_transform_0 (grid0.coords t) (1 : Fin 2) = 0 := by decide +kernel
theorem index1 : ∀ t : Fin grid0.N, cc0_transform_1 (grid0.coords t) (0 : Fin 2) = 0 ∧ cc0_transform_1 (grid0.coords t) (1 : Fin 2) = 0 := by decide +kernel
theorem index4 : ∀ t : Fin grid0.N, cc0_transform_4 (grid0.coords t) (0 : Fin 2) = 0 ∧ cc0_transform_4 (grid0.coords t) (1 : Fin 2) = t.val % 14 := by decide +kernel
theorem index5 : ∀ t : Fin grid0.N, cc0_transform_5 (grid0.coords t) (0 : Fin 2) = 0 ∧ cc0_transform_5 (grid0.coords t) (1 : Fin 2) = 14 + t.val % 14 := by decide +kernel
theorem index6 : ∀ t : Fin grid0.N, cc0_transform_6 (grid0.coords t) (0 : Fin 2) = 0 ∧ cc0_transform_6 (grid0.coords t) (1 : Fin 2) = 0 := by decide +kernel
theorem index7 : ∀ t : Fin grid0.N, cc0_transform_7 (grid0.coords t) (0 : Fin 2) = 0 ∧ cc0_transform_7 (grid0.coords t) (1 : Fin 2) = 0 := by decide +kernel
theorem index8 : ∀ t : Fin grid0.N, cc0_transform_8 (grid0.coords t) (0 : Fin 3) = t.val / 14 ∧ cc0_transform_8 (grid0.coords t) (1 : Fin 3) = 0 ∧ cc0_transform_8 (grid0.coords t) (2 : Fin 3) = t.val % 14 := by decide +kernel
theorem index9 : ∀ t : Fin grid0.N, cc0_transform_9 (grid0.coords t) (0 : Fin 3) = t.val / 14 ∧ cc0_transform_9 (grid0.coords t) (1 : Fin 3) = 0 ∧ cc0_transform_9 (grid0.coords t) (2 : Fin 3) = 0 := by decide +kernel
theorem index10 : ∀ t : Fin grid0.N, cc0_transform_10 (grid0.coords t) (0 : Fin 3) = t.val / 14 ∧ cc0_transform_10 (grid0.coords t) (1 : Fin 3) = 0 ∧ cc0_transform_10 (grid0.coords t) (2 : Fin 3) = t.val % 14 := by decide +kernel
theorem index11 : ∀ t : Fin grid0.N, cc0_transform_11 (grid0.coords t) (0 : Fin 3) = t.val / 14 ∧ cc0_transform_11 (grid0.coords t) (1 : Fin 3) = 0 ∧ cc0_transform_11 (grid0.coords t) (2 : Fin 3) = t.val % 14 := by decide +kernel

/-- The device whose rows point `t` computes. -/
def dev (t : Fin (cfgM m hO).N) : Fin 8 := ⟨t.val / 14, by have : t.val < 112 := N112 t; omega⟩

theorem dev_val (t : Fin (cfgM m hO).N) : (dev m hO t).val = t.val / 14 := rfl

/-- The column of the whole arrays that column `x` of point `t`'s blocks is. -/
def colOf (t : Fin (cfgM m hO).N) (x : Fin 256) : Fin 3584 := ⟨256 * (t.val % 14) + x.val, by omega⟩

theorem dev_coord (t : Fin (cfgM m hO).N) : (⟨(grid0.coords t 0).val, (grid0.coords t 0).isLt⟩ : Fin 8) = dev m hO t := Fin.ext (coord0 t)

/-- The block of columns of point `t`. -/
def tile (t : Fin (cfgM m hO).N) : Fin 14 := ⟨t.val % 14, by omega⟩

theorem tile_val (t : Fin (cfgM m hO).N) : (tile m hO t).val = t.val % 14 := rfl

theorem tile_coord (t : Fin (cfgM m hO).N) : (grid0.coords t 1 : Fin 14) = tile m hO t := Fin.ext (coord1 t)

/-- The other devices' entry point `t` reads. -/
abbrev srcOf (t : Fin (cfgM m hO).N) : Fin 7 := UpSpec.src (A0 m (ix1 (0 : Fin 1))) (dev m hO t)

/-! ## The blocks -/

theorem V_v8 (a : Fin 96) (b : Fin 28) : (V m 0 main_v8 : S96x28.Idx → EReal) (ix2 a b) = A6 m (ix2 a (⟨b.val, by omega⟩ : Fin 56)) := by
  have e : V m 0 main_v8 = (extractStridedSlice S96x28 ![0, 0] (A6 m) slices_S96x56_S96x28_0_0 : S96x28.Idx → EReal) := by
    unfold V
    after_reads_at
    try rfl
  rw [e]
  unfold extractStridedSlice
  refine congrArg (A6 m) (funext fun d => Fin.ext ?_)
  match d with
  | ⟨0, _⟩ => show 0 + a.val = a.val; omega
  | ⟨1, _⟩ => show 0 + b.val = b.val; omega

theorem V_v9 (a : Fin 96) (b : Fin 28) : (V m 0 main_v9 : S96x28.Idx → EReal) (ix2 a b) = A6 m (ix2 a (⟨28 + b.val, by omega⟩ : Fin 56)) := by
  have e : V m 0 main_v9 = (extractStridedSlice S96x28 ![0, 28] (A6 m) slices_S96x56_S96x28_0_28 : S96x28.Idx → EReal) := by
    unfold V
    after_reads_at
    try rfl
  rw [e]
  unfold extractStridedSlice
  refine congrArg (A6 m) (funext fun d => Fin.ext ?_)
  match d with
  | ⟨0, _⟩ => show 0 + a.val = a.val; omega
  | ⟨1, _⟩ => rfl

theorem blk0 (t : Fin (cfgM m hO).N) (r : Fin 256) (k : Fin 12288) : b0 m hO t (ix2 r k) = A1 m (ix2 r k) := by
  obtain ⟨e0, e1⟩ := index0 t
  have e : (((cfgM m hO).win 0).blk t).view.emb (ix2 r k) = ix2 r k := by
    funext a; apply Fin.ext
    match a with
    | ⟨0, _⟩ => show cc0_transform_0 (grid0.coords t) (0 : Fin 2) * 256 + 1 * r.val = r.val; rw [e0]; omega
    | ⟨1, _⟩ => show cc0_transform_0 (grid0.coords t) (1 : Fin 2) * 12288 + 1 * k.val = k.val; rw [e1]; omega
  show V m 0 main_arg1 ((((cfgM m hO).win 0).blk t).view.emb (ix2 r k)) = _
  rw [e]
  exact congrFun (V_main_arg1 m 0) _

theorem blk1 (t : Fin (cfgM m hO).N) (r : Fin 256) (k : Fin 128) : b1 m hO t (ix2 r k) = A2 m (ix2 r k) := by
  obtain ⟨e0, e1⟩ := index1 t
  have e : (((cfgM m hO).win 1).blk t).view.emb (ix2 r k) = ix2 r k := by
    funext a; apply Fin.ext
    match a with
    | ⟨0, _⟩ => show cc0_transform_1 (grid0.coords t) (0 : Fin 2) * 256 + 1 * r.val = r.val; rw [e0]; omega
    | ⟨1, _⟩ => show cc0_transform_1 (grid0.coords t) (1 : Fin 2) * 128 + 1 * k.val = k.val; rw [e1]; omega
  show V m 0 main_arg2 ((((cfgM m hO).win 1).blk t).view.emb (ix2 r k)) = _
  rw [e]
  exact congrFun (V_main_arg2 m 0) _

theorem blk4 (t : Fin (cfgM m hO).N) (r : Fin 12288) (k : Fin 256) : b4 m hO t (ix2 r k) = A5 m (ix2 r (⟨256 * (t.val % 14) + k.val, by omega⟩ : Fin 7168)) := by
  obtain ⟨e0, e1⟩ := index4 t
  have e : (((cfgM m hO).win 4).blk t).view.emb (ix2 r k) = ix2 r (⟨256 * (t.val % 14) + k.val, by omega⟩ : Fin 7168) := by
    funext a; apply Fin.ext
    match a with
    | ⟨0, _⟩ => show cc0_transform_4 (grid0.coords t) (0 : Fin 2) * 12288 + 1 * r.val = r.val; rw [e0]; omega
    | ⟨1, _⟩ => show cc0_transform_4 (grid0.coords t) (1 : Fin 2) * 256 + 1 * k.val = 256 * (t.val % 14) + k.val; rw [e1]; omega
  show V m 0 main_arg5 ((((cfgM m hO).win 4).blk t).view.emb (ix2 r k)) = _
  rw [e]
  exact congrFun (V_main_arg5 m 0) _

theorem blk5 (t : Fin (cfgM m hO).N) (r : Fin 12288) (k : Fin 256) : b5 m hO t (ix2 r k) = A5 m (ix2 r (⟨3584 + (256 * (t.val % 14) + k.val), by omega⟩ : Fin 7168)) := by
  obtain ⟨e0, e1⟩ := index5 t
  have e : (((cfgM m hO).win 5).blk t).view.emb (ix2 r k) = ix2 r (⟨3584 + (256 * (t.val % 14) + k.val), by omega⟩ : Fin 7168) := by
    funext a; apply Fin.ext
    match a with
    | ⟨0, _⟩ => show cc0_transform_5 (grid0.coords t) (0 : Fin 2) * 12288 + 1 * r.val = r.val; rw [e0]; omega
    | ⟨1, _⟩ => show cc0_transform_5 (grid0.coords t) (1 : Fin 2) * 256 + 1 * k.val = 3584 + (256 * (t.val % 14) + k.val); rw [e1]; omega
  show V m 0 main_arg5 ((((cfgM m hO).win 5).blk t).view.emb (ix2 r k)) = _
  rw [e]
  exact congrFun (V_main_arg5 m 0) _

theorem blk6 (t : Fin (cfgM m hO).N) (r : Fin 96) (k : Fin 28) : b6 m hO t (ix2 r k) = A6 m (ix2 r (⟨k.val, by omega⟩ : Fin 56)) := by
  obtain ⟨e0, e1⟩ := index6 t
  have e : (((cfgM m hO).win 6).blk t).view.emb (ix2 r k) = ix2 r k := by
    funext a; apply Fin.ext
    match a with
    | ⟨0, _⟩ => show cc0_transform_6 (grid0.coords t) (0 : Fin 2) * 96 + 1 * r.val = r.val; rw [e0]; omega
    | ⟨1, _⟩ => show cc0_transform_6 (grid0.coords t) (1 : Fin 2) * 28 + 1 * k.val = k.val; rw [e1]; omega
  show V m 0 main_v8 ((((cfgM m hO).win 6).blk t).view.emb (ix2 r k)) = _
  rw [e]
  exact V_v8 m r k

theorem blk7 (t : Fin (cfgM m hO).N) (r : Fin 96) (k : Fin 28) : b7 m hO t (ix2 r k) = A6 m (ix2 r (⟨28 + k.val, by omega⟩ : Fin 56)) := by
  obtain ⟨e0, e1⟩ := index7 t
  have e : (((cfgM m hO).win 7).blk t).view.emb (ix2 r k) = ix2 r k := by
    funext a; apply Fin.ext
    match a with
    | ⟨0, _⟩ => show cc0_transform_7 (grid0.coords t) (0 : Fin 2) * 96 + 1 * r.val = r.val; rw [e0]; omega
    | ⟨1, _⟩ => show cc0_transform_7 (grid0.coords t) (1 : Fin 2) * 28 + 1 * k.val = k.val; rw [e1]; omega
  show V m 0 main_v9 ((((cfgM m hO).win 7).blk t).view.emb (ix2 r k)) = _
  rw [e]
  exact V_v9 m r k

section

attribute [local irreducible] cc0_transform_2 cc0_transform_3

theorem blk2 (t : Fin (cfgM m hO).N) (r : Fin 256) (k : Fin 12288) : b2 m hO t (ix3 (0 : Fin 1) r k) = A3 m (ix3 (srcOf m hO t) r k) := by
  have hx := Tables.at_eq m (grid0.coords t)
  rw [dev_coord m hO t] at hx
  have e : (((cfgM m hO).win 2).blk t).view.emb (ix3 (0 : Fin 1) r k) = ix3 (srcOf m hO t) r k := by
    funext a; apply Fin.ext
    match a with
    | ⟨0, _⟩ => show cc0_transform_2 k0_off1_inb numel1_S1 (tbl m) (grid0.coords t) (0 : Fin 3) * 1 + 1 * 0 = (srcOf m hO t).val; rw [hx]; show (srcOf m hO t).val * 1 + 1 * 0 = _; omega
    | ⟨1, _⟩ => show cc0_transform_2 k0_off1_inb numel1_S1 (tbl m) (grid0.coords t) (1 : Fin 3) * 256 + 1 * r.val = r.val; rw [hx]; show 0 * 256 + 1 * r.val = _; omega
    | ⟨2, _⟩ => show cc0_transform_2 k0_off1_inb numel1_S1 (tbl m) (grid0.coords t) (2 : Fin 3) * 12288 + 1 * k.val = k.val; rw [hx]; show 0 * 12288 + 1 * k.val = _; omega
  show V m 0 main_arg3 ((((cfgM m hO).win 2).blk t).view.emb (ix3 (0 : Fin 1) r k)) = _
  rw [e]
  exact congrFun (V_main_arg3 m 0) _

theorem blk3 (t : Fin (cfgM m hO).N) (r : Fin 256) (k : Fin 128) : b3 m hO t (ix3 (0 : Fin 1) r k) = A4 m (ix3 (srcOf m hO t) r k) := by
  have hx := Tables.at_eq3 m (grid0.coords t)
  rw [dev_coord m hO t] at hx
  have e : (((cfgM m hO).win 3).blk t).view.emb (ix3 (0 : Fin 1) r k) = ix3 (srcOf m hO t) r k := by
    funext a; apply Fin.ext
    match a with
    | ⟨0, _⟩ => show cc0_transform_3 k0_off1_inb numel1_S1 (tbl m) (grid0.coords t) (0 : Fin 3) * 1 + 1 * 0 = (srcOf m hO t).val; rw [hx]; show (srcOf m hO t).val * 1 + 1 * 0 = _; omega
    | ⟨1, _⟩ => show cc0_transform_3 k0_off1_inb numel1_S1 (tbl m) (grid0.coords t) (1 : Fin 3) * 256 + 1 * r.val = r.val; rw [hx]; show 0 * 256 + 1 * r.val = _; omega
    | ⟨2, _⟩ => show cc0_transform_3 k0_off1_inb numel1_S1 (tbl m) (grid0.coords t) (2 : Fin 3) * 128 + 1 * k.val = k.val; rw [hx]; show 0 * 128 + 1 * k.val = _; omega
  show V m 0 main_arg4 ((((cfgM m hO).win 3).blk t).view.emb (ix3 (0 : Fin 1) r k)) = _
  rw [e]
  exact congrFun (V_main_arg4 m 0) _

end

/-! ## The device's own rows or another's -/

theorem cond_iff (a b : BitVec 32) : (Scalar.cmpi .ne (Scalar.extui (Scalar.cmpi .eq a b) : BitVec 32) 0#32) = 1#1 ↔ a = b := by
  by_cases h : a = b
  · subst h
    have e : (Scalar.cmpi .eq a a : BitVec 1) = 1#1 := by show BitVec.ofBool (a == a) = 1#1; simp
    rw [e]
    exact ⟨fun _ => rfl, fun _ => by decide⟩
  · have e : (Scalar.cmpi .eq a b : BitVec 1) = 0#1 := by
      have e' : (a == b) = false := by simp [h]
      show BitVec.ofBool (a == b) = 0#1
      rw [e']; rfl
    rw [e]
    exact ⟨fun h' => absurd h' (by decide), fun h' => absurd h' h⟩

/-- The word the branch compares with. -/
abbrev wd : BitVec 32 := tbM0_0.view.readAt (Elt Ideal) (Rect.unit (s := S1) ![0] S1.size inb_S1_S1_0).toLoadRect (tbl m 0) (Shape.Idx.first (numel1_S1.symm ▸ Nat.one_pos))

theorem wd_eq : wd m = A0 m (ix1 (0 : Fin 1)) := by
  refine Eq.trans ?_ (Tables.tbl_rank m)
  show (tbl m 0 : S1.Idx → BitVec 32) _ = (tbl m 0 : S1.Idx → BitVec 32) _
  refine congrArg (tbl m 0 : S1.Idx → BitVec 32) (funext fun a => ?_)
  match a with
  | ⟨0, _⟩ => exact Subsingleton.elim (α := Fin 1) _ _

theorem cond_eq (t : Fin (cfgM m hO).N) : cond0_1 (grid0.coords t) (wd m) ↔ BitVec.ofNat 32 (dev m hO t).val = A0 m (ix1 (0 : Fin 1)) := by
  unfold cond0_1
  rw [cond_iff, wd_eq, coord0 t, dev_val]

/-! ## A point's product -/

/-- The dequantised rows of point `t`. -/
def aOf (t : Fin (cfgM m hO).N) : Vec Ideal S256x12288 .bf16 := fun y =>
  UpSpec.row (A0 m) (A1 m) (A2 m) (A3 m) (A4 m) (dev m hO t) ⟨(y 0).val, (y 0).isLt⟩ ⟨(y 1).val, (y 1).isLt⟩

theorem aOf_apply (t : Fin (cfgM m hO).N) (r : Fin 256) (k : Fin 12288) : (aOf m hO t (ix2 r k) : EReal) = UpSpec.row (A0 m) (A1 m) (A2 m) (A3 m) (A4 m) (dev m hO t) r k := rfl

theorem aLoc_apply (x0 : Vec Ideal S256x12288 .fp8e4m3) (x1 : Vec Ideal S256x128 .f32) (r : Fin 256) (k : Fin 12288) :
    (aLoc x0 x1 (ix2 r k) : EReal) = (x0 (ix2 r k) : EReal) * (x1 (ix2 r ⟨k.val / 128, by omega⟩) : EReal) := rfl

theorem aOth_apply (x2 : Vec Ideal S1x256x12288 .fp8e4m3) (x3 : Vec Ideal S1x256x128 .f32) (r : Fin 256) (k : Fin 12288) :
    (aOth x2 x3 (ix2 r k) : EReal) = (x2 (ix3 (0 : Fin 1) r k) : EReal) * (x3 (ix3 (0 : Fin 1) r ⟨k.val / 128, by omega⟩) : EReal) := rfl

theorem aLoc_eq (t : Fin (cfgM m hO).N) (h : BitVec.ofNat 32 (dev m hO t).val = A0 m (ix1 (0 : Fin 1))) : aLoc (b0 m hO t) (b1 m hO t) = aOf m hO t := by
  funext y
  idx_vars y
  refine (aLoc_apply _ _ y0 y1).trans (Eq.trans ?_ (aOf_apply m hO t y0 y1).symm)
  unfold UpSpec.row
  rw [if_pos h, blk0, blk1]

theorem aOth_eq (t : Fin (cfgM m hO).N) (h : ¬BitVec.ofNat 32 (dev m hO t).val = A0 m (ix1 (0 : Fin 1))) : aOth (b2 m hO t) (b3 m hO t) = aOf m hO t := by
  funext y
  idx_vars y
  refine (aOth_apply _ _ y0 y1).trans (Eq.trans ?_ (aOf_apply m hO t y0 y1).symm)
  unfold UpSpec.row
  rw [if_neg h, blk2, blk3]

theorem aOf_congr (t t' : Fin (cfgM m hO).N) (h : t.val / 14 = t'.val / 14) : aOf m hO t = aOf m hO t' := by
  have e : dev m hO t = dev m hO t' := Fin.ext h
  unfold aOf
  rw [e]

/-- The dequantised weights of point `t`. -/
def wOf (t : Fin (cfgM m hO).N) : Vec Ideal S12288x512 .bf16 := wBlk (tile m hO t) (b4 m hO t) (b5 m hO t) (b6 m hO t) (b7 m hO t)

theorem wBlk_gate (n : Fin 14) (x4 x5 : Vec Ideal S12288x256 .fp8e4m3) (x6 x7 : Vec Ideal S96x28 .f32) (k : Fin 12288) (x : Fin 256) :
    (wBlk n x4 x5 x6 x7 (ix2 k (⟨x.val, by omega⟩ : Fin 512)) : EReal) = (x4 (ix2 k x) : EReal) * (x6 (ix2 (⟨k.val / 128, by omega⟩ : Fin 96) (⟨2 * n.val + x.val / 128, by omega⟩ : Fin 28)) : EReal) :=
  dif_pos (show x.val < 256 from x.isLt)

theorem wBlk_up (n : Fin 14) (x4 x5 : Vec Ideal S12288x256 .fp8e4m3) (x6 x7 : Vec Ideal S96x28 .f32) (k : Fin 12288) (x : Fin 256) :
    (wBlk n x4 x5 x6 x7 (ix2 k (⟨256 + x.val, by omega⟩ : Fin 512)) : EReal) = (x5 (ix2 k x) : EReal) * (x7 (ix2 (⟨k.val / 128, by omega⟩ : Fin 96) (⟨2 * n.val + x.val / 128, by omega⟩ : Fin 28)) : EReal) := by
  have e : (⟨256 + x.val - 256, by omega⟩ : Fin 256) = x := Fin.ext (by dsimp only; omega)
  have h : ¬(256 + x.val < 256) := by omega
  refine (dif_neg h).trans ?_
  show wHalf n x5 x7 (ix2 k (⟨256 + x.val - 256, by omega⟩ : Fin 256)) = _
  rw [e]
  rfl

theorem w_gate (t : Fin (cfgM m hO).N) (k : Fin 12288) (x : Fin 256) : (wOf m hO t (ix2 k (⟨x.val, by omega⟩ : Fin 512)) : EReal) =
    (A5 m (ix2 k ⟨(colOf m hO t x).val, by have := (colOf m hO t x).isLt; omega⟩) : EReal) * (A6 m (ix2 ⟨k.val / 128, by omega⟩ ⟨(colOf m hO t x).val / 128, by have := (colOf m hO t x).isLt; omega⟩) : EReal) := by
  unfold wOf
  rw [wBlk_gate, blk4, blk6]
  have e : (⟨2 * (tile m hO t).val + x.val / 128, by have := tile_val m hO t; omega⟩ : Fin 56) = ⟨(colOf m hO t x).val / 128, by have := (colOf m hO t x).isLt; omega⟩ := by
    apply Fin.ext
    show 2 * (t.val % 14) + x.val / 128 = (256 * (t.val % 14) + x.val) / 128
    omega
  exact congrArg (fun z => (A5 m (ix2 k ⟨(colOf m hO t x).val, by have := (colOf m hO t x).isLt; omega⟩) : EReal) * (A6 m (ix2 (⟨k.val / 128, by omega⟩ : Fin 96) z) : EReal)) e

theorem w_up (t : Fin (cfgM m hO).N) (k : Fin 12288) (x : Fin 256) : (wOf m hO t (ix2 k (⟨256 + x.val, by omega⟩ : Fin 512)) : EReal) =
    (A5 m (ix2 k ⟨3584 + (colOf m hO t x).val, by have := (colOf m hO t x).isLt; omega⟩) : EReal) * (A6 m (ix2 ⟨k.val / 128, by omega⟩ ⟨(3584 + (colOf m hO t x).val) / 128, by have := (colOf m hO t x).isLt; omega⟩) : EReal) := by
  unfold wOf
  rw [wBlk_up, blk5, blk7]
  have e : (⟨28 + (2 * (tile m hO t).val + x.val / 128), by have := tile_val m hO t; omega⟩ : Fin 56) = ⟨(3584 + (colOf m hO t x).val) / 128, by have := (colOf m hO t x).isLt; omega⟩ := by
    apply Fin.ext
    show 28 + (2 * (t.val % 14) + x.val / 128) = (3584 + (256 * (t.val % 14) + x.val)) / 128
    omega
  exact congrArg (fun z => (A5 m (ix2 k ⟨3584 + (colOf m hO t x).val, by have := (colOf m hO t x).isLt; omega⟩) : EReal) * (A6 m (ix2 (⟨k.val / 128, by omega⟩ : Fin 96) z) : EReal)) e

/-- The activated products of point `t`. -/
def pOf (t : Fin (cfgM m hO).N) : FVec Ideal S256x256 .f32 := glu (mm (aOf m hO t) (wOf m hO t))

theorem glu_apply (Y : FVec Ideal S256x512 .f32) (r x : Fin 256) :
    (glu Y (ix2 r x) : EReal) = UpSpec.act (Y (ix2 r (⟨x.val, by omega⟩ : Fin 512))) (Y (ix2 r (⟨256 + x.val, by omega⟩ : Fin 512))) := rfl

theorem mm_apply (a : Vec Ideal S256x12288 .bf16) (w : Vec Ideal S12288x512 .bf16) (r : Fin 256) (x : Fin 512) :
    (mm a w (ix2 r x) : EReal) = ∑ k : Fin 12288, (a (ix2 r k) : EReal) * (w (ix2 k x) : EReal) := rfl

theorem pOf_apply (t : Fin (cfgM m hO).N) (r : Fin 256) (x : Fin 256) :
    (pOf m hO t (ix2 r x) : EReal) = UpSpec.hval (A0 m) (A1 m) (A2 m) (A3 m) (A4 m) (A5 m) (A6 m) (dev m hO t) r (colOf m hO t x) := by
  unfold pOf UpSpec.hval
  rw [glu_apply, mm_apply, mm_apply]
  refine congrArg₂ UpSpec.act ?_ ?_
  · unfold UpSpec.prod
    refine Finset.sum_congr rfl fun k _ => ?_
    rw [aOf_apply, w_gate]
  · unfold UpSpec.prod
    refine Finset.sum_congr rfl fun k _ => ?_
    rw [aOf_apply, w_up]

/-- A point's scales are the whole arrays'. -/
theorem rowScaleB_eq (t : Fin (cfgM m hO).N) (r : Fin 256) (j : Fin 2) :
    rowScaleB (pOf m hO t) r j = UpSpec.rowScale (A0 m) (A1 m) (A2 m) (A3 m) (A4 m) (A5 m) (A6 m) (dev m hO t) r ⟨2 * (t.val % 14) + j.val, by omega⟩ := by
  unfold rowScaleB UpSpec.rowScale
  refine congrArg (fun g => Quant8.scale (Quant8.mag g)) (funext fun x => ?_)
  rw [pOf_apply]
  refine congrArg (UpSpec.hval (A0 m) (A1 m) (A2 m) (A3 m) (A4 m) (A5 m) (A6 m) (dev m hO t) r) (Fin.ext ?_)
  show 256 * (t.val % 14) + (128 * j.val + x.val) = 128 * (2 * (t.val % 14) + j.val) + x.val
  omega

theorem colScaleB_eq (t : Fin (cfgM m hO).N) (b : Fin 2) (x : Fin 256) :
    colScaleB (pOf m hO t) b x = UpSpec.colScale (A0 m) (A1 m) (A2 m) (A3 m) (A4 m) (A5 m) (A6 m) (dev m hO t) b (colOf m hO t x) := by
  unfold colScaleB UpSpec.colScale
  refine congrArg (fun g => Quant8.scale (Quant8.mag g)) (funext fun r => ?_)
  rw [pOf_apply]

/-! ## The fold -/

/-- What the rows' scale block holds after point `t`: the scales of the groups met so far, zero beyond. -/
def sOf (t : Fin (cfgM m hO).N) : Vec Ideal S1x256x128 .f32 := fun y =>
  if h : (y 2).val < 2 * (t.val % 14) + 2 then
    UpSpec.rowScale (A0 m) (A1 m) (A2 m) (A3 m) (A4 m) (A5 m) (A6 m) (dev m hO t) ⟨(y 1).val, (y 1).isLt⟩ ⟨(y 2).val, by omega⟩
  else (0 : EReal)

theorem sOf_apply (t : Fin (cfgM m hO).N) (z : Fin 1) (r : Fin 256) (l : Fin 128) : (sOf m hO t (ix3 z r l) : EReal) =
    if h : l.val < 2 * (t.val % 14) + 2 then UpSpec.rowScale (A0 m) (A1 m) (A2 m) (A3 m) (A4 m) (A5 m) (A6 m) (dev m hO t) r ⟨l.val, by omega⟩ else (0 : EReal) := rfl

theorem rowScalesB_apply (n : Fin 14) (P : FVec Ideal S256x256 .f32) (p : Vec Ideal S1x256x128 .f32) (z : Fin 1) (r : Fin 256) (l : Fin 128) :
    (rowScalesB n P p (ix3 z r l) : EReal) = if h : 2 * n.val ≤ l.val ∧ l.val < 2 * n.val + 2 then rowScaleB P r ⟨l.val - 2 * n.val, by omega⟩ else (p (ix3 z r l) : EReal) := rfl

theorem step_first (t : Fin (cfgM m hO).N) (h0 : t.val % 14 = 0) : rowScalesB (tile m hO t) (pOf m hO t) (fun _ => (0 : EReal)) = sOf m hO t := by
  funext y
  idx_vars y
  refine (rowScalesB_apply _ _ _ y0 y1 y2).trans (Eq.trans ?_ (sOf_apply m hO t y0 y1 y2).symm)
  have hc := tile_val m hO t
  by_cases h : y2.val < 2 * (t.val % 14) + 2
  · rw [dif_pos h, dif_pos (by omega), rowScaleB_eq]
    congr 1
    apply Fin.ext
    show 2 * (t.val % 14) + (y2.val - 2 * (t.val % 14)) = y2.val
    omega
  · rw [dif_neg h, dif_neg (by omega)]

theorem step_next (t t' : Fin (cfgM m hO).N) (h0 : t.val = t'.val + 1) (h1 : ¬t.val % 14 = 0) : rowScalesB (tile m hO t) (pOf m hO t) (sOf m hO t') = sOf m hO t := by
  funext y
  idx_vars y
  refine (rowScalesB_apply _ _ _ y0 y1 y2).trans (Eq.trans ?_ (sOf_apply m hO t y0 y1 y2).symm)
  have hc := tile_val m hO t
  have hr : dev m hO t' = dev m hO t := Fin.ext (by show t'.val / 14 = t.val / 14; omega)
  by_cases h : y2.val < 2 * (t.val % 14) + 2
  · rw [dif_pos h]
    by_cases h' : 2 * (tile m hO t).val ≤ y2.val ∧ y2.val < 2 * (tile m hO t).val + 2
    · rw [dif_pos h', rowScaleB_eq]
      congr 1
      apply Fin.ext
      show 2 * (t.val % 14) + (y2.val - 2 * (t.val % 14)) = y2.val
      omega
    · rw [dif_neg h', sOf_apply, dif_pos (by omega), hr]
  · rw [dif_neg h, dif_neg (by omega), sOf_apply, dif_neg (by omega)]

/-- After point `t`: its codes by rows, the row scales met so far, its codes by columns and their scales, the rows it keeps. -/
abbrev stOf (t : Fin (cfgM m hO).N) := (rowCodesB (pOf m hO t), sOf m hO t, colCodesB (pOf m hO t), colScalesB (pOf m hO t), aOf m hO t)

theorem pair5 {α β γ δ ε : Type} {a a' : α} {b b' : β} {c c' : γ} {d d' : δ} {e e' : ε} (h1 : a = a') (h2 : b = b') (h3 : c = c') (h4 : d = d') (h5 : e = e') :
    (a, b, c, d, e) = (a', b', c', d', e') := by
  rw [h1, h2, h3, h4, h5]

theorem w_eq (t : Fin (cfgM m hO).N) : wBlk (grid0.coords t 1) (b4 m hO t) (b5 m hO t) (b6 m hO t) (b7 m hO t) = wOf m hO t :=
  congrArg (fun n => wBlk n (b4 m hO t) (b5 m hO t) (b6 m hO t) (b7 m hO t)) (tile_coord m hO t)

theorem p_eq (t : Fin (cfgM m hO).N) {a : Vec Ideal S256x12288 .bf16} (ha : a = aOf m hO t) :
    glu (mm a (wBlk (grid0.coords t 1) (b4 m hO t) (b5 m hO t) (b6 m hO t) (b7 m hO t))) = pOf m hO t :=
  congrArg glu (congrArg₂ mm ha (w_eq m hO t))

theorem s_eq (t : Fin (cfgM m hO).N) {P : FVec Ideal S256x256 .f32} (hP : P = pOf m hO t) {p p' : Vec Ideal S1x256x128 .f32} (hp : p = p') :
    rowScalesB (grid0.coords t 1) P p = rowScalesB (tile m hO t) (pOf m hO t) p' := by
  subst hP hp
  exact congrArg (fun n => rowScalesB n (pOf m hO t) p) (tile_coord m hO t)

theorem out_first (t : Fin (cfgM m hO).N) (h0 : t.val % 14 = 0) : outsAt0 m hO 0 t.val t.isLt = stOf m hO t := by
  by_cases h1 : cond0_1 (grid0.coords t) (wd m)
  · have ea := aLoc_eq m hO t ((cond_eq m hO t).mp h1)
    have hP := p_eq m hO t ea
    refine (outsAt0_A m hO 0 t h0 h1 h0).trans (pair5 ?_ ?_ ?_ ?_ ?_)
    · exact (out_A_8 ..).trans (congrArg rowCodesB hP)
    · exact (out_A_9 ..).trans ((s_eq m hO t hP rfl).trans (step_first m hO t h0))
    · exact (out_A_10 ..).trans (congrArg colCodesB hP)
    · exact (out_A_11 ..).trans (congrArg colScalesB hP)
    · exact (sout_A_0 ..).trans ea
  · have ea := aOth_eq m hO t (fun h => h1 ((cond_eq m hO t).mpr h))
    have hP := p_eq m hO t ea
    refine (outsAt0_B m hO 0 t h0 h1 h0).trans (pair5 ?_ ?_ ?_ ?_ ?_)
    · exact (out_B_8 ..).trans (congrArg rowCodesB hP)
    · exact (out_B_9 ..).trans ((s_eq m hO t hP rfl).trans (step_first m hO t h0))
    · exact (out_B_10 ..).trans (congrArg colCodesB hP)
    · exact (out_B_11 ..).trans (congrArg colScalesB hP)
    · exact (sout_B_0 ..).trans ea

theorem out_next (t t' : Fin (cfgM m hO).N) (h : t.val = t'.val + 1) (h0 : ¬t.val % 14 = 0) (ih : outsAt0 m hO 0 t'.val t'.isLt = stOf m hO t') :
    outsAt0 m hO 0 t.val t.isLt = stOf m hO t := by
  have ht : t'.val = t.val - 1 := by omega
  have ih' : outsAt0 m hO 0 (t.val - 1) (Nat.lt_of_le_of_lt (Nat.sub_le _ _) t.isLt) = stOf m hO t' := by
    have hg : ∀ (n : ℕ) (hn : n < (cfgM m hO).N), n = t'.val → outsAt0 m hO 0 n hn = stOf m hO t' := fun n hn e => by subst e; exact ih
    exact hg _ _ ht.symm
  have ea : (outsAt0 m hO 0 (t.val - 1) (Nat.lt_of_le_of_lt (Nat.sub_le _ _) t.isLt)).2.2.2.2 = aOf m hO t :=
    (congrArg (fun p => p.2.2.2.2) ih').trans (aOf_congr m hO _ _ (by omega))
  have e9 : (outsAt0 m hO 0 (t.val - 1) (Nat.lt_of_le_of_lt (Nat.sub_le _ _) t.isLt)).2.1 = sOf m hO t' := congrArg (fun p => p.2.1) ih'
  have hP := p_eq m hO t ea
  refine (outsAt0_C m hO 0 t h0 h0).trans (pair5 ?_ ?_ ?_ ?_ ?_)
  · exact (out_C_8 ..).trans (congrArg rowCodesB hP)
  · exact (out_C_9 ..).trans ((s_eq m hO t hP e9).trans (step_next m hO t t' h h0))
  · exact (out_C_10 ..).trans (congrArg colCodesB hP)
  · exact (out_C_11 ..).trans (congrArg colScalesB hP)
  · exact ea

theorem outsAt_eq : ∀ (n : ℕ) (h : n < (cfgM m hO).N), outsAt0 m hO 0 n h = stOf m hO ⟨n, h⟩
  | 0, h => out_first m hO ⟨0, h⟩ rfl
  | n + 1, h => by
    by_cases h0 : (n + 1) % 14 = 0
    · exact out_first m hO ⟨n + 1, h⟩ h0
    · exact out_next m hO ⟨n + 1, h⟩ ⟨n, Nat.lt_of_succ_lt h⟩ rfl h0 (outsAt_eq n (Nat.lt_of_succ_lt h))

/-! ## The result arrays -/

abbrev G8 := UpSpec.rowCodes (A0 m) (A1 m) (A2 m) (A3 m) (A4 m) (A5 m) (A6 m)
abbrev G9 := UpSpec.rowScales (A0 m) (A1 m) (A2 m) (A3 m) (A4 m) (A5 m) (A6 m)
abbrev G10 := UpSpec.colCodes (A0 m) (A1 m) (A2 m) (A3 m) (A4 m) (A5 m) (A6 m)
abbrev G11 := UpSpec.colScales (A0 m) (A1 m) (A2 m) (A3 m) (A4 m) (A5 m) (A6 m)

theorem val8 (t : Fin (cfgM m hO).N) (z : Fin 1) (r x : Fin 256) : (rowCodesB (pOf m hO t) (ix3 z r x) : EReal) = G8 m (ix3 (dev m hO t) r (colOf m hO t x)) := by
  show Quant8.code (pOf m hO t (ix2 r x)) (rowScaleB (pOf m hO t) r ⟨x.val / 128, by omega⟩) = Quant8.code (UpSpec.hval (A0 m) (A1 m) (A2 m) (A3 m) (A4 m) (A5 m) (A6 m) (dev m hO t) r (colOf m hO t x))
    (UpSpec.rowScale (A0 m) (A1 m) (A2 m) (A3 m) (A4 m) (A5 m) (A6 m) (dev m hO t) r ⟨(colOf m hO t x).val / 128, by have := (colOf m hO t x).isLt; omega⟩)
  rw [pOf_apply, rowScaleB_eq]
  refine congrArg (Quant8.code _) (congrArg (UpSpec.rowScale (A0 m) (A1 m) (A2 m) (A3 m) (A4 m) (A5 m) (A6 m) (dev m hO t) r) (Fin.ext ?_))
  show 2 * (t.val % 14) + x.val / 128 = (256 * (t.val % 14) + x.val) / 128
  omega

theorem val10 (t : Fin (cfgM m hO).N) (z : Fin 1) (r x : Fin 256) : (colCodesB (pOf m hO t) (ix3 z r x) : EReal) = G10 m (ix3 (dev m hO t) r (colOf m hO t x)) := by
  show Quant8.code (pOf m hO t (ix2 r x)) (colScaleB (pOf m hO t) ⟨r.val / 128, by omega⟩ x) = Quant8.code (UpSpec.hval (A0 m) (A1 m) (A2 m) (A3 m) (A4 m) (A5 m) (A6 m) (dev m hO t) r (colOf m hO t x))
    (UpSpec.colScale (A0 m) (A1 m) (A2 m) (A3 m) (A4 m) (A5 m) (A6 m) (dev m hO t) ⟨r.val / 128, by omega⟩ (colOf m hO t x))
  rw [pOf_apply, colScaleB_eq]

theorem val11 (t : Fin (cfgM m hO).N) (z : Fin 1) (b : Fin 2) (x : Fin 256) : (colScalesB (pOf m hO t) (ix3 z b x) : EReal) = G11 m (ix3 (dev m hO t) b (colOf m hO t x)) :=
  colScaleB_eq m hO t b x

theorem val9 (t : Fin (cfgM m hO).N) (h : t.val % 14 = 13) (z : Fin 1) (r : Fin 256) (l : Fin 128) : (sOf m hO t (ix3 z r l) : EReal) = G9 m (ix3 (dev m hO t) r l) := by
  rw [sOf_apply]
  show _ = if hl : l.val < 28 then UpSpec.rowScale (A0 m) (A1 m) (A2 m) (A3 m) (A4 m) (A5 m) (A6 m) (dev m hO t) r ⟨l.val, hl⟩ else (0 : EReal)
  by_cases hl : l.val < 28
  · rw [dif_pos hl, dif_pos (by omega)]
  · rw [dif_neg hl, dif_neg (by omega)]

theorem flushed8 (t : Fin (cfgM m hO).N) (hf : ((cfgM m hO).win 8).flush t = true) :
    (dats m hO 0 0).flushed 8 t = (((cfgM m hO).win 8).blk t).view.read (Elt Ideal) (G8 m) := by
  show ((cfgM m hO).win 8).cut (grid0.coords t) ((dats m hO 0 0).after 8 t) = _
  have ha : (dats m hO 0 0).after 8 t = rowCodesB (pOf m hO t) := (after0_8 m hO 0 t).trans (congrArg (fun p => p.1) (outsAt_eq m hO t.val t.isLt))
  obtain ⟨e0, e1, e2⟩ := index8 t
  refine funext fun (y : S1x256x256.Idx) => ?_
  have hy0 : (y 0).val < 1 := (y 0).isLt
  have hy1 : (y 1).val < 256 := (y 1).isLt
  have hy2 : (y 2).val < 256 := (y 2).isLt
  have hz : ((cfgM m hO).win 8).xinj (grid0.coords t) y = ix3 (⟨(y 0).val, hy0⟩ : Fin 1) (⟨(y 1).val, hy1⟩ : Fin 256) (⟨(y 2).val, hy2⟩ : Fin 256) := by
    funext a; match a with | ⟨0, _⟩ => rfl | ⟨1, _⟩ => rfl | ⟨2, _⟩ => rfl
  have he : (((cfgM m hO).win 8).blk t).view.emb y = ix3 (dev m hO t) (⟨(y 1).val, hy1⟩ : Fin 256) (colOf m hO t ⟨(y 2).val, hy2⟩) := by
    funext a; apply Fin.ext
    match a with
    | ⟨0, _⟩ => show cc0_transform_8 (grid0.coords t) (0 : Fin 3) * 1 + 1 * (y 0).val = t.val / 14; rw [e0]; omega
    | ⟨1, _⟩ => show cc0_transform_8 (grid0.coords t) (1 : Fin 3) * 256 + 1 * (y 1).val = (y 1).val; rw [e1]; omega
    | ⟨2, _⟩ => show cc0_transform_8 (grid0.coords t) (2 : Fin 3) * 256 + 1 * (y 2).val = 256 * (t.val % 14) + (y 2).val; rw [e2]; omega
  refine (congrFun ha (((cfgM m hO).win 8).xinj (grid0.coords t) y)).trans ?_
  exact (congrArg (rowCodesB (pOf m hO t)) hz).trans ((val8 m hO t _ _ _).trans (congrArg (G8 m) he).symm)

theorem cover8 (i : S8x256x3584.Idx) : ∃ t : Fin (cfgM m hO).N, ((cfgM m hO).win 8).flush t = true ∧ i ∈ (((cfgM m hO).win 8).blk t).view.set := by
  have hi0 : (i 0).val < 8 := (i 0).isLt
  have hi1 : (i 1).val < 256 := (i 1).isLt
  have hi2 : (i 2).val < 3584 := (i 2).isLt
  obtain ⟨t, ht⟩ : ∃ t : Fin (cfgM m hO).N, t.val = 14 * (i 0).val + (i 2).val / 256 := ⟨⟨14 * (i 0).val + (i 2).val / 256, lt_of_lt_of_eq (by omega) N_0.symm⟩, rfl⟩
  refine ⟨t, flush0_8 (adm m hO) t, ?_⟩
  obtain ⟨e0, e1, e2⟩ := index8 t
  show i ∈ ((View.whole main_v10_0).slice (((cfgM m hO).win 8).rect t)).set
  refine (congrArg (fun s => i ∈ s) (View.set_slice_whole main_v10_0 (((cfgM m hO).win 8).rect t))).mpr ?_
  refine Rect.mem_set_unit.mpr fun a => ?_
  match a with
    | ⟨0, _⟩ => show cc0_transform_8 (grid0.coords t) (0 : Fin 3) * 1 ≤ (i 0).val ∧ (i 0).val < cc0_transform_8 (grid0.coords t) (0 : Fin 3) * 1 + 1; rw [e0]; omega
    | ⟨1, _⟩ => show cc0_transform_8 (grid0.coords t) (1 : Fin 3) * 256 ≤ (i 1).val ∧ (i 1).val < cc0_transform_8 (grid0.coords t) (1 : Fin 3) * 256 + 256; rw [e1]; omega
    | ⟨2, _⟩ => show cc0_transform_8 (grid0.coords t) (2 : Fin 3) * 256 ≤ (i 2).val ∧ (i 2).val < cc0_transform_8 (grid0.coords t) (2 : Fin 3) * 256 + 256; rw [e2]; omega

theorem final8 : (dats m hO 0 0).arrAt 8 (cfgM m hO).N = G8 m :=
  (dats m hO 0 0).arrAt_eq_of_cover 8 _ (fun t hf => flushed8 m hO t hf) (fun i => cover8 m hO i)

theorem flushed9 (t : Fin (cfgM m hO).N) (hf : ((cfgM m hO).win 9).flush t = true) :
    (dats m hO 0 0).flushed 9 t = (((cfgM m hO).win 9).blk t).view.read (Elt Ideal) (G9 m) := by
  show ((cfgM m hO).win 9).cut (grid0.coords t) ((dats m hO 0 0).after 9 t) = _
  have ha : (dats m hO 0 0).after 9 t = sOf m hO t := (after0_9 m hO 0 t).trans (congrArg (fun p => p.2.1) (outsAt_eq m hO t.val t.isLt))
  obtain ⟨e0, e1, e2⟩ := index9 t
  refine funext fun (y : S1x256x128.Idx) => ?_
  have hy0 : (y 0).val < 1 := (y 0).isLt
  have hy1 : (y 1).val < 256 := (y 1).isLt
  have hy2 : (y 2).val < 128 := (y 2).isLt
  have hz : ((cfgM m hO).win 9).xinj (grid0.coords t) y = ix3 (⟨(y 0).val, hy0⟩ : Fin 1) (⟨(y 1).val, hy1⟩ : Fin 256) (⟨(y 2).val, hy2⟩ : Fin 128) := by
    funext a; match a with | ⟨0, _⟩ => rfl | ⟨1, _⟩ => rfl | ⟨2, _⟩ => rfl
  have he : (((cfgM m hO).win 9).blk t).view.emb y = ix3 (dev m hO t) (⟨(y 1).val, hy1⟩ : Fin 256) (⟨(y 2).val, hy2⟩ : Fin 128) := by
    funext a; apply Fin.ext
    match a with
    | ⟨0, _⟩ => show cc0_transform_9 (grid0.coords t) (0 : Fin 3) * 1 + 1 * (y 0).val = t.val / 14; rw [e0]; omega
    | ⟨1, _⟩ => show cc0_transform_9 (grid0.coords t) (1 : Fin 3) * 256 + 1 * (y 1).val = (y 1).val; rw [e1]; omega
    | ⟨2, _⟩ => show cc0_transform_9 (grid0.coords t) (2 : Fin 3) * 128 + 1 * (y 2).val = (y 2).val; rw [e2]; omega
  refine (congrFun ha (((cfgM m hO).win 9).xinj (grid0.coords t) y)).trans ?_
  exact (congrArg (sOf m hO t) hz).trans ((val9 m hO t ((flush0_9 (adm m hO) t).mp hf) _ _ _).trans (congrArg (G9 m) he).symm)

theorem cover9 (i : S8x256x128.Idx) : ∃ t : Fin (cfgM m hO).N, ((cfgM m hO).win 9).flush t = true ∧ i ∈ (((cfgM m hO).win 9).blk t).view.set := by
  have hi0 : (i 0).val < 8 := (i 0).isLt
  have hi1 : (i 1).val < 256 := (i 1).isLt
  have hi2 : (i 2).val < 128 := (i 2).isLt
  obtain ⟨t, ht⟩ : ∃ t : Fin (cfgM m hO).N, t.val = 14 * (i 0).val + 13 := ⟨⟨14 * (i 0).val + 13, lt_of_lt_of_eq (by omega) N_0.symm⟩, rfl⟩
  refine ⟨t, (flush0_9 (adm m hO) t).mpr (by rw [ht]; omega), ?_⟩
  obtain ⟨e0, e1, e2⟩ := index9 t
  show i ∈ ((View.whole main_v10_1).slice (((cfgM m hO).win 9).rect t)).set
  refine (congrArg (fun s => i ∈ s) (View.set_slice_whole main_v10_1 (((cfgM m hO).win 9).rect t))).mpr ?_
  refine Rect.mem_set_unit.mpr fun a => ?_
  match a with
    | ⟨0, _⟩ => show cc0_transform_9 (grid0.coords t) (0 : Fin 3) * 1 ≤ (i 0).val ∧ (i 0).val < cc0_transform_9 (grid0.coords t) (0 : Fin 3) * 1 + 1; rw [e0]; omega
    | ⟨1, _⟩ => show cc0_transform_9 (grid0.coords t) (1 : Fin 3) * 256 ≤ (i 1).val ∧ (i 1).val < cc0_transform_9 (grid0.coords t) (1 : Fin 3) * 256 + 256; rw [e1]; omega
    | ⟨2, _⟩ => show cc0_transform_9 (grid0.coords t) (2 : Fin 3) * 128 ≤ (i 2).val ∧ (i 2).val < cc0_transform_9 (grid0.coords t) (2 : Fin 3) * 128 + 128; rw [e2]; omega

theorem final9 : (dats m hO 0 0).arrAt 9 (cfgM m hO).N = G9 m :=
  (dats m hO 0 0).arrAt_eq_of_cover 9 _ (fun t hf => flushed9 m hO t hf) (fun i => cover9 m hO i)

theorem flushed10 (t : Fin (cfgM m hO).N) (hf : ((cfgM m hO).win 10).flush t = true) :
    (dats m hO 0 0).flushed 10 t = (((cfgM m hO).win 10).blk t).view.read (Elt Ideal) (G10 m) := by
  show ((cfgM m hO).win 10).cut (grid0.coords t) ((dats m hO 0 0).after 10 t) = _
  have ha : (dats m hO 0 0).after 10 t = colCodesB (pOf m hO t) := (after0_10 m hO 0 t).trans (congrArg (fun p => p.2.2.1) (outsAt_eq m hO t.val t.isLt))
  obtain ⟨e0, e1, e2⟩ := index10 t
  refine funext fun (y : S1x256x256.Idx) => ?_
  have hy0 : (y 0).val < 1 := (y 0).isLt
  have hy1 : (y 1).val < 256 := (y 1).isLt
  have hy2 : (y 2).val < 256 := (y 2).isLt
  have hz : ((cfgM m hO).win 10).xinj (grid0.coords t) y = ix3 (⟨(y 0).val, hy0⟩ : Fin 1) (⟨(y 1).val, hy1⟩ : Fin 256) (⟨(y 2).val, hy2⟩ : Fin 256) := by
    funext a; match a with | ⟨0, _⟩ => rfl | ⟨1, _⟩ => rfl | ⟨2, _⟩ => rfl
  have he : (((cfgM m hO).win 10).blk t).view.emb y = ix3 (dev m hO t) (⟨(y 1).val, hy1⟩ : Fin 256) (colOf m hO t ⟨(y 2).val, hy2⟩) := by
    funext a; apply Fin.ext
    match a with
    | ⟨0, _⟩ => show cc0_transform_10 (grid0.coords t) (0 : Fin 3) * 1 + 1 * (y 0).val = t.val / 14; rw [e0]; omega
    | ⟨1, _⟩ => show cc0_transform_10 (grid0.coords t) (1 : Fin 3) * 256 + 1 * (y 1).val = (y 1).val; rw [e1]; omega
    | ⟨2, _⟩ => show cc0_transform_10 (grid0.coords t) (2 : Fin 3) * 256 + 1 * (y 2).val = 256 * (t.val % 14) + (y 2).val; rw [e2]; omega
  refine (congrFun ha (((cfgM m hO).win 10).xinj (grid0.coords t) y)).trans ?_
  exact (congrArg (colCodesB (pOf m hO t)) hz).trans ((val10 m hO t _ _ _).trans (congrArg (G10 m) he).symm)

theorem cover10 (i : S8x256x3584.Idx) : ∃ t : Fin (cfgM m hO).N, ((cfgM m hO).win 10).flush t = true ∧ i ∈ (((cfgM m hO).win 10).blk t).view.set := by
  have hi0 : (i 0).val < 8 := (i 0).isLt
  have hi1 : (i 1).val < 256 := (i 1).isLt
  have hi2 : (i 2).val < 3584 := (i 2).isLt
  obtain ⟨t, ht⟩ : ∃ t : Fin (cfgM m hO).N, t.val = 14 * (i 0).val + (i 2).val / 256 := ⟨⟨14 * (i 0).val + (i 2).val / 256, lt_of_lt_of_eq (by omega) N_0.symm⟩, rfl⟩
  refine ⟨t, flush0_10 (adm m hO) t, ?_⟩
  obtain ⟨e0, e1, e2⟩ := index10 t
  show i ∈ ((View.whole main_v10_2).slice (((cfgM m hO).win 10).rect t)).set
  refine (congrArg (fun s => i ∈ s) (View.set_slice_whole main_v10_2 (((cfgM m hO).win 10).rect t))).mpr ?_
  refine Rect.mem_set_unit.mpr fun a => ?_
  match a with
    | ⟨0, _⟩ => show cc0_transform_10 (grid0.coords t) (0 : Fin 3) * 1 ≤ (i 0).val ∧ (i 0).val < cc0_transform_10 (grid0.coords t) (0 : Fin 3) * 1 + 1; rw [e0]; omega
    | ⟨1, _⟩ => show cc0_transform_10 (grid0.coords t) (1 : Fin 3) * 256 ≤ (i 1).val ∧ (i 1).val < cc0_transform_10 (grid0.coords t) (1 : Fin 3) * 256 + 256; rw [e1]; omega
    | ⟨2, _⟩ => show cc0_transform_10 (grid0.coords t) (2 : Fin 3) * 256 ≤ (i 2).val ∧ (i 2).val < cc0_transform_10 (grid0.coords t) (2 : Fin 3) * 256 + 256; rw [e2]; omega

theorem final10 : (dats m hO 0 0).arrAt 10 (cfgM m hO).N = G10 m :=
  (dats m hO 0 0).arrAt_eq_of_cover 10 _ (fun t hf => flushed10 m hO t hf) (fun i => cover10 m hO i)

theorem flushed11 (t : Fin (cfgM m hO).N) (hf : ((cfgM m hO).win 11).flush t = true) :
    (dats m hO 0 0).flushed 11 t = (((cfgM m hO).win 11).blk t).view.read (Elt Ideal) (G11 m) := by
  show ((cfgM m hO).win 11).cut (grid0.coords t) ((dats m hO 0 0).after 11 t) = _
  have ha : (dats m hO 0 0).after 11 t = colScalesB (pOf m hO t) := (after0_11 m hO 0 t).trans (congrArg (fun p => p.2.2.2.1) (outsAt_eq m hO t.val t.isLt))
  obtain ⟨e0, e1, e2⟩ := index11 t
  refine funext fun (y : S1x2x256.Idx) => ?_
  have hy0 : (y 0).val < 1 := (y 0).isLt
  have hy1 : (y 1).val < 2 := (y 1).isLt
  have hy2 : (y 2).val < 256 := (y 2).isLt
  have hz : ((cfgM m hO).win 11).xinj (grid0.coords t) y = ix3 (⟨(y 0).val, hy0⟩ : Fin 1) (⟨(y 1).val, hy1⟩ : Fin 2) (⟨(y 2).val, hy2⟩ : Fin 256) := by
    funext a; match a with | ⟨0, _⟩ => rfl | ⟨1, _⟩ => rfl | ⟨2, _⟩ => rfl
  have he : (((cfgM m hO).win 11).blk t).view.emb y = ix3 (dev m hO t) (⟨(y 1).val, hy1⟩ : Fin 2) (colOf m hO t ⟨(y 2).val, hy2⟩) := by
    funext a; apply Fin.ext
    match a with
    | ⟨0, _⟩ => show cc0_transform_11 (grid0.coords t) (0 : Fin 3) * 1 + 1 * (y 0).val = t.val / 14; rw [e0]; omega
    | ⟨1, _⟩ => show cc0_transform_11 (grid0.coords t) (1 : Fin 3) * 2 + 1 * (y 1).val = (y 1).val; rw [e1]; omega
    | ⟨2, _⟩ => show cc0_transform_11 (grid0.coords t) (2 : Fin 3) * 256 + 1 * (y 2).val = 256 * (t.val % 14) + (y 2).val; rw [e2]; omega
  refine (congrFun ha (((cfgM m hO).win 11).xinj (grid0.coords t) y)).trans ?_
  exact (congrArg (colScalesB (pOf m hO t)) hz).trans ((val11 m hO t _ _ _).trans (congrArg (G11 m) he).symm)

theorem cover11 (i : S8x2x3584.Idx) : ∃ t : Fin (cfgM m hO).N, ((cfgM m hO).win 11).flush t = true ∧ i ∈ (((cfgM m hO).win 11).blk t).view.set := by
  have hi0 : (i 0).val < 8 := (i 0).isLt
  have hi1 : (i 1).val < 2 := (i 1).isLt
  have hi2 : (i 2).val < 3584 := (i 2).isLt
  obtain ⟨t, ht⟩ : ∃ t : Fin (cfgM m hO).N, t.val = 14 * (i 0).val + (i 2).val / 256 := ⟨⟨14 * (i 0).val + (i 2).val / 256, lt_of_lt_of_eq (by omega) N_0.symm⟩, rfl⟩
  refine ⟨t, flush0_11 (adm m hO) t, ?_⟩
  obtain ⟨e0, e1, e2⟩ := index11 t
  show i ∈ ((View.whole main_v10_3).slice (((cfgM m hO).win 11).rect t)).set
  refine (congrArg (fun s => i ∈ s) (View.set_slice_whole main_v10_3 (((cfgM m hO).win 11).rect t))).mpr ?_
  refine Rect.mem_set_unit.mpr fun a => ?_
  match a with
    | ⟨0, _⟩ => show cc0_transform_11 (grid0.coords t) (0 : Fin 3) * 1 ≤ (i 0).val ∧ (i 0).val < cc0_transform_11 (grid0.coords t) (0 : Fin 3) * 1 + 1; rw [e0]; omega
    | ⟨1, _⟩ => show cc0_transform_11 (grid0.coords t) (1 : Fin 3) * 2 ≤ (i 1).val ∧ (i 1).val < cc0_transform_11 (grid0.coords t) (1 : Fin 3) * 2 + 2; rw [e1]; omega
    | ⟨2, _⟩ => show cc0_transform_11 (grid0.coords t) (2 : Fin 3) * 256 ≤ (i 2).val ∧ (i 2).val < cc0_transform_11 (grid0.coords t) (2 : Fin 3) * 256 + 256; rw [e2]; omega

theorem final11 : (dats m hO 0 0).arrAt 11 (cfgM m hO).N = G11 m :=
  (dats m hO 0 0).arrAt_eq_of_cover 11 _ (fun t hf => flushed11 m hO t hf) (fun i => cover11 m hO i)

/-- The run: the four results as functions of the arguments, the arguments kept. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v10_0) = UpSpec.rowCodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v10_1) = UpSpec.rowScales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v10_2) = UpSpec.colCodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v10_3) = UpSpec.colScales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ hO)
  obtain rfl : c = 0 := Subsingleton.elim (α := Fin 1) _ _
  exact ⟨((h 0).1 8).trans (final8 m hO), ((h 0).1 9).trans (final9 m hO), ((h 0).1 10).trans (final10 m hO), ((h 0).1 11).trans (final11 m hO),
      ((h 0).2 main_arg0 (by decide : main_arg0 ∈ Pipeline.restRefs sig spec0)).trans (V_main_arg0 m 0),
      ((h 0).1 0).trans (((dats m hO 0 0).arrAt_in 0 rfl _).trans ((A_eq m hO 0 0).trans (V_main_arg1 m 0))),
      ((h 0).1 1).trans (((dats m hO 0 0).arrAt_in 1 rfl _).trans ((A_eq m hO 0 1).trans (V_main_arg2 m 0))),
      ((h 0).1 2).trans (((dats m hO 0 0).arrAt_in 2 rfl _).trans ((A_eq m hO 0 2).trans (V_main_arg3 m 0))),
      ((h 0).1 3).trans (((dats m hO 0 0).arrAt_in 3 rfl _).trans ((A_eq m hO 0 3).trans (V_main_arg4 m 0))),
      ((h 0).1 5).trans (((dats m hO 0 0).arrAt_in 5 rfl _).trans ((A_eq m hO 0 5).trans (V_main_arg5 m 0))),
      ((h 0).2 main_arg6 (by decide : main_arg6 ∈ Pipeline.restRefs sig spec0)).trans (V_main_arg6 m 0)⟩

end Cert.UpIdeal.Fold

end
-- ==== Proof.DownBlocks.lean ====
/-
  What one step of the down kernel computes, block by block: the two dequantised blocks the body stages into
  its scratch buffers — the row block of `h` (`aBlk`) and the column block of `w2` (`wBlk`) — are
  the codes times their group's scale, whatever order the pieces were stored in.
-/
module

public import proofs.«01_k».proof.Proof.Gen.DownIdeal.Value
public import Idealize.ShloMosaic.Lib.Pointwise

@[expose] public section

set_option maxRecDepth 16384

noncomputable section

namespace Cert.DownIdeal.Blocks

open Cert.DownIdeal Cert.DownIdeal.Gen Idealize.ShloMosaic Idealize.ShloMosaic.TcCoe Idealize.SL.Sem

theorem hz : (![0, 0] : Fin 2 → Nat) = fun _ => 0 := funext fun a => by fin_cases a <;> rfl

/-- A covered load of a whole buffer, every piece of whose writes agrees with one function `G`, reads `G`. -/
theorem readCov_of_pieces {S : Shape} {Val : EltTy → Type} {e : EltTy} [∀ e, Nonempty (Val e)] {sig : RefSig} {κ : Kind} {sp : Space}
    (v : View sig κ sp S e) {off : Fin S.rank → Nat} (h : off = fun _ => 0) (inb : ∀ a, off a + S.size a ≤ S.size a)
    (L : List (View.Piece Val S e)) (G : S.Idx → Val e)
    (hG : ∀ p ∈ L, ∀ x : p.1.shape.Idx, p.2 x = G (p.1.emb x)) (hc : ∀ y : S.Idx, ∃ p ∈ L, y ∈ p.1.set) :
    v.readCov L (Rect.unit off S.size inb).toLoadRect = G := by
  rw [View.readCov_eq_canon_ld _ _ _ hc, View.ld_unit_zero h]
  exact funext fun y => View.canon_apply_of_pieces G L hG y (hc y)

/-- The dequantised row block of `h`: code times the scale of its group of 128 columns. -/
def aBlk (x0 : Vec Ideal S1024x3584 .fp8e4m3) (x1 : Vec Ideal S1024x128 .f32) : Vec Ideal S1024x3584 .bf16 :=
  fun y => (x0 y : EReal) * (x1 (ix2 (⟨(y 0).val, (y 0).isLt⟩ : Fin 1024) (⟨(y 1).val / 128, by have : (y 1).val < 3584 := (y 1).isLt; omega⟩ : Fin 128)) : EReal)

/-- The dequantised column block of `w2` at the step's column block `n`: code times the scale of its 128 × 128 tile. -/
def wBlk (n : Fin 24) (x2 : Vec Ideal S3584x512 .fp8e4m3) (x3 : Vec Ideal S28x96 .f32) : Vec Ideal S3584x512 .bf16 :=
  fun y => (x2 y : EReal) * (x3 (ix2 (⟨(y 0).val / 128, by have : (y 0).val < 3584 := (y 0).isLt; omega⟩ : Fin 28)
    (⟨4 * n.val + (y 1).val / 128, by have : (y 1).val < 512 := (y 1).isLt; omega⟩ : Fin 96)) : EReal)

section Pieces
variable (i : grid0.Coords)
variable (arg4 : Memref sig .tc .vmem S3584x512 .fp8e4m3) (harg4 : arg4.IsWhole) (arg5 : Memref sig .tc .smem S28x96 .f32) (harg5 : arg5.IsWhole)
variable (x2 : Vec Ideal S3584x512 .fp8e4m3) (x3 : Vec Ideal S28x96 .f32)

/-- One tile of the column block: what the body stores at rows `128k …`, columns `128j …` is `wBlk` there. -/
theorem wPiece (k j : ℕ) (o : Fin 2 → ℕ) (ho : o = ![k, 4 * (i 1).val + j])
    (r0 c0 : ℕ) (hr : r0 = 128 * k) (hc : c0 = 128 * j)
    (inb : ∀ a, (![r0, c0] : Fin 2 → ℕ) a + S128x128.size a ≤ S3584x512.size a)
    (inb5 : ∀ a, o a + S1x1.size a ≤ S28x96.size a) (hn : 0 < S1x1.numel)
    (hb : FTy.bf16.bits < FTy.f32.bits) (hb8 : FTy.fp8e4m3.bits < FTy.bf16.bits) (hs : S128x128.ShapeCasts S128x128) (x : S128x128.Idx) :
    shapeCast S128x128 (mulf (extf .bf16 (View.readAt (Elt Ideal) arg4.view (Rect.unit (s := S3584x512) ![r0, c0] S128x128.size inb).toLoadRect (harg4.unread x2) : FVec Ideal S128x128 .fp8e4m3) hb8)
      (truncf .bf16 (broadcast S128x128 (View.readAt (Elt Ideal) arg5.view (Rect.unit (s := S28x96) o S1x1.size inb5).toLoadRect (harg5.unread x3) (Shape.Idx.first hn)) : FVec Ideal S128x128 .f32) hb)) hs x
    = wBlk (i 1) x2 x3 ((Rect.unit (s := S3584x512) ![r0, c0] S128x128.size inb).emb x) := by
  subst ho hr hc
  rw [shapeCast_self]
  simp only [View.readAt_eq_ld, harg4.read_unread, harg5.read_unread]
  show (x2 _ : EReal) * (x3 _ : EReal) = (x2 _ : EReal) * (x3 _ : EReal)
  congr 1
  congr 1
  have h0 : (x 0).val < 128 := (x 0).isLt
  have h1 : (x 1).val < 128 := (x 1).isLt
  have hk := inb5 0
  have hj := inb5 1
  funext a; apply Fin.ext
  match a with
  | ⟨0, _⟩ => show k + 1 * 0 = (128 * k + 1 * (x 0).val) / 128; omega
  | ⟨1, _⟩ => show 4 * (i 1).val + j + 1 * 0 = 4 * (i 1).val + (128 * j + 1 * (x 1).val) / 128; omega

end Pieces

theorem wB (c : Dev nD) (i : grid0.Coords) (arg4 : Memref sig .tc .vmem S3584x512 .fp8e4m3) (harg4 : arg4.IsWhole) (arg5 : Memref sig .tc .smem S28x96 .f32) (harg5 : arg5.IsWhole)
    (arg9 : Memref sig .tc .vmem S3584x512 .bf16)
    (x2 : Vec Ideal S3584x512 .fp8e4m3) (x3 : Vec Ideal S28x96 .f32) :
    kernelRun0_B.sl.v1348 (F := Ideal) c i arg4 harg4 arg5 harg5 arg9 x2 x3 = wBlk (i 1) x2 x3 := by
  refine readCov_of_pieces _ hz _ _ _ ?_ (fun y => View.cover_of_tiledL (kernelRun0_B.sl.HS1_112 (F := Ideal) c i arg4 harg4 arg5 harg5 x2 x3) S128x128.size (by sl_kernel_rfl) y)
  unfold kernelRun0_B.sl.HS1_112
  refine List.forall_mem_cons.2 ⟨fun x => wPiece i arg4 harg4 arg5 harg5 x2 x3 27 3 _ (k0_off28_eq i 3) _ _ rfl rfl _ _ _ _ _ _ x, ?_⟩
  refine List.forall_mem_cons.2 ⟨fun x => wPiece i arg4 harg4 arg5 harg5 x2 x3 27 2 _ (k0_off28_eq i 2) _ _ rfl rfl _ _ _ _ _ _ x, ?_⟩
  refine List.forall_mem_cons.2 ⟨fun x => wPiece i arg4 harg4 arg5 harg5 x2 x3 27 1 _ (k0_off28_eq i 1) _ _ rfl rfl _ _ _ _ _ _ x, ?_⟩
  refine List.forall_mem_cons.2 ⟨fun x => wPiece i arg4 harg4 arg5 harg5 x2 x3 27 0 _ (k0_off28_eq i 0) _ _ rfl rfl _ _ _ _ _ _ x, ?_⟩
  refine List.forall_mem_cons.2 ⟨fun x => wPiece i arg4 harg4 arg5 harg5 x2 x3 26 3 _ (k0_off27_eq i 3) _ _ rfl rfl _ _ _ _ _ _ x, ?_⟩
  refine List.forall_mem_cons.2 ⟨fun x => wPiece i arg4 harg4 arg5 harg5 x2 x3 26 2 _ (k0_off27_eq i 2) _ _ rfl rfl _ _ _ _ _ _ x, ?_⟩
  refine List.forall_mem_cons.2 ⟨fun x => wPiece i arg4 harg4 arg5 harg5 x2 x3 26 1 _ (k0_off27_eq i 1) _ _ rfl rfl _ _ _ _ _ _ x, ?_⟩
  refine List.forall_mem_cons.2 ⟨fun x => wPiece i arg4 harg4 arg5 harg5 x2 x3 26 0 _ (k0_off27_eq i 0) _ _ rfl rfl _ _ _ _ _ _ x, ?_⟩
  refine List.forall_mem_cons.2 ⟨fun x => wPiece i arg4 harg4 arg5 harg5 x2 x3 25 3 _ (k0_off26_eq i 3) _ _ rfl rfl _ _ _ _ _ _ x, ?_⟩
  refine List.forall_mem_cons.2 ⟨fun x => wPiece i arg4 harg4 arg5 harg5 x2 x3 25 2 _ (k0_off26_eq i 2) _ _ rfl rfl _ _ _ _ _ _ x, ?_⟩
  refine List.forall_mem_cons.2 ⟨fun x => wPiece i arg4 harg4 arg5 harg5 x2 x3 25 1 _ (k0_off26_eq i 1) _ _ rfl rfl _ _ _ _ _ _ x, ?_⟩
  refine List.forall_mem_cons.2 ⟨fun x => wPiece i arg4 harg4 arg5 harg5 x2 x3 25 0 _ (k0_off26_eq i 0) _ _ rfl rfl _ _ _ _ _ _ x, ?_⟩
  refine List.forall_mem_cons.2 ⟨fun x => wPiece i arg4 harg4 arg5 harg5 x2 x3 24 3 _ (k0_off25_eq i 3) _ _ rfl rfl _ _ _ _ _ _ x, ?_⟩
  refine List.forall_mem_cons.2 ⟨fun x => wPiece i arg4 harg4 arg5 harg5 x2 x3 24 2 _ (k0_off25_eq i 2) _ _ rfl rfl _ _ _ _ _ _ x, ?_⟩
  refine List.forall_mem_cons.2 ⟨fun x => wPiece i arg4 harg4 arg5 harg5 x2 x3 24 1 _ (k0_off25_eq i 1) _ _ rfl rfl _ _ _ _ _ _ x, ?_⟩
  refine List.forall_mem_cons.2 ⟨fun x => wPiece i arg4 harg4 arg5 harg5 x2 x3 24 0 _ (k0_off25_eq i 0) _ _ rfl rfl _ _ _ _ _ _ x, ?_⟩
  refine List.forall_mem_cons.2 ⟨fun x => wPiece i arg4 harg4 arg5 harg5 x2 x3 23 3 _ (k0_off24_eq i 3) _ _ rfl rfl _ _ _ _ _ _ x, ?_⟩
  refine List.forall_mem_cons.2 ⟨fun x => wPiece i arg4 harg4 arg5 harg5 x2 x3 23 2 _ (k0_off24_eq i 2) _ _ rfl rfl _ _ _ _ _ _ x, ?_⟩
  refine List.forall_mem_cons.2 ⟨fun x => wPiece i arg4 harg4 arg5 harg5 x2 x3 23 1 _ (k0_off24_eq i 1) _ _ rfl rfl _ _ _ _ _ _ x, ?_⟩
  refine List.forall_mem_cons.2 ⟨fun x => wPiece i arg4 harg4 arg5 harg5 x2 x3 23 0 _ (k0_off24_eq i 0) _ _ rfl rfl _ _ _ _ _ _ x, ?_⟩
  refine List.forall_mem_cons.2 ⟨fun x => wPiece i arg4 harg4 arg5 harg5 x2 x3 22 3 _ (k0_off23_eq i 3) _ _ rfl rfl _ _ _ _ _ _ x, ?_⟩
  refine List.forall_mem_cons.2 ⟨fun x => wPiece i arg4 harg4 arg5 harg5 x2 x3 22 2 _ (k0_off23_eq i 2) _ _ rfl rfl _ _ _ _ _ _ x, ?_⟩
  refine List.forall_mem_cons.2 ⟨fun x => wPiece i arg4 harg4 arg5 harg5 x2 x3 22 1 _ (k0_off23_eq i 1) _ _ rfl rfl _ _ _ _ _ _ x, ?_⟩
  refine List.forall_mem_cons.2 ⟨fun x => wPiece i arg4 harg4 arg5 harg5 x2 x3 22 0 _ (k0_off23_eq i 0) _ _ rfl rfl _ _ _ _ _ _ x, ?_⟩
  refine List.forall_mem_cons.2 ⟨fun x => wPiece i arg4 harg4 arg5 harg5 x2 x3 21 3 _ (k0_off22_eq i 3) _ _ rfl rfl _ _ _ _ _ _ x, ?_⟩
  refine List.forall_mem_cons.2 ⟨fun x => wPiece i arg4 harg4 arg5 harg5 x2 x3 21 2 _ (k0_off22_eq i 2) _ _ rfl rfl _ _ _ _ _ _ x, ?_⟩
  refine List.forall_mem_cons.2 ⟨fun x => wPiece i arg4 harg4 arg5 harg5 x2 x3 21 1 _ (k0_off22_eq i 1) _ _ rfl rfl _ _ _ _ _ _ x, ?_⟩
  refine List.forall_mem_cons.2 ⟨fun x => wPiece i arg4 harg4 arg5 harg5 x2 x3 21 0 _ (k0_off22_eq i 0) _ _ rfl rfl _ _ _ _ _ _ x, ?_⟩
  refine List.forall_mem_cons.2 ⟨fun x => wPiece i arg4 harg4 arg5 harg5 x2 x3 20 3 _ (k0_off21_eq i 3) _ _ rfl rfl _ _ _ _ _ _ x, ?_⟩
  refine List.forall_mem_cons.2 ⟨fun x => wPiece i arg4 harg4 arg5 harg5 x2 x3 20 2 _ (k0_off21_eq i 2) _ _ rfl rfl _ _ _ _ _ _ x, ?_⟩
  refine List.forall_mem_cons.2 ⟨fun x => wPiece i arg4 harg4 arg5 harg5 x2 x3 20 1 _ (k0_off21_eq i 1) _ _ rfl rfl _ _ _ _ _ _ x, ?_⟩
  refine List.forall_mem_cons.2 ⟨fun x => wPiece i arg4 harg4 arg5 harg5 x2 x3 20 0 _ (k0_off21_eq i 0) _ _ rfl rfl _ _ _ _ _ _ x, ?_⟩
  refine List.forall_mem_cons.2 ⟨fun x => wPiece i arg4 harg4 arg5 harg5 x2 x3 19 3 _ (k0_off20_eq i 3) _ _ rfl rfl _ _ _ _ _ _ x, ?_⟩
  refine List.forall_mem_cons.2 ⟨fun x => wPiece i arg4 harg4 arg5 harg5 x2 x3 19 2 _ (k0_off20_eq i 2) _ _ rfl rfl _ _ _ _ _ _ x, ?_⟩
  refine List.forall_mem_cons.2 ⟨fun x => wPiece i arg4 harg4 arg5 harg5 x2 x3 19 1 _ (k0_off20_eq i 1) _ _ rfl rfl _ _ _ _ _ _ x, ?_⟩
  refine List.forall_mem_cons.2 ⟨fun x => wPiece i arg4 harg4 arg5 harg5 x2 x3 19 0 _ (k0_off20_eq i 0) _ _ rfl rfl _ _ _ _ _ _ x, ?_⟩
  refine List.forall_mem_cons.2 ⟨fun x => wPiece i arg4 harg4 arg5 harg5 x2 x3 18 3 _ (k0_off19_eq i 3) _ _ rfl rfl _ _ _ _ _ _ x, ?_⟩
  refine List.forall_mem_cons.2 ⟨fun x => wPiece i arg4 harg4 arg5 harg5 x2 x3 18 2 _ (k0_off19_eq i 2) _ _ rfl rfl _ _ _ _ _ _ x, ?_⟩
  refine List.forall_mem_cons.2 ⟨fun x => wPiece i arg4 harg4 arg5 harg5 x2 x3 18 1 _ (k0_off19_eq i 1) _ _ rfl rfl _ _ _ _ _ _ x, ?_⟩
  refine List.forall_mem_cons.2 ⟨fun x => wPiece i arg4 harg4 arg5 harg5 x2 x3 18 0 _ (k0_off19_eq i 0) _ _ rfl rfl _ _ _ _ _ _ x, ?_⟩
  refine List.forall_mem_cons.2 ⟨fun x => wPiece i arg4 harg4 arg5 harg5 x2 x3 17 3 _ (k0_off18_eq i 3) _ _ rfl rfl _ _ _ _ _ _ x, ?_⟩
  refine List.forall_mem_cons.2 ⟨fun x => wPiece i arg4 harg4 arg5 harg5 x2 x3 17 2 _ (k0_off18_eq i 2) _ _ rfl rfl _ _ _ _ _ _ x, ?_⟩
  refine List.forall_mem_cons.2 ⟨fun x => wPiece i arg4 harg4 arg5 harg5 x2 x3 17 1 _ (k0_off18_eq i 1) _ _ rfl rfl _ _ _ _ _ _ x, ?_⟩
  refine List.forall_mem_cons.2 ⟨fun x => wPiece i arg4 harg4 arg5 harg5 x2 x3 17 0 _ (k0_off18_eq i 0) _ _ rfl rfl _ _ _ _ _ _ x, ?_⟩
  refine List.forall_mem_cons.2 ⟨fun x => wPiece i arg4 harg4 arg5 harg5 x2 x3 16 3 _ (k0_off17_eq i 3) _ _ rfl rfl _ _ _ _ _ _ x, ?_⟩
  refine List.forall_mem_cons.2 ⟨fun x => wPiece i arg4 harg4 arg5 harg5 x2 x3 16 2 _ (k0_off17_eq i 2) _ _ rfl rfl _ _ _ _ _ _ x, ?_⟩
  refine List.forall_mem_cons.2 ⟨fun x => wPiece i arg4 harg4 arg5 harg5 x2 x3 16 1 _ (k0_off17_eq i 1) _ _ rfl rfl _ _ _ _ _ _ x, ?_⟩
  refine List.forall_mem_cons.2 ⟨fun x => wPiece i arg4 harg4 arg5 harg5 x2 x3 16 0 _ (k0_off17_eq i 0) _ _ rfl rfl _ _ _ _ _ _ x, ?_⟩
  refine List.forall_mem_cons.2 ⟨fun x => wPiece i arg4 harg4 arg5 harg5 x2 x3 15 3 _ (k0_off16_eq i 3) _ _ rfl rfl _ _ _ _ _ _ x, ?_⟩
  refine List.forall_mem_cons.2 ⟨fun x => wPiece i arg4 harg4 arg5 harg5 x2 x3 15 2 _ (k0_off16_eq i 2) _ _ rfl rfl _ _ _ _ _ _ x, ?_⟩
  refine List.forall_mem_cons.2 ⟨fun x => wPiece i arg4 harg4 arg5 harg5 x2 x3 15 1 _ (k0_off16_eq i 1) _ _ rfl rfl _ _ _ _ _ _ x, ?_⟩
  refine List.forall_mem_cons.2 ⟨fun x => wPiece i arg4 harg4 arg5 harg5 x2 x3 15 0 _ (k0_off16_eq i 0) _ _ rfl rfl _ _ _ _ _ _ x, ?_⟩
  refine List.forall_mem_cons.2 ⟨fun x => wPiece i arg4 harg4 arg5 harg5 x2 x3 14 3 _ (k0_off15_eq i 3) _ _ rfl rfl _ _ _ _ _ _ x, ?_⟩
  refine List.forall_mem_cons.2 ⟨fun x => wPiece i arg4 harg4 arg5 harg5 x2 x3 14 2 _ (k0_off15_eq i 2) _ _ rfl rfl _ _ _ _ _ _ x, ?_⟩
  refine List.forall_mem_cons.2 ⟨fun x => wPiece i arg4 harg4 arg5 harg5 x2 x3 14 1 _ (k0_off15_eq i 1) _ _ rfl rfl _ _ _ _ _ _ x, ?_⟩
  refine List.forall_mem_cons.2 ⟨fun x => wPiece i arg4 harg4 arg5 harg5 x2 x3 14 0 _ (k0_off15_eq i 0) _ _ rfl rfl _ _ _ _ _ _ x, ?_⟩
  refine List.forall_mem_cons.2 ⟨fun x => wPiece i arg4 harg4 arg5 harg5 x2 x3 13 3 _ (k0_off14_eq i 3) _ _ rfl rfl _ _ _ _ _ _ x, ?_⟩
  refine List.forall_mem_cons.2 ⟨fun x => wPiece i arg4 harg4 arg5 harg5 x2 x3 13 2 _ (k0_off14_eq i 2) _ _ rfl rfl _ _ _ _ _ _ x, ?_⟩
  refine List.forall_mem_cons.2 ⟨fun x => wPiece i arg4 harg4 arg5 harg5 x2 x3 13 1 _ (k0_off14_eq i 1) _ _ rfl rfl _ _ _ _ _ _ x, ?_⟩
  refine List.forall_mem_cons.2 ⟨fun x => wPiece i arg4 harg4 arg5 harg5 x2 x3 13 0 _ (k0_off14_eq i 0) _ _ rfl rfl _ _ _ _ _ _ x, ?_⟩
  refine List.forall_mem_cons.2 ⟨fun x => wPiece i arg4 harg4 arg5 harg5 x2 x3 12 3 _ (k0_off13_eq i 3) _ _ rfl rfl _ _ _ _ _ _ x, ?_⟩
  refine List.forall_mem_cons.2 ⟨fun x => wPiece i arg4 harg4 arg5 harg5 x2 x3 12 2 _ (k0_off13_eq i 2) _ _ rfl rfl _ _ _ _ _ _ x, ?_⟩
  refine List.forall_mem_cons.2 ⟨fun x => wPiece i arg4 harg4 arg5 harg5 x2 x3 12 1 _ (k0_off13_eq i 1) _ _ rfl rfl _ _ _ _ _ _ x, ?_⟩
  refine List.forall_mem_cons.2 ⟨fun x => wPiece i arg4 harg4 arg5 harg5 x2 x3 12 0 _ (k0_off13_eq i 0) _ _ rfl rfl _ _ _ _ _ _ x, ?_⟩
  refine List.forall_mem_cons.2 ⟨fun x => wPiece i arg4 harg4 arg5 harg5 x2 x3 11 3 _ (k0_off12_eq i 3) _ _ rfl rfl _ _ _ _ _ _ x, ?_⟩
  refine List.forall_mem_cons.2 ⟨fun x => wPiece i arg4 harg4 arg5 harg5 x2 x3 11 2 _ (k0_off12_eq i 2) _ _ rfl rfl _ _ _ _ _ _ x, ?_⟩
  refine List.forall_mem_cons.2 ⟨fun x => wPiece i arg4 harg4 arg5 harg5 x2 x3 11 1 _ (k0_off12_eq i 1) _ _ rfl rfl _ _ _ _ _ _ x, ?_⟩
  refine List.forall_mem_cons.2 ⟨fun x => wPiece i arg4 harg4 arg5 harg5 x2 x3 11 0 _ (k0_off12_eq i 0) _ _ rfl rfl _ _ _ _ _ _ x, ?_⟩
  refine List.forall_mem_cons.2 ⟨fun x => wPiece i arg4 harg4 arg5 harg5 x2 x3 10 3 _ (k0_off11_eq i 3) _ _ rfl rfl _ _ _ _ _ _ x, ?_⟩
  refine List.forall_mem_cons.2 ⟨fun x => wPiece i arg4 harg4 arg5 harg5 x2 x3 10 2 _ (k0_off11_eq i 2) _ _ rfl rfl _ _ _ _ _ _ x, ?_⟩
  refine List.forall_mem_cons.2 ⟨fun x => wPiece i arg4 harg4 arg5 harg5 x2 x3 10 1 _ (k0_off11_eq i 1) _ _ rfl rfl _ _ _ _ _ _ x, ?_⟩
  refine List.forall_mem_cons.2 ⟨fun x => wPiece i arg4 harg4 arg5 harg5 x2 x3 10 0 _ (k0_off11_eq i 0) _ _ rfl rfl _ _ _ _ _ _ x, ?_⟩
  refine List.forall_mem_cons.2 ⟨fun x => wPiece i arg4 harg4 arg5 harg5 x2 x3 9 3 _ (k0_off10_eq i 3) _ _ rfl rfl _ _ _ _ _ _ x, ?_⟩
  refine List.forall_mem_cons.2 ⟨fun x => wPiece i arg4 harg4 arg5 harg5 x2 x3 9 2 _ (k0_off10_eq i 2) _ _ rfl rfl _ _ _ _ _ _ x, ?_⟩
  refine List.forall_mem_cons.2 ⟨fun x => wPiece i arg4 harg4 arg5 harg5 x2 x3 9 1 _ (k0_off10_eq i 1) _ _ rfl rfl _ _ _ _ _ _ x, ?_⟩
  refine List.forall_mem_cons.2 ⟨fun x => wPiece i arg4 harg4 arg5 harg5 x2 x3 9 0 _ (k0_off10_eq i 0) _ _ rfl rfl _ _ _ _ _ _ x, ?_⟩
  refine List.forall_mem_cons.2 ⟨fun x => wPiece i arg4 harg4 arg5 harg5 x2 x3 8 3 _ (k0_off9_eq i 3) _ _ rfl rfl _ _ _ _ _ _ x, ?_⟩
  refine List.forall_mem_cons.2 ⟨fun x => wPiece i arg4 harg4 arg5 harg5 x2 x3 8 2 _ (k0_off9_eq i 2) _ _ rfl rfl _ _ _ _ _ _ x, ?_⟩
  refine List.forall_mem_cons.2 ⟨fun x => wPiece i arg4 harg4 arg5 harg5 x2 x3 8 1 _ (k0_off9_eq i 1) _ _ rfl rfl _ _ _ _ _ _ x, ?_⟩
  refine List.forall_mem_cons.2 ⟨fun x => wPiece i arg4 harg4 arg5 harg5 x2 x3 8 0 _ (k0_off9_eq i 0) _ _ rfl rfl _ _ _ _ _ _ x, ?_⟩
  refine List.forall_mem_cons.2 ⟨fun x => wPiece i arg4 harg4 arg5 harg5 x2 x3 7 3 _ (k0_off8_eq i 3) _ _ rfl rfl _ _ _ _ _ _ x, ?_⟩
  refine List.forall_mem_cons.2 ⟨fun x => wPiece i arg4 harg4 arg5 harg5 x2 x3 7 2 _ (k0_off8_eq i 2) _ _ rfl rfl _ _ _ _ _ _ x, ?_⟩
  refine List.forall_mem_cons.2 ⟨fun x => wPiece i arg4 harg4 arg5 harg5 x2 x3 7 1 _ (k0_off8_eq i 1) _ _ rfl rfl _ _ _ _ _ _ x, ?_⟩
  refine List.forall_mem_cons.2 ⟨fun x => wPiece i arg4 harg4 arg5 harg5 x2 x3 7 0 _ (k0_off8_eq i 0) _ _ rfl rfl _ _ _ _ _ _ x, ?_⟩
  refine List.forall_mem_cons.2 ⟨fun x => wPiece i arg4 harg4 arg5 harg5 x2 x3 6 3 _ (k0_off7_eq i 3) _ _ rfl rfl _ _ _ _ _ _ x, ?_⟩
  refine List.forall_mem_cons.2 ⟨fun x => wPiece i arg4 harg4 arg5 harg5 x2 x3 6 2 _ (k0_off7_eq i 2) _ _ rfl rfl _ _ _ _ _ _ x, ?_⟩
  refine List.forall_mem_cons.2 ⟨fun x => wPiece i arg4 harg4 arg5 harg5 x2 x3 6 1 _ (k0_off7_eq i 1) _ _ rfl rfl _ _ _ _ _ _ x, ?_⟩
  refine List.forall_mem_cons.2 ⟨fun x => wPiece i arg4 harg4 arg5 harg5 x2 x3 6 0 _ (k0_off7_eq i 0) _ _ rfl rfl _ _ _ _ _ _ x, ?_⟩
  refine List.forall_mem_cons.2 ⟨fun x => wPiece i arg4 harg4 arg5 harg5 x2 x3 5 3 _ (k0_off6_eq i 3) _ _ rfl rfl _ _ _ _ _ _ x, ?_⟩
  refine List.forall_mem_cons.2 ⟨fun x => wPiece i arg4 harg4 arg5 harg5 x2 x3 5 2 _ (k0_off6_eq i 2) _ _ rfl rfl _ _ _ _ _ _ x, ?_⟩
  refine List.forall_mem_cons.2 ⟨fun x => wPiece i arg4 harg4 arg5 harg5 x2 x3 5 1 _ (k0_off6_eq i 1) _ _ rfl rfl _ _ _ _ _ _ x, ?_⟩
  refine List.forall_mem_cons.2 ⟨fun x => wPiece i arg4 harg4 arg5 harg5 x2 x3 5 0 _ (k0_off6_eq i 0) _ _ rfl rfl _ _ _ _ _ _ x, ?_⟩
  refine List.forall_mem_cons.2 ⟨fun x => wPiece i arg4 harg4 arg5 harg5 x2 x3 4 3 _ (k0_off5_eq i 3) _ _ rfl rfl _ _ _ _ _ _ x, ?_⟩
  refine List.forall_mem_cons.2 ⟨fun x => wPiece i arg4 harg4 arg5 harg5 x2 x3 4 2 _ (k0_off5_eq i 2) _ _ rfl rfl _ _ _ _ _ _ x, ?_⟩
  refine List.forall_mem_cons.2 ⟨fun x => wPiece i arg4 harg4 arg5 harg5 x2 x3 4 1 _ (k0_off5_eq i 1) _ _ rfl rfl _ _ _ _ _ _ x, ?_⟩
  refine List.forall_mem_cons.2 ⟨fun x => wPiece i arg4 harg4 arg5 harg5 x2 x3 4 0 _ (k0_off5_eq i 0) _ _ rfl rfl _ _ _ _ _ _ x, ?_⟩
  refine List.forall_mem_cons.2 ⟨fun x => wPiece i arg4 harg4 arg5 harg5 x2 x3 3 3 _ (k0_off4_eq i 3) _ _ rfl rfl _ _ _ _ _ _ x, ?_⟩
  refine List.forall_mem_cons.2 ⟨fun x => wPiece i arg4 harg4 arg5 harg5 x2 x3 3 2 _ (k0_off4_eq i 2) _ _ rfl rfl _ _ _ _ _ _ x, ?_⟩
  refine List.forall_mem_cons.2 ⟨fun x => wPiece i arg4 harg4 arg5 harg5 x2 x3 3 1 _ (k0_off4_eq i 1) _ _ rfl rfl _ _ _ _ _ _ x, ?_⟩
  refine List.forall_mem_cons.2 ⟨fun x => wPiece i arg4 harg4 arg5 harg5 x2 x3 3 0 _ (k0_off4_eq i 0) _ _ rfl rfl _ _ _ _ _ _ x, ?_⟩
  refine List.forall_mem_cons.2 ⟨fun x => wPiece i arg4 harg4 arg5 harg5 x2 x3 2 3 _ (k0_off3_eq i 3) _ _ rfl rfl _ _ _ _ _ _ x, ?_⟩
  refine List.forall_mem_cons.2 ⟨fun x => wPiece i arg4 harg4 arg5 harg5 x2 x3 2 2 _ (k0_off3_eq i 2) _ _ rfl rfl _ _ _ _ _ _ x, ?_⟩
  refine List.forall_mem_cons.2 ⟨fun x => wPiece i arg4 harg4 arg5 harg5 x2 x3 2 1 _ (k0_off3_eq i 1) _ _ rfl rfl _ _ _ _ _ _ x, ?_⟩
  refine List.forall_mem_cons.2 ⟨fun x => wPiece i arg4 harg4 arg5 harg5 x2 x3 2 0 _ (k0_off3_eq i 0) _ _ rfl rfl _ _ _ _ _ _ x, ?_⟩
  refine List.forall_mem_cons.2 ⟨fun x => wPiece i arg4 harg4 arg5 harg5 x2 x3 1 3 _ (k0_off2_eq i 3) _ _ rfl rfl _ _ _ _ _ _ x, ?_⟩
  refine List.forall_mem_cons.2 ⟨fun x => wPiece i arg4 harg4 arg5 harg5 x2 x3 1 2 _ (k0_off2_eq i 2) _ _ rfl rfl _ _ _ _ _ _ x, ?_⟩
  refine List.forall_mem_cons.2 ⟨fun x => wPiece i arg4 harg4 arg5 harg5 x2 x3 1 1 _ (k0_off2_eq i 1) _ _ rfl rfl _ _ _ _ _ _ x, ?_⟩
  refine List.forall_mem_cons.2 ⟨fun x => wPiece i arg4 harg4 arg5 harg5 x2 x3 1 0 _ (k0_off2_eq i 0) _ _ rfl rfl _ _ _ _ _ _ x, ?_⟩
  refine List.forall_mem_cons.2 ⟨fun x => wPiece i arg4 harg4 arg5 harg5 x2 x3 0 3 _ (k0_off1_eq i 3) _ _ rfl rfl _ _ _ _ _ _ x, ?_⟩
  refine List.forall_mem_cons.2 ⟨fun x => wPiece i arg4 harg4 arg5 harg5 x2 x3 0 2 _ (k0_off1_eq i 2) _ _ rfl rfl _ _ _ _ _ _ x, ?_⟩
  refine List.forall_mem_cons.2 ⟨fun x => wPiece i arg4 harg4 arg5 harg5 x2 x3 0 1 _ (k0_off1_eq i 1) _ _ rfl rfl _ _ _ _ _ _ x, ?_⟩
  refine List.forall_mem_cons.2 ⟨fun x => wPiece i arg4 harg4 arg5 harg5 x2 x3 0 0 _ (k0_off1_eq i 0) _ _ rfl rfl _ _ _ _ _ _ x, ?_⟩
  exact fun p hp => absurd hp List.not_mem_nil

/-- The other case stores the same tiles. -/
theorem wA (c : Dev nD) (i : grid0.Coords) (arg4 : Memref sig .tc .vmem S3584x512 .fp8e4m3) (harg4 : arg4.IsWhole) (arg5 : Memref sig .tc .smem S28x96 .f32) (harg5 : arg5.IsWhole)
    (arg9 : Memref sig .tc .vmem S3584x512 .bf16)
    (x2 : Vec Ideal S3584x512 .fp8e4m3) (x3 : Vec Ideal S28x96 .f32) :
    kernelRun0_A.sl.v1348 (F := Ideal) c i arg4 harg4 arg5 harg5 arg9 x2 x3 = wBlk (i 1) x2 x3 :=
  (show _ = kernelRun0_B.sl.v1348 (F := Ideal) c i arg4 harg4 arg5 harg5 arg9 x2 x3 from rfl).trans (wB c i arg4 harg4 arg5 harg5 arg9 x2 x3)

/-- One strip of the row block: what the body stores at columns `128k …` is `aBlk` there. -/
theorem aPiece (arg2 : Memref sig .tc .vmem S1024x3584 .fp8e4m3) (harg2 : arg2.IsWhole) (arg3 : Memref sig .tc .vmem S1024x128 .f32) (harg3 : arg3.IsWhole)
    (x0 : Vec Ideal S1024x3584 .fp8e4m3) (x1 : Vec Ideal S1024x128 .f32)
    (k : ℕ) (c0 : ℕ) (hc : c0 = 128 * k)
    (inb : ∀ a, (![0, c0] : Fin 2 → ℕ) a + S1024x128.size a ≤ S1024x3584.size a)
    (inb1 : ∀ a, (![0, 0] : Fin 2 → ℕ) a + S1024x128.size a ≤ S1024x128.size a)
    (hb : FTy.bf16.bits < FTy.f32.bits) (hb8 : FTy.fp8e4m3.bits < FTy.bf16.bits) (hs : S1024x128.ShapeCasts S1024x128)
    (hs1 : S1024x1.ShapeCasts S1024x1) (hbc : S1024x1.Broadcasts S1024x128) (hsl : S1024x128.Slices ![0, k] S1024x1) (x : S1024x128.Idx) :
    (shapeCast S1024x128 (mulf (extf .bf16 (View.readAt (Elt Ideal) arg2.view (Rect.unit (s := S1024x3584) ![0, c0] S1024x128.size inb).toLoadRect (harg2.unread x0) : FVec Ideal S1024x128 .fp8e4m3) hb8)
      (truncf .bf16 (broadcastTo S1024x128 (shapeCast S1024x1 (extractStridedSlice (s := S1024x128) S1024x1 ![0, k]
        (View.readAt (Elt Ideal) arg3.view (Rect.unit (s := S1024x128) ![0, 0] S1024x128.size inb1).toLoadRect (harg3.unread x1) : FVec Ideal S1024x128 .f32) hsl) hs1) hbc) hb)) hs : FVec Ideal S1024x128 .bf16) x
    = aBlk x0 x1 ((Rect.unit (s := S1024x3584) ![0, c0] S1024x128.size inb).emb x) := by
  subst hc
  rw [shapeCast_self]
  refine (congrFun (shapeCast_self (s := S1024x128) _ _) x).trans ?_
  simp only [View.readAt_eq_ld, harg2.read_unread, harg3.read_unread]
  rw [View.ld_unit_zero (S := S1024x128) hz]
  show (x0 _ : EReal) * (x1 _ : EReal) = (x0 _ : EReal) * (x1 _ : EReal)
  congr 1
  congr 1
  have h0 : (x 0).val < 1024 := (x 0).isLt
  have h1 : (x 1).val < 128 := (x 1).isLt
  funext a; apply Fin.ext
  match a with
  | ⟨0, _⟩ => show 0 + (x 0).val = 0 + 1 * (x 0).val; omega
  | ⟨1, _⟩ => show k + 0 = (128 * k + 1 * (x 1).val) / 128; omega

/-- The pieces of the row block, all of one form. -/
theorem aPieces (c : Dev nD) (arg2 : Memref sig .tc .vmem S1024x3584 .fp8e4m3) (harg2 : arg2.IsWhole) (arg3 : Memref sig .tc .vmem S1024x128 .f32) (harg3 : arg3.IsWhole)
    (x0 : Vec Ideal S1024x3584 .fp8e4m3) (x1 : Vec Ideal S1024x128 .f32) :
    ∀ p ∈ kernelRun0_A.sl.HS0_28 (F := Ideal) c arg2 harg2 arg3 harg3 x0 x1, ∀ x : p.1.shape.Idx, p.2 x = aBlk x0 x1 (p.1.emb x) := by
  unfold kernelRun0_A.sl.HS0_28
  refine List.forall_mem_cons.2 ⟨fun x => aPiece arg2 harg2 arg3 harg3 x0 x1 27 _ rfl _ _ _ _ _ _ _ slices_S1024x128_o0_27_S1024x1 x, ?_⟩
  refine List.forall_mem_cons.2 ⟨fun x => aPiece arg2 harg2 arg3 harg3 x0 x1 26 _ rfl _ _ _ _ _ _ _ slices_S1024x128_o0_26_S1024x1 x, ?_⟩
  refine List.forall_mem_cons.2 ⟨fun x => aPiece arg2 harg2 arg3 harg3 x0 x1 25 _ rfl _ _ _ _ _ _ _ slices_S1024x128_o0_25_S1024x1 x, ?_⟩
  refine List.forall_mem_cons.2 ⟨fun x => aPiece arg2 harg2 arg3 harg3 x0 x1 24 _ rfl _ _ _ _ _ _ _ slices_S1024x128_o0_24_S1024x1 x, ?_⟩
  refine List.forall_mem_cons.2 ⟨fun x => aPiece arg2 harg2 arg3 harg3 x0 x1 23 _ rfl _ _ _ _ _ _ _ slices_S1024x128_o0_23_S1024x1 x, ?_⟩
  refine List.forall_mem_cons.2 ⟨fun x => aPiece arg2 harg2 arg3 harg3 x0 x1 22 _ rfl _ _ _ _ _ _ _ slices_S1024x128_o0_22_S1024x1 x, ?_⟩
  refine List.forall_mem_cons.2 ⟨fun x => aPiece arg2 harg2 arg3 harg3 x0 x1 21 _ rfl _ _ _ _ _ _ _ slices_S1024x128_o0_21_S1024x1 x, ?_⟩
  refine List.forall_mem_cons.2 ⟨fun x => aPiece arg2 harg2 arg3 harg3 x0 x1 20 _ rfl _ _ _ _ _ _ _ slices_S1024x128_o0_20_S1024x1 x, ?_⟩
  refine List.forall_mem_cons.2 ⟨fun x => aPiece arg2 harg2 arg3 harg3 x0 x1 19 _ rfl _ _ _ _ _ _ _ slices_S1024x128_o0_19_S1024x1 x, ?_⟩
  refine List.forall_mem_cons.2 ⟨fun x => aPiece arg2 harg2 arg3 harg3 x0 x1 18 _ rfl _ _ _ _ _ _ _ slices_S1024x128_o0_18_S1024x1 x, ?_⟩
  refine List.forall_mem_cons.2 ⟨fun x => aPiece arg2 harg2 arg3 harg3 x0 x1 17 _ rfl _ _ _ _ _ _ _ slices_S1024x128_o0_17_S1024x1 x, ?_⟩
  refine List.forall_mem_cons.2 ⟨fun x => aPiece arg2 harg2 arg3 harg3 x0 x1 16 _ rfl _ _ _ _ _ _ _ slices_S1024x128_o0_16_S1024x1 x, ?_⟩
  refine List.forall_mem_cons.2 ⟨fun x => aPiece arg2 harg2 arg3 harg3 x0 x1 15 _ rfl _ _ _ _ _ _ _ slices_S1024x128_o0_15_S1024x1 x, ?_⟩
  refine List.forall_mem_cons.2 ⟨fun x => aPiece arg2 harg2 arg3 harg3 x0 x1 14 _ rfl _ _ _ _ _ _ _ slices_S1024x128_o0_14_S1024x1 x, ?_⟩
  refine List.forall_mem_cons.2 ⟨fun x => aPiece arg2 harg2 arg3 harg3 x0 x1 13 _ rfl _ _ _ _ _ _ _ slices_S1024x128_o0_13_S1024x1 x, ?_⟩
  refine List.forall_mem_cons.2 ⟨fun x => aPiece arg2 harg2 arg3 harg3 x0 x1 12 _ rfl _ _ _ _ _ _ _ slices_S1024x128_o0_12_S1024x1 x, ?_⟩
  refine List.forall_mem_cons.2 ⟨fun x => aPiece arg2 harg2 arg3 harg3 x0 x1 11 _ rfl _ _ _ _ _ _ _ slices_S1024x128_o0_11_S1024x1 x, ?_⟩
  refine List.forall_mem_cons.2 ⟨fun x => aPiece arg2 harg2 arg3 harg3 x0 x1 10 _ rfl _ _ _ _ _ _ _ slices_S1024x128_o0_10_S1024x1 x, ?_⟩
  refine List.forall_mem_cons.2 ⟨fun x => aPiece arg2 harg2 arg3 harg3 x0 x1 9 _ rfl _ _ _ _ _ _ _ slices_S1024x128_o0_9_S1024x1 x, ?_⟩
  refine List.forall_mem_cons.2 ⟨fun x => aPiece arg2 harg2 arg3 harg3 x0 x1 8 _ rfl _ _ _ _ _ _ _ slices_S1024x128_o0_8_S1024x1 x, ?_⟩
  refine List.forall_mem_cons.2 ⟨fun x => aPiece arg2 harg2 arg3 harg3 x0 x1 7 _ rfl _ _ _ _ _ _ _ slices_S1024x128_o0_7_S1024x1 x, ?_⟩
  refine List.forall_mem_cons.2 ⟨fun x => aPiece arg2 harg2 arg3 harg3 x0 x1 6 _ rfl _ _ _ _ _ _ _ slices_S1024x128_o0_6_S1024x1 x, ?_⟩
  refine List.forall_mem_cons.2 ⟨fun x => aPiece arg2 harg2 arg3 harg3 x0 x1 5 _ rfl _ _ _ _ _ _ _ slices_S1024x128_o0_5_S1024x1 x, ?_⟩
  refine List.forall_mem_cons.2 ⟨fun x => aPiece arg2 harg2 arg3 harg3 x0 x1 4 _ rfl _ _ _ _ _ _ _ slices_S1024x128_o0_4_S1024x1 x, ?_⟩
  refine List.forall_mem_cons.2 ⟨fun x => aPiece arg2 harg2 arg3 harg3 x0 x1 3 _ rfl _ _ _ _ _ _ _ slices_S1024x128_o0_3_S1024x1 x, ?_⟩
  refine List.forall_mem_cons.2 ⟨fun x => aPiece arg2 harg2 arg3 harg3 x0 x1 2 _ rfl _ _ _ _ _ _ _ slices_S1024x128_o0_2_S1024x1 x, ?_⟩
  refine List.forall_mem_cons.2 ⟨fun x => aPiece arg2 harg2 arg3 harg3 x0 x1 1 _ rfl _ _ _ _ _ _ _ slices_S1024x128_o0_1_S1024x1 x, ?_⟩
  refine List.forall_mem_cons.2 ⟨fun x => aPiece arg2 harg2 arg3 harg3 x0 x1 0 _ rfl _ _ _ _ _ _ _ slices_S1024x128_o0_0_S1024x1 x, ?_⟩
  exact fun p hp => absurd hp List.not_mem_nil

theorem aA (c : Dev nD) (arg2 : Memref sig .tc .vmem S1024x3584 .fp8e4m3) (harg2 : arg2.IsWhole) (arg3 : Memref sig .tc .vmem S1024x128 .f32) (harg3 : arg3.IsWhole)
    (arg8 : Memref sig .tc .vmem S1024x3584 .bf16) (x0 : Vec Ideal S1024x3584 .fp8e4m3) (x1 : Vec Ideal S1024x128 .f32) :
    kernelRun0_A.sl.v1347 (F := Ideal) c arg2 harg2 arg3 harg3 arg8 x0 x1 = aBlk x0 x1 :=
  readCov_of_pieces _ hz _ _ _ (aPieces c arg2 harg2 arg3 harg3 x0 x1) (fun y => View.cover_of_tiledL (kernelRun0_A.sl.HS0_28 (F := Ideal) c arg2 harg2 arg3 harg3 x0 x1) S1024x128.size (by sl_kernel_rfl) y)

end Cert.DownIdeal.Blocks

end
-- ==== Proof.DownStep.lean ====
/-
  One grid step of the down kernel, as functions of the blocks it reads: the codes block it leaves is the product of the
  two dequantised blocks quantised by groups of 128 columns, the scale block is the one it found with the step's four
  lanes put in.
-/
module

public import proofs.«01_k».proof.Proof.DownBlocks
public import proofs.«01_k».proof.Proof.Quant
public import Idealize.ShloMosaic.Lib.VecWindow

@[expose] public section

set_option maxRecDepth 16384

noncomputable section

namespace Cert.DownIdeal.Step

open Cert.DownIdeal Cert.DownIdeal.Gen Cert.DownIdeal.Blocks Idealize.ShloMosaic Idealize.ShloMosaic.TcCoe Idealize.SL.Sem

/-! ## The payloads, each at an index -/

/-- The block's product. -/
def mm (a : Vec Ideal S1024x3584 .bf16) (w : Vec Ideal S3584x512 .bf16) : FVec Ideal S1024x512 .f32 :=
  fun y => ∑ k : Fin 3584, (a (ix2 (⟨(y 0).val, (y 0).isLt⟩ : Fin 1024) k) : EReal) * (w (ix2 k (⟨(y 1).val, (y 1).isLt⟩ : Fin 512)) : EReal)

theorem pay231_eq (a : Vec Ideal S1024x3584 .bf16) (w : Vec Ideal S3584x512 .bf16) : k0_pay231 a w = mm a w := by
  funext y
  idx_vars y
  pointwise [k0_pay231]
  rfl

/-- Columns `o …` of the product, 128 of them. -/
def grp (o : ℕ) (P : FVec Ideal S1024x512 .f32) (h : S1024x512.Slices ![0, o] S1024x128) : FVec Ideal S1024x128 .f32 :=
  extractStridedSlice S1024x128 ![0, o] P h

theorem grp_apply (o : ℕ) (ho : o + 128 ≤ 512) (P : FVec Ideal S1024x512 .f32) (h : S1024x512.Slices ![0, o] S1024x128) (r : Fin 1024) (l : Fin 128) :
    grp o P h (ix2 r l) = P (ix2 r ⟨o + l.val, by omega⟩) := by
  unfold grp extractStridedSlice
  congr 1
  funext a; apply Fin.ext
  match a with
  | ⟨0, _⟩ => show 0 + r.val = r.val; omega
  | ⟨1, _⟩ => rfl

/-- Each row's largest magnitude, along its lanes. -/
def maxes (g : FVec Ideal S1024x128 .f32) : FVec Ideal S1024x128 .f32 :=
  broadcastTo S1024x128 (shapeCast S1024x1 (shapeCast S1024x1 (multiReduction .maximumf [1] S1024 (absf g) 0xFF800000#32 reduces_S1024x128_S1024 (.inl rfl) rfl)
    shapeCasts_S1024_S1024x1) shapeCasts_S1024x1_S1024x1) broadcasts_S1024x1_S1024x128

theorem maxes_apply (g : FVec Ideal S1024x128 .f32) (r : Fin 1024) (l : Fin 128) :
    maxes g (ix2 r l) = Quant.amax (fun x : Fin 128 => g (ix2 r x)) := by
  pointwise [maxes, Quant.amax]

/-- The scales of largest magnitudes. -/
def scales (M : FVec Ideal S1024x128 .f32) : FVec Ideal S1024x128 .f32 :=
  select (cmpf .oeq M (broadcast S1024x128 (Scalar.ofBits .f32 0x00000000#32)))
    (broadcast S1024x128 (Scalar.ofBits .f32 0x3F800000#32)) (divf M (broadcast S1024x128 (Scalar.ofBits .f32 0x42FE0000#32)))

theorem scales_apply (M : FVec Ideal S1024x128 .f32) (g : Fin 128 → EReal) (r : Fin 1024) (l : Fin 128) (h : M (ix2 r l) = Quant.amax g) :
    scales M (ix2 r l) = Quant.scale g := by
  pointwise [scales]
  rw [h]
  rfl

/-- The codes of a group at its scales. -/
def codes (g s : FVec Ideal S1024x128 .f32) : IVec S1024x128 8 :=
  fptosi 8 (minimumf (broadcast S1024x128 (Scalar.ofBits .f32 0x42FE0000#32)) (maximumf (broadcast S1024x128 (Scalar.ofBits .f32 0xC2FE0000#32)) (roundeven (divf g s))))

theorem codes_apply (g s : FVec Ideal S1024x128 .f32) (r : Fin 1024) (l : Fin 128) :
    codes g s (ix2 r l) = Quant.code (g (ix2 r l)) (s (ix2 r l)) := by
  pointwise [codes, Quant.code]

/-- A block with lane `4n + j` replaced by a column. -/
def lane (n j : BitVec 32) (s : FVec Ideal S1024x128 .f32) (p : Vec Ideal S1024x128 .f32) : FVec Ideal S1024x128 .f32 :=
  select (cmpi .eq (iota .tc S1024x128 32 [1] iota_S1024x128_d1_w32) (broadcast S1024x128 (Scalar.addi (Scalar.muli n 4#32) j))) s (shapeCast S1024x128 p shapeCasts_S1024x128_S1024x128)

theorem lane_cond : ∀ (n : Fin 24) (j : Fin 4) (l : Fin 128),
    IntOp.cmpi CmpIPredicate.eq (BitVec.ofNat 32 l.val) (Scalar.addi (Scalar.muli (BitVec.ofNat 32 n.val) 4#32) (BitVec.ofNat 32 j.val)) = (if l.val = 4 * n.val + j.val then 1#1 else 0#1) := by
  decide +kernel

theorem lane_apply (n : Fin 24) (j : Fin 4) (s : FVec Ideal S1024x128 .f32) (p : Vec Ideal S1024x128 .f32) (r : Fin 1024) (l : Fin 128) :
    lane (BitVec.ofNat 32 n.val) (BitVec.ofNat 32 j.val) s p (ix2 r l) = (if l.val = 4 * n.val + j.val then (s (ix2 r l) : EReal) else (p (ix2 r l) : EReal)) := by
  pointwise [lane]
  rw [lane_cond]
  split <;> rfl

/-! ## The step's two results as functions of its product -/

/-- The scale of row `r`'s group `j` of 128 columns of the block. -/
def scaleB (P : FVec Ideal S1024x512 .f32) (r : Fin 1024) (j : Fin 4) : EReal :=
  Quant.scale fun x : Fin 128 => (P (ix2 r (⟨128 * j.val + x.val, by omega⟩ : Fin 512)) : EReal)

/-- The codes block. -/
def codesB (P : FVec Ideal S1024x512 .f32) : IVec S1024x512 8 := fun y =>
  Quant.code (P y) (scaleB P ⟨(y 0).val, (y 0).isLt⟩ ⟨(y 1).val / 128, by have : (y 1).val < 512 := (y 1).isLt; omega⟩)

/-- The scale block: the step's four lanes put into the block it found. -/
def scalesB (n : Fin 24) (P : FVec Ideal S1024x512 .f32) (p : Vec Ideal S1024x128 .f32) : Vec Ideal S1024x128 .f32 := fun y =>
  if h : 4 * n.val ≤ (y 1).val ∧ (y 1).val < 4 * n.val + 4 then scaleB P ⟨(y 0).val, (y 0).isLt⟩ ⟨(y 1).val - 4 * n.val, by omega⟩ else (p y : EReal)

theorem scale_apply (P : FVec Ideal S1024x512 .f32) (j : Fin 4) (o : ℕ) (ho : o = 128 * j.val) (h : S1024x512.Slices ![0, o] S1024x128) (r : Fin 1024) (l : Fin 128) :
    scales (maxes (grp o P h)) (ix2 r l) = scaleB P r j := by
  subst ho
  refine scales_apply _ _ r l ?_
  rw [maxes_apply]
  exact congrArg Quant.amax (funext fun x => grp_apply _ (by omega) P h r x)

theorem codes_piece (P : FVec Ideal S1024x512 .f32) (j : Fin 4) (o : ℕ) (ho : o = 128 * j.val) (h : S1024x512.Slices ![0, o] S1024x128)
    (inb : ∀ a, (![0, o] : Fin 2 → ℕ) a + S1024x128.size a ≤ S1024x512.size a) (x : S1024x128.Idx) :
    codes (grp o P h) (scales (maxes (grp o P h))) x = codesB P ((Rect.unit (s := S1024x512) ![0, o] S1024x128.size inb).emb x) := by
  idx_vars x
  rw [codes_apply, scale_apply P j o ho, grp_apply o (by omega)]
  subst ho
  unfold codesB
  have e : (Rect.unit (s := S1024x512) ![0, 128 * j.val] S1024x128.size inb).emb (ix2 x0 x1) = (ix2 x0 ⟨128 * j.val + x1.val, by omega⟩ : S1024x512.Idx) := by
    funext a; apply Fin.ext
    match a with
    | ⟨0, _⟩ => show 0 + 1 * x0.val = x0.val; omega
    | ⟨1, _⟩ => show 128 * j.val + 1 * x1.val = 128 * j.val + x1.val; omega
  rw [e]
  congr 2
  apply Fin.ext
  show j.val = (128 * j.val + x1.val) / 128
  omega

theorem scalesB_of (n : Fin 24) (P : FVec Ideal S1024x512 .f32) (p : Vec Ideal S1024x128 .f32)
    (h0 : S1024x512.Slices ![0, 0] S1024x128) (h1 : S1024x512.Slices ![0, 128] S1024x128) (h2 : S1024x512.Slices ![0, 256] S1024x128) (h3 : S1024x512.Slices ![0, 384] S1024x128) :
    lane (BitVec.ofNat 32 n.val) 3#32 (scales (maxes (grp 384 P h3))) (lane (BitVec.ofNat 32 n.val) 2#32 (scales (maxes (grp 256 P h2)))
      (lane (BitVec.ofNat 32 n.val) 1#32 (scales (maxes (grp 128 P h1))) (lane (BitVec.ofNat 32 n.val) 0#32 (scales (maxes (grp 0 P h0))) p))) = scalesB n P p := by
  funext y
  idx_vars y
  rw [show (3#32 : BitVec 32) = BitVec.ofNat 32 (3 : Fin 4).val from rfl, show (2#32 : BitVec 32) = BitVec.ofNat 32 (2 : Fin 4).val from rfl,
    show (1#32 : BitVec 32) = BitVec.ofNat 32 (1 : Fin 4).val from rfl, show (0#32 : BitVec 32) = BitVec.ofNat 32 (0 : Fin 4).val from rfl]
  rw [lane_apply, lane_apply, lane_apply, lane_apply, scale_apply P 3 384 rfl, scale_apply P 2 256 rfl, scale_apply P 1 128 rfl, scale_apply P 0 0 rfl]
  have e : scalesB n P p (ix2 y0 y1) = if h : 4 * n.val ≤ y1.val ∧ y1.val < 4 * n.val + 4 then scaleB P y0 ⟨y1.val - 4 * n.val, by omega⟩ else (p (ix2 y0 y1) : EReal) := rfl
  rw [e]
  by_cases h : 4 * n.val ≤ y1.val ∧ y1.val < 4 * n.val + 4
  · rw [dif_pos h]
    have hc : y1.val - 4 * n.val = 0 ∨ y1.val - 4 * n.val = 1 ∨ y1.val - 4 * n.val = 2 ∨ y1.val - 4 * n.val = 3 := by omega
    rcases hc with hc | hc | hc | hc
    · rw [if_neg (by show ¬ y1.val = 4 * n.val + 3; omega), if_neg (by show ¬ y1.val = 4 * n.val + 2; omega), if_neg (by show ¬ y1.val = 4 * n.val + 1; omega), if_pos (by show y1.val = 4 * n.val + 0; omega)]
      exact congrArg _ (Fin.ext hc.symm)
    · rw [if_neg (by show ¬ y1.val = 4 * n.val + 3; omega), if_neg (by show ¬ y1.val = 4 * n.val + 2; omega), if_pos (by show y1.val = 4 * n.val + 1; omega)]
      exact congrArg _ (Fin.ext hc.symm)
    · rw [if_neg (by show ¬ y1.val = 4 * n.val + 3; omega), if_pos (by show y1.val = 4 * n.val + 2; omega)]
      exact congrArg _ (Fin.ext hc.symm)
    · rw [if_pos (by show y1.val = 4 * n.val + 3; omega)]
      exact congrArg _ (Fin.ext hc.symm)
  · rw [dif_neg h, if_neg (by show ¬ y1.val = 4 * n.val + 3; omega), if_neg (by show ¬ y1.val = 4 * n.val + 2; omega), if_neg (by show ¬ y1.val = 4 * n.val + 1; omega), if_neg (by show ¬ y1.val = 4 * n.val + 0; omega)]

/-- The codes block from its four pieces, whatever they were written over. -/
theorem codesB_canon (P : FVec Ideal S1024x512 .f32)
    (h0 : S1024x512.Slices ![0, 0] S1024x128) (h1 : S1024x512.Slices ![0, 128] S1024x128) (h2 : S1024x512.Slices ![0, 256] S1024x128) (h3 : S1024x512.Slices ![0, 384] S1024x128)
    (L : List (View.Piece (Elt Ideal) S1024x512 .i8))
    (hL : L = [⟨Rect.unit ![0, 384] S1024x128.size inb_S1024x512_S1024x128_0_384, codes (grp 384 P h3) (scales (maxes (grp 384 P h3)))⟩,
      ⟨Rect.unit ![0, 256] S1024x128.size inb_S1024x512_S1024x128_0_256, codes (grp 256 P h2) (scales (maxes (grp 256 P h2)))⟩,
      ⟨Rect.unit ![0, 128] S1024x128.size inb_S1024x512_S1024x128_0_128, codes (grp 128 P h1) (scales (maxes (grp 128 P h1)))⟩,
      ⟨Rect.unit ![0, 0] S1024x128.size inb_S1024x512_S1024x128_0_0, codes (grp 0 P h0) (scales (maxes (grp 0 P h0)))⟩])
    (hc : ∀ y, ∃ p ∈ L, y ∈ p.1.set) : View.canon L = codesB P := by
  funext y
  refine View.canon_apply_of_pieces _ L ?_ y (hc y)
  intro p hp
  rw [hL] at hp
  simp only [List.mem_cons, List.not_mem_nil, or_false] at hp
  rcases hp with rfl | rfl | rfl | rfl
  · exact fun x => codes_piece P 3 384 rfl h3 inb_S1024x512_S1024x128_0_384 x
  · exact fun x => codes_piece P 2 256 rfl h2 inb_S1024x512_S1024x128_0_256 x
  · exact fun x => codes_piece P 1 128 rfl h1 inb_S1024x512_S1024x128_0_128 x
  · exact fun x => codes_piece P 0 0 rfl h0 inb_S1024x512_S1024x128_0_0 x

/-! ## The two cases of the body -/

section Cases
variable (c : Dev nD) (i : grid0.Coords)
  (arg2 : Memref sig .tc .vmem S1024x3584 .fp8e4m3) (harg2 : arg2.IsWhole) (arg3 : Memref sig .tc .vmem S1024x128 .f32) (harg3 : arg3.IsWhole)
  (arg4 : Memref sig .tc .vmem S3584x512 .fp8e4m3) (harg4 : arg4.IsWhole) (arg5 : Memref sig .tc .smem S28x96 .f32) (harg5 : arg5.IsWhole)
  (arg6 : Memref sig .tc .vmem S1024x512 .i8) (harg6 : arg6.IsWhole) (arg7 : Memref sig .tc .vmem S1024x128 .f32) (harg7 : arg7.IsWhole)
  (arg8 : Memref sig .tc .vmem S1024x3584 .bf16) (harg8 : arg8.IsWhole) (arg9 : Memref sig .tc .vmem S3584x512 .bf16) (harg9 : arg9.IsWhole)
  (x0 : Vec Ideal S1024x3584 .fp8e4m3) (x1 : Vec Ideal S1024x128 .f32) (x2 : Vec Ideal S3584x512 .fp8e4m3) (x3 : Vec Ideal S28x96 .f32)
  (xo5 : Vec Ideal S1024x128 .f32) (xs0 : Vec Ideal S1024x3584 .bf16)

theorem a8 : View.readAt (Elt Ideal) arg8.view (Rect.unit ![0, 0] S1024x3584.size inb_S1024x3584_S1024x3584_0_0).toLoadRect (harg8.unread xs0) = xs0 := by
  rw [View.readAt_eq_ld, harg8.read_unread, View.ld_unit_zero (S := S1024x3584) hz]

theorem a7 : View.readAt (Elt Ideal) arg7.view (Rect.unit ![0, 0] S1024x128.size inb_S1024x128_S1024x128_0_0).toLoadRect (harg7.unread xo5) = xo5 := by
  rw [View.readAt_eq_ld, harg7.read_unread, View.ld_unit_zero (S := S1024x128) hz]

theorem prod_A : kernelRun0_A.sl.r_201 (F := Ideal) c i arg2 harg2 arg3 harg3 arg4 harg4 arg5 harg5 arg8 arg9 x0 x1 x2 x3 = mm (aBlk x0 x1) (wBlk (i 1) x2 x3) := by
  unfold kernelRun0_A.sl.r_201
  rw [pay231_eq, wA, aA]

theorem out_A_4 (hc : cond0_0 i) : out0_A_4 (F := Ideal) c i arg2 harg2 arg3 harg3 arg4 harg4 arg5 harg5 arg6 harg6 arg7 harg7 arg8 harg8 arg9 harg9 hc x0 x1 x2 x3 = codesB (mm (aBlk x0 x1) (wBlk (i 1) x2 x3)) := by
  unfold out0_A_4
  rw [View.read_writes_eq_canon _ _ _ (cover0_A_4 c i arg2 harg2 arg3 harg3 arg4 harg4 arg5 harg5 arg6 harg6 arg7 harg7 arg8 harg8 arg9 harg9 hc x0 x1 x2 x3), ← prod_A c i arg2 harg2 arg3 harg3 arg4 harg4 arg5 harg5 arg8 arg9 x0 x1 x2 x3]
  refine codesB_canon _ slices_S1024x512_o0_0_S1024x128 slices_S1024x512_o0_128_S1024x128 slices_S1024x512_o0_256_S1024x128 slices_S1024x512_o0_384_S1024x128 _ ?_
    (cover0_A_4 c i arg2 harg2 arg3 harg3 arg4 harg4 arg5 harg5 arg6 harg6 arg7 harg7 arg8 harg8 arg9 harg9 hc x0 x1 x2 x3)
  unfold kernelRun0_A
  rfl

theorem prod_B : kernelRun0_B.sl.r_186 (F := Ideal) c i arg4 harg4 arg5 harg5 arg8 harg8 arg9 x2 x3 xs0 = mm (xs0) (wBlk (i 1) x2 x3) := by
  unfold kernelRun0_B.sl.r_186
  rw [pay231_eq, wB, a8]

theorem out_B_4 (hc : ¬cond0_0 i) : out0_B_4 (F := Ideal) c i arg2 harg2 arg3 harg3 arg4 harg4 arg5 harg5 arg6 harg6 arg7 harg7 arg8 harg8 arg9 harg9 hc x0 x1 x2 x3 xo5 xs0 = codesB (mm (xs0) (wBlk (i 1) x2 x3)) := by
  unfold out0_B_4
  rw [View.read_writes_eq_canon _ _ _ (cover0_B_4 c i arg2 harg2 arg3 harg3 arg4 harg4 arg5 harg5 arg6 harg6 arg7 harg7 arg8 harg8 arg9 harg9 hc x0 x1 x2 x3 xo5 xs0), ← prod_B c i arg4 harg4 arg5 harg5 arg8 harg8 arg9 x2 x3 xs0]
  refine codesB_canon _ slices_S1024x512_o0_0_S1024x128 slices_S1024x512_o0_128_S1024x128 slices_S1024x512_o0_256_S1024x128 slices_S1024x512_o0_384_S1024x128 _ ?_
    (cover0_B_4 c i arg2 harg2 arg3 harg3 arg4 harg4 arg5 harg5 arg6 harg6 arg7 harg7 arg8 harg8 arg9 harg9 hc x0 x1 x2 x3 xo5 xs0)
  unfold kernelRun0_B
  rfl

theorem out_A_5 (hc : cond0_0 i) : out0_A_5 (F := Ideal) c i arg2 harg2 arg3 harg3 arg4 harg4 arg5 harg5 arg6 harg6 arg7 harg7 arg8 harg8 arg9 harg9 hc x0 x1 x2 x3 = scalesB (i 1) (mm (aBlk x0 x1) (wBlk (i 1) x2 x3)) (fun _ => (0 : EReal)) := by
  unfold out0_A_5
  rw [View.read_writes_eq_canon _ _ _ (cover0_A_5 c i arg2 harg2 arg3 harg3 arg4 harg4 arg5 harg5 arg6 harg6 arg7 harg7 arg8 harg8 arg9 harg9 hc x0 x1 x2 x3), ← prod_A c i arg2 harg2 arg3 harg3 arg4 harg4 arg5 harg5 arg8 arg9 x0 x1 x2 x3]
  unfold kernelRun0_A
  dsimp only
  rw [View.canon_cons_unit_zero (S := S1024x128) hz]
  rw [← scalesB_of (i 1) _ _ slices_S1024x512_o0_0_S1024x128 slices_S1024x512_o0_128_S1024x128 slices_S1024x512_o0_256_S1024x128 slices_S1024x512_o0_384_S1024x128]
  have e1 : kernelRun0_A.sl.v1372 (F := Ideal) c arg7 = (fun _ => (0 : EReal)) := by
    unfold kernelRun0_A.sl.v1372 kernelRun0_A.sl.H5_1
    rw [View.readCov_full]
    funext y
    pointwise [k0_pay2]
  have e2 : kernelRun0_A.sl.v1401 (F := Ideal) c i arg2 harg2 arg3 harg3 arg4 harg4 arg5 harg5 arg7 arg8 arg9 x0 x1 x2 x3 = _ := View.readCov_full _ _ _ _ _
  have e3 : kernelRun0_A.sl.v1430 (F := Ideal) c i arg2 harg2 arg3 harg3 arg4 harg4 arg5 harg5 arg7 arg8 arg9 x0 x1 x2 x3 = _ := View.readCov_full _ _ _ _ _
  have e4 : kernelRun0_A.sl.v1459 (F := Ideal) c i arg2 harg2 arg3 harg3 arg4 harg4 arg5 harg5 arg7 arg8 arg9 x0 x1 x2 x3 = _ := View.readCov_full _ _ _ _ _
  rw [e4, e3]
  unfold kernelRun0_A.sl.r_205
  rw [e2, e1]
  rfl

theorem out_B_5 (hc : ¬cond0_0 i) : out0_B_5 (F := Ideal) c i arg2 harg2 arg3 harg3 arg4 harg4 arg5 harg5 arg6 harg6 arg7 harg7 arg8 harg8 arg9 harg9 hc x0 x1 x2 x3 xo5 xs0 = scalesB (i 1) (mm xs0 (wBlk (i 1) x2 x3)) xo5 := by
  unfold out0_B_5
  rw [View.read_writes_eq_canon _ _ _ (cover0_B_5 c i arg2 harg2 arg3 harg3 arg4 harg4 arg5 harg5 arg6 harg6 arg7 harg7 arg8 harg8 arg9 harg9 hc x0 x1 x2 x3 xo5 xs0), ← prod_B c i arg4 harg4 arg5 harg5 arg8 harg8 arg9 x2 x3 xs0]
  unfold kernelRun0_B
  dsimp only
  rw [View.canon_cons_unit_zero (S := S1024x128) hz]
  rw [← scalesB_of (i 1) _ _ slices_S1024x512_o0_0_S1024x128 slices_S1024x512_o0_128_S1024x128 slices_S1024x512_o0_256_S1024x128 slices_S1024x512_o0_384_S1024x128]
  have e2 : kernelRun0_B.sl.v1401 (F := Ideal) c i arg4 harg4 arg5 harg5 arg7 harg7 arg8 harg8 arg9 x2 x3 xo5 xs0 = _ := View.readCov_full _ _ _ _ _
  have e3 : kernelRun0_B.sl.v1430 (F := Ideal) c i arg4 harg4 arg5 harg5 arg7 harg7 arg8 harg8 arg9 x2 x3 xo5 xs0 = _ := View.readCov_full _ _ _ _ _
  have e4 : kernelRun0_B.sl.v1459 (F := Ideal) c i arg4 harg4 arg5 harg5 arg7 harg7 arg8 harg8 arg9 x2 x3 xo5 xs0 = _ := View.readCov_full _ _ _ _ _
  rw [e4, e3]
  unfold kernelRun0_B.sl.r_190
  rw [e2, a7 arg7 harg7 xo5]
  rfl

theorem sout_A_0 (hc : cond0_0 i) : sout0_A_0 (F := Ideal) c i arg2 harg2 arg3 harg3 arg4 harg4 arg5 harg5 arg6 harg6 arg7 harg7 arg8 harg8 arg9 harg9 hc x0 x1 x2 x3 = aBlk x0 x1 := by
  unfold sout0_A_0
  rw [View.read_writes_eq_canon _ _ _ (scover0_A_0 c i arg2 harg2 arg3 harg3 arg4 harg4 arg5 harg5 arg6 harg6 arg7 harg7 arg8 harg8 arg9 harg9 hc x0 x1 x2 x3)]
  funext y
  refine View.canon_apply_of_pieces _ _ ?_ y (scover0_A_0 c i arg2 harg2 arg3 harg3 arg4 harg4 arg5 harg5 arg6 harg6 arg7 harg7 arg8 harg8 arg9 harg9 hc x0 x1 x2 x3 y)
  exact aPieces c arg2 harg2 arg3 harg3 x0 x1

end Cases

end Cert.DownIdeal.Step

end
-- ==== Proof.DownSpec.lean ====
/-
  The down projection over the extended reals, index by index: the product of the dequantised operands, and its
  groups of 128 columns quantised.
-/
module

public import proofs.«01_k».proof.Proof.Quant

@[expose] public section

noncomputable section

namespace Cert.DownSpec

open Idealize.ShloMosaic

variable (h : FVec Ideal ⟨2, ![2048, 3584]⟩ .fp8e4m3) (hs : FVec Ideal ⟨2, ![2048, 128]⟩ .f32)
  (w : FVec Ideal ⟨2, ![3584, 12288]⟩ .fp8e4m3) (ws : FVec Ideal ⟨2, ![28, 96]⟩ .f32)

/-- Row `R`, column `C` of the product of the dequantised operands. -/
def prod (R : Fin 2048) (C : Fin 12288) : EReal :=
  ∑ k : Fin 3584, ((h (ix2 R k) : EReal) * (hs (ix2 R ⟨k.val / 128, by omega⟩) : EReal))
    * ((w (ix2 k C) : EReal) * (ws (ix2 ⟨k.val / 128, by omega⟩ ⟨C.val / 128, by omega⟩) : EReal))

/-- The scale of row `R`'s group `l` of 128 columns. -/
def scale (R : Fin 2048) (l : Fin 96) : EReal :=
  Quant.scale fun x : Fin 128 => prod h hs w ws R ⟨l.val * 128 + x.val, by omega⟩

/-- The codes. -/
def codes : IVec ⟨2, ![2048, 12288]⟩ 8 := fun y =>
  Quant.code (prod h hs w ws (y 0) (y 1)) (scale h hs w ws (y 0) ⟨(y 1).val / 128, by have : (y 1).val < 12288 := (y 1).isLt; omega⟩)

/-- The scales, 96 of a row's 128 lanes; the rest zero. -/
def scales : FVec Ideal ⟨2, ![2048, 128]⟩ .f32 := fun y =>
  if hl : (y 1).val < 96 then scale h hs w ws (y 0) ⟨(y 1).val, hl⟩ else (0 : EReal)

end Cert.DownSpec

end
-- ==== Proof.DownFold.lean ====
/-
  The down kernel over its grid: what the two result arrays end holding, as functions of the argument arrays.
-/
module

public import proofs.«01_k».proof.Proof.DownStep
public import proofs.«01_k».proof.Proof.DownSpec
public import proofs.«01_k».proof.Proof.Gen.DownIdeal.Value

@[expose] public section

set_option maxRecDepth 16384

noncomputable section

namespace Cert.DownIdeal.Fold

open Cert.DownIdeal Cert.DownIdeal.Gen Cert.DownIdeal.Blocks Cert.DownIdeal.Step Cert.DownIdeal.Value
open Idealize.ShloMosaic Idealize.ShloMosaic.TcCoe Idealize.SL.Sem

variable (m : (ℓ : Loc nD τ sig) → Buf (Elt Ideal) ℓ) (c : Dev nD)

abbrev A0 : Vec Ideal S2048x3584 .fp8e4m3 := m ((c : Thread nD τ).loc main_arg0)
abbrev A1 : Vec Ideal S2048x128 .f32 := m ((c : Thread nD τ).loc main_arg1)
abbrev A2 : Vec Ideal S3584x12288 .fp8e4m3 := m ((c : Thread nD τ).loc main_arg2)
abbrev A3 : Vec Ideal S28x96 .f32 := m ((c : Thread nD τ).loc main_arg3)

abbrev b0 (t : Fin cfg0.N) : Vec Ideal S1024x3584 .fp8e4m3 := iblk m c 0 t
abbrev b1 (t : Fin cfg0.N) : Vec Ideal S1024x128 .f32 := iblk m c 1 t
abbrev b2 (t : Fin cfg0.N) : Vec Ideal S3584x512 .fp8e4m3 := iblk m c 2 t
abbrev b3 (t : Fin cfg0.N) : Vec Ideal S28x96 .f32 := iblk m c 3 t

/-! ## The grid -/

theorem coord0 : ∀ t : Fin cfg0.N, (grid0.coords t 0).val = t.val / 24 := by decide +kernel
theorem coord1 : ∀ t : Fin cfg0.N, (grid0.coords t 1).val = t.val % 24 := by decide +kernel

theorem index0 : ∀ t : Fin cfg0.N, win0_0.index t (0 : Fin 2) = t.val / 24 ∧ win0_0.index t (1 : Fin 2) = 0 := by decide +kernel
theorem index1 : ∀ t : Fin cfg0.N, win0_1.index t (0 : Fin 2) = t.val / 24 ∧ win0_1.index t (1 : Fin 2) = 0 := by decide +kernel
theorem index2 : ∀ t : Fin cfg0.N, win0_2.index t (0 : Fin 2) = 0 ∧ win0_2.index t (1 : Fin 2) = t.val % 24 := by decide +kernel
theorem index3 : ∀ t : Fin cfg0.N, win0_3.index t (0 : Fin 2) = 0 ∧ win0_3.index t (1 : Fin 2) = 0 := by decide +kernel

theorem N48 (t : Fin cfg0.N) : t.val < 48 := lt_of_lt_of_eq t.isLt (show cfg0.N = 48 from N_0)

/-- The row of the whole arrays that row `r` of point `t`'s blocks is. -/
def rowOf (t : Fin cfg0.N) (r : Fin 1024) : Fin 2048 := ⟨1024 * (t.val / 24) + r.val, by have := N48 t; omega⟩
/-- The column of the whole arrays that column `x` of point `t`'s blocks is. -/
def colOf (t : Fin cfg0.N) (x : Fin 512) : Fin 12288 := ⟨512 * (t.val % 24) + x.val, by omega⟩

theorem blk0 (t : Fin cfg0.N) (r : Fin 1024) (k : Fin 3584) : b0 m c t (ix2 r k) = A0 m c (ix2 (rowOf t r) k) := by
  obtain ⟨e0, e1⟩ := index0 t
  show A0 m c (((cfg0.win 0).blk t).view.emb (ix2 r k)) = _
  congr 1
  funext a; apply Fin.ext
  match a with
  | ⟨0, _⟩ => show win0_0.index t (0 : Fin 2) * 1024 + 1 * r.val = 1024 * (t.val / 24) + r.val; rw [e0]; omega
  | ⟨1, _⟩ => show win0_0.index t (1 : Fin 2) * 3584 + 1 * k.val = k.val; rw [e1]; omega

theorem blk1 (t : Fin cfg0.N) (r : Fin 1024) (l : Fin 128) : b1 m c t (ix2 r l) = A1 m c (ix2 (rowOf t r) l) := by
  obtain ⟨e0, e1⟩ := index1 t
  show A1 m c (((cfg0.win 1).blk t).view.emb (ix2 r l)) = _
  congr 1
  funext a; apply Fin.ext
  match a with
  | ⟨0, _⟩ => show win0_1.index t (0 : Fin 2) * 1024 + 1 * r.val = 1024 * (t.val / 24) + r.val; rw [e0]; omega
  | ⟨1, _⟩ => show win0_1.index t (1 : Fin 2) * 128 + 1 * l.val = l.val; rw [e1]; omega

theorem blk2 (t : Fin cfg0.N) (k : Fin 3584) (x : Fin 512) : b2 m c t (ix2 k x) = A2 m c (ix2 k (colOf t x)) := by
  obtain ⟨e0, e1⟩ := index2 t
  show A2 m c (((cfg0.win 2).blk t).view.emb (ix2 k x)) = _
  congr 1
  funext a; apply Fin.ext
  match a with
  | ⟨0, _⟩ => show win0_2.index t (0 : Fin 2) * 3584 + 1 * k.val = k.val; rw [e0]; omega
  | ⟨1, _⟩ => show win0_2.index t (1 : Fin 2) * 512 + 1 * x.val = 512 * (t.val % 24) + x.val; rw [e1]; omega

theorem blk3 (t : Fin cfg0.N) (a : Fin 28) (b : Fin 96) : b3 m c t (ix2 a b) = A3 m c (ix2 a b) := by
  obtain ⟨e0, e1⟩ := index3 t
  show A3 m c (((cfg0.win 3).blk t).view.emb (ix2 a b)) = _
  congr 1
  funext d; apply Fin.ext
  match d with
  | ⟨0, _⟩ => show win0_3.index t (0 : Fin 2) * 28 + 1 * a.val = a.val; rw [e0]; omega
  | ⟨1, _⟩ => show win0_3.index t (1 : Fin 2) * 96 + 1 * b.val = b.val; rw [e1]; omega

/-! ## A point's product -/

/-- The dequantised rows of point `t`. -/
def aOf (t : Fin cfg0.N) : Vec Ideal S1024x3584 .bf16 := aBlk (iblk m c 0 t) (iblk m c 1 t)

theorem aOf_apply (t : Fin cfg0.N) (r : Fin 1024) (k : Fin 3584) :
    (aOf m c t (ix2 r k) : EReal) = (A0 m c (ix2 (rowOf t r) k) : EReal) * (A1 m c (ix2 (rowOf t r) ⟨k.val / 128, by omega⟩) : EReal) := by
  have e : aOf m c t (ix2 r k) = (b0 m c t (ix2 r k) : EReal) * (b1 m c t (ix2 r ⟨k.val / 128, by omega⟩) : EReal) := rfl
  rw [e, blk0, blk1]

theorem aOf_congr (t t' : Fin cfg0.N) (h : t.val / 24 = t'.val / 24) : aOf m c t = aOf m c t' := by
  funext y
  idx_vars y
  have e : rowOf t y0 = rowOf t' y0 := Fin.ext (by unfold rowOf; dsimp only; rw [h])
  refine (aOf_apply m c t y0 y1).trans (Eq.trans ?_ (aOf_apply m c t' y0 y1).symm)
  rw [e]

/-- The product of point `t`. -/
def pOf (t : Fin cfg0.N) : FVec Ideal S1024x512 .f32 := mm (aOf m c t) (wBlk (grid0.coords t 1) (iblk m c 2 t) (iblk m c 3 t))

theorem pOf_apply (t : Fin cfg0.N) (r : Fin 1024) (x : Fin 512) :
    (pOf m c t (ix2 r x) : EReal) = DownSpec.prod (A0 m c) (A1 m c) (A2 m c) (A3 m c) (rowOf t r) (colOf t x) := by
  have e : (pOf m c t (ix2 r x) : EReal) = ∑ k : Fin 3584, (aOf m c t (ix2 r k) : EReal) * ((b2 m c t (ix2 k x) : EReal) *
      (b3 m c t (ix2 ⟨k.val / 128, by omega⟩ ⟨4 * (grid0.coords t 1).val + x.val / 128, by have := coord1 t; omega⟩) : EReal)) := rfl
  rw [e]
  unfold DownSpec.prod
  refine Finset.sum_congr rfl fun k _ => ?_
  rw [aOf_apply, blk2, blk3]
  have e2 : (⟨4 * (grid0.coords t 1).val + x.val / 128, by have := coord1 t; omega⟩ : Fin 96) = ⟨(colOf t x).val / 128, by have := (colOf t x).isLt; omega⟩ := by
    apply Fin.ext
    show 4 * (grid0.coords t 1).val + x.val / 128 = (512 * (t.val % 24) + x.val) / 128
    rw [coord1 t]; omega
  rw [e2]

/-- A point's scales are the whole arrays'. -/
theorem scaleB_eq (t : Fin cfg0.N) (r : Fin 1024) (j : Fin 4) :
    scaleB (pOf m c t) r j = DownSpec.scale (A0 m c) (A1 m c) (A2 m c) (A3 m c) (rowOf t r) ⟨4 * (t.val % 24) + j.val, by omega⟩ := by
  unfold scaleB DownSpec.scale
  refine congrArg Quant.scale (funext fun x => ?_)
  rw [pOf_apply]
  congr 1
  apply Fin.ext
  show 512 * (t.val % 24) + (128 * j.val + x.val) = (4 * (t.val % 24) + j.val) * 128 + x.val
  omega

/-! ## The fold -/

/-- What the scale block holds after point `t`: the scales of the groups met so far in its row of blocks, zero beyond. -/
def sOf (t : Fin cfg0.N) : Vec Ideal S1024x128 .f32 := fun y =>
  if h : (y 1).val < 4 * (t.val % 24) + 4 then
    DownSpec.scale (A0 m c) (A1 m c) (A2 m c) (A3 m c) (rowOf t ⟨(y 0).val, (y 0).isLt⟩) ⟨(y 1).val, by omega⟩
  else (0 : EReal)

theorem sOf_apply (t : Fin cfg0.N) (r : Fin 1024) (l : Fin 128) : (sOf m c t (ix2 r l) : EReal) =
    if h : l.val < 4 * (t.val % 24) + 4 then DownSpec.scale (A0 m c) (A1 m c) (A2 m c) (A3 m c) (rowOf t r) ⟨l.val, by omega⟩ else (0 : EReal) := rfl

theorem scalesB_apply (n : Fin 24) (P : FVec Ideal S1024x512 .f32) (p : Vec Ideal S1024x128 .f32) (r : Fin 1024) (l : Fin 128) :
    (scalesB n P p (ix2 r l) : EReal) = if h : 4 * n.val ≤ l.val ∧ l.val < 4 * n.val + 4 then scaleB P r ⟨l.val - 4 * n.val, by omega⟩ else (p (ix2 r l) : EReal) := rfl

theorem step_first (t : Fin cfg0.N) (h0 : t.val % 24 = 0) : scalesB (grid0.coords t 1) (pOf m c t) (fun _ => (0 : EReal)) = sOf m c t := by
  funext y
  idx_vars y
  refine (scalesB_apply _ _ _ y0 y1).trans (Eq.trans ?_ (sOf_apply m c t y0 y1).symm)
  have hc := coord1 t
  by_cases h : y1.val < 4 * (t.val % 24) + 4
  · rw [dif_pos h, dif_pos (by omega), scaleB_eq]
    congr 1
    apply Fin.ext
    show 4 * (t.val % 24) + (y1.val - 4 * (grid0.coords t 1).val) = y1.val
    omega
  · rw [dif_neg h, dif_neg (by omega)]

theorem step_next (t t' : Fin cfg0.N) (h0 : t.val = t'.val + 1) (h1 : ¬t.val % 24 = 0) : scalesB (grid0.coords t 1) (pOf m c t) (sOf m c t') = sOf m c t := by
  funext y
  idx_vars y
  refine (scalesB_apply _ _ _ y0 y1).trans (Eq.trans ?_ (sOf_apply m c t y0 y1).symm)
  have hc := coord1 t
  have hr : rowOf t' y0 = rowOf t y0 := Fin.ext (by show 1024 * (t'.val / 24) + y0.val = 1024 * (t.val / 24) + y0.val; omega)
  by_cases h : y1.val < 4 * (t.val % 24) + 4
  · rw [dif_pos h]
    by_cases h' : 4 * (grid0.coords t 1).val ≤ y1.val ∧ y1.val < 4 * (grid0.coords t 1).val + 4
    · rw [dif_pos h', scaleB_eq]
      congr 1
      apply Fin.ext
      show 4 * (t.val % 24) + (y1.val - 4 * (grid0.coords t 1).val) = y1.val
      omega
    · rw [dif_neg h', sOf_apply, dif_pos (by omega), hr]
  · rw [dif_neg h, dif_neg (by omega), sOf_apply, dif_neg (by omega)]

/-- After point `t`: its codes block, the scales met so far, the rows it keeps. -/
theorem outsAt_eq : ∀ (n : ℕ) (h : n < cfg0.N), outsAt0 m c n h = (codesB (pOf m c ⟨n, h⟩), sOf m c ⟨n, h⟩, aOf m c ⟨n, h⟩)
  | 0, h => by
    refine (outsAt0_A m c ⟨0, h⟩ rfl).trans ?_
    rw [out_A_4, out_A_5, sout_A_0]
    exact congrArg₂ Prod.mk rfl (congrArg₂ Prod.mk (step_first m c ⟨0, h⟩ rfl) rfl)
  | n + 1, h => by
    by_cases h0 : (n + 1) % 24 = 0
    · refine (outsAt0_A m c ⟨n + 1, h⟩ h0).trans ?_
      rw [out_A_4, out_A_5, sout_A_0]
      exact congrArg₂ Prod.mk rfl (congrArg₂ Prod.mk (step_first m c ⟨n + 1, h⟩ h0) rfl)
    · refine (outsAt0_B m c ⟨n + 1, h⟩ h0).trans ?_
      have ih : outsAt0 m c ((⟨n + 1, h⟩ : Fin cfg0.N).val - 1) (Nat.lt_of_le_of_lt (Nat.sub_le _ _) h) = _ := outsAt_eq n (Nat.lt_of_succ_lt h)
      rw [out_B_4, out_B_5, ih]
      have ea : aOf m c ⟨n, Nat.lt_of_succ_lt h⟩ = aOf m c ⟨n + 1, h⟩ := aOf_congr m c _ _ (by show n / 24 = (n + 1) / 24; omega)
      dsimp only
      rw [ea]
      exact congrArg₂ Prod.mk rfl (congrArg₂ Prod.mk (step_next m c ⟨n + 1, h⟩ ⟨n, Nat.lt_of_succ_lt h⟩ rfl h0) rfl)

theorem accAt_eq (n : ℕ) (h : n < cfg0.N) (h' : 0 + n < cfg0.N) :
    Pipeline.accAt (fun n h => stAt0 m c n h junk0) (stAt0 m c) 0 n h' = (codesB (pOf m c ⟨n, h⟩), sOf m c ⟨n, h⟩, aOf m c ⟨n, h⟩) :=
  (outsAt0_sweep m c n h).symm.trans (outsAt_eq m c n h)

/-! ## The result arrays -/

theorem codes_eq : Value.G4 m c = DownSpec.codes (A0 m c) (A1 m c) (A2 m c) (A3 m c) := by
  funext i
  have hi0 : (i 0).val < 2048 := (i 0).isLt
  have hi1 : (i 1).val < 12288 := (i 1).isLt
  have hp : pt4Of i = 24 * ((i 0).val / 1024) + (i 1).val / 512 := by show 24 * ((i 0).val / 1024 - 0) + 1 * ((i 1).val / 512 - 0) = _; omega
  have hN : cfg0.N = 48 := N_0
  have ht : pt4Of i < cfg0.N := by rw [hp, hN]; omega
  unfold Value.G4
  rw [dif_pos ht, accAt_eq m c _ ht]
  have hr : rowOf ⟨pt4Of i, ht⟩ ⟨(i 0).val % 1024, by omega⟩ = ⟨(i 0).val, hi0⟩ := Fin.ext (by show 1024 * (pt4Of i / 24) + (i 0).val % 1024 = (i 0).val; rw [hp]; omega)
  have hx : colOf ⟨pt4Of i, ht⟩ ⟨(i 1).val % 512, by omega⟩ = ⟨(i 1).val, hi1⟩ := Fin.ext (by show 512 * (pt4Of i % 24) + (i 1).val % 512 = (i 1).val; rw [hp]; omega)
  have hl : loc4Of i = (ix2 (⟨(i 0).val % 1024, by omega⟩ : Fin 1024) (⟨(i 1).val % 512, by omega⟩ : Fin 512)) := by
    funext a; match a with | ⟨0, _⟩ => rfl | ⟨1, _⟩ => rfl
  rw [hl]
  show Quant.code (pOf m c ⟨pt4Of i, ht⟩ (ix2 _ _)) (scaleB (pOf m c ⟨pt4Of i, ht⟩) ⟨(i 0).val % 1024, by omega⟩ ⟨(i 1).val % 512 / 128, by omega⟩) = _
  rw [scaleB_eq, pOf_apply, hr, hx]
  unfold DownSpec.codes
  have hg : (⟨4 * ((⟨pt4Of i, ht⟩ : Fin cfg0.N).val % 24) + ((i 1).val % 512 / 128), by dsimp only; omega⟩ : Fin 96) = ⟨(i 1).val / 128, by omega⟩ := Fin.ext (by
    show 4 * (pt4Of i % 24) + (i 1).val % 512 / 128 = (i 1).val / 128
    rw [hp]; omega)
  exact congrArg (Quant.code _) (congrArg (DownSpec.scale _ _ _ _ _) hg)

theorem scales_eq : Value.G5 m c = DownSpec.scales (A0 m c) (A1 m c) (A2 m c) (A3 m c) := by
  funext i
  have hi0 : (i 0).val < 2048 := (i 0).isLt
  have hi1 : (i 1).val < 128 := (i 1).isLt
  have hp : pt5Of i = 24 * ((i 0).val / 1024) + 23 := by show 24 * (1 * ((i 0).val / 1024 - 0) + 1 * ((i 1).val / 128 - 0)) + 23 = _; omega
  have hN : cfg0.N = 48 := N_0
  have ht : pt5Of i < cfg0.N := by rw [hp, hN]; omega
  unfold Value.G5
  rw [dif_pos ht, accAt_eq m c _ ht]
  have hr : rowOf ⟨pt5Of i, ht⟩ ⟨(i 0).val % 1024, by omega⟩ = ⟨(i 0).val, hi0⟩ := Fin.ext (by show 1024 * (pt5Of i / 24) + (i 0).val % 1024 = (i 0).val; rw [hp]; omega)
  have hl : loc5Of i = (ix2 (⟨(i 0).val % 1024, by omega⟩ : Fin 1024) (⟨(i 1).val, hi1⟩ : Fin 128)) := by
    funext a
    match a with
    | ⟨0, _⟩ => rfl
    | ⟨1, _⟩ => exact Fin.ext (by show (i 1).val % 128 = (i 1).val; omega)
  rw [hl]
  refine (sOf_apply m c _ _ _).trans ?_
  unfold DownSpec.scales
  rw [hr]
  by_cases h : (i 1).val < 96
  · rw [dif_pos h, dif_pos (by show (i 1).val < 4 * (pt5Of i % 24) + 4; rw [hp]; omega)]
    rfl
  · rw [dif_neg h, dif_neg (by show ¬ (i 1).val < 4 * (pt5Of i % 24) + 4; rw [hp]; omega)]

end Cert.DownIdeal.Fold

end
-- ==== Proof.DownRef.lean ====
/-
  The down projection's reference, read at an index: the product of the dequantised operands, and its groups of 128
  columns quantised.
-/
module

public import proofs.«01_k».proof.Proof.Gen.DownReferenceIdeal.Value
public import proofs.«01_k».proof.Proof.DownSpec
public import Idealize.ShloMosaic.Lib.Pointwise

@[expose] public section

set_option maxRecDepth 16384

noncomputable section

namespace Cert.DownReferenceIdeal.Read

open Cert.DownReferenceIdeal Cert.DownReferenceIdeal.Gen Cert.DownReferenceIdeal.Value Idealize.ShloMosaic Idealize.ShloMosaic.TcCoe Idealize.SL.Sem

/-- The largest magnitudes of a grouped product, as the reference writes them. -/
def maxes (v : FVec Ideal S2048x96x128 .f32) : FVec Ideal S2048x96 .f32 :=
  multiReduction .maximumf [2] S2048x96 (absf v) 0xFF800000#32 reduces_S2048x96x128_S2048x96 (.inl rfl) rfl

theorem maxes_apply (v : FVec Ideal S2048x96x128 .f32) (r : Fin 2048) (l : Fin 96) :
    maxes v (ix2 r l) = Quant.amax (fun x : Fin 128 => v (ix3 r l x)) := by
  pointwise [maxes, Quant.amax]

/-- The scales of largest magnitudes, as the reference writes them. -/
def scales (M : FVec Ideal S2048x96 .f32) : FVec Ideal S2048x96 .f32 :=
  select (cmpf .oeq M (broadcast S2048x96 (Scalar.ofBits .f32 0x00000000#32)))
    (broadcast S2048x96 (Scalar.ofBits .f32 0x3F800000#32)) (divf M (broadcast S2048x96 (Scalar.ofBits .f32 0x42FE0000#32)))

theorem pay3_eq (a0 a1 a2 a3) : k0_pay3 (F := Ideal) a0 a1 a2 a3 = scales (maxes (k0_pay2 a0 a1 a2 a3)) := rfl

theorem scales_apply (M : FVec Ideal S2048x96 .f32) (g : Fin 128 → EReal) (r : Fin 2048) (l : Fin 96) (h : M (ix2 r l) = Quant.amax g) :
    scales M (ix2 r l) = Quant.scale g := by
  pointwise [scales]
  rw [h]
  rfl

/-- The codes of a grouped product at given scales, as the reference writes them. -/
def codes (v : FVec Ideal S2048x96x128 .f32) (s : FVec Ideal S2048x96 .f32) : IVec S2048x12288 8 :=
  shapeCast S2048x12288 (fptosi 8 (minimumf (broadcast S2048x96x128 (Scalar.ofBits .f32 0x42FE0000#32)) (maximumf (broadcast S2048x96x128 (Scalar.ofBits .f32 0xC2FE0000#32))
    (roundeven (divf v (broadcastTo S2048x96x128 (shapeCast S2048x96x1 s shapeCasts_S2048x96_S2048x96x1) broadcasts_S2048x96x1_S2048x96x128)))))) shapeCasts_S2048x96x128_S2048x12288

theorem pay4_eq (a0 a1 a2 a3) : k0_pay4 (F := Ideal) a0 a1 a2 a3 = codes (k0_pay2 a0 a1 a2 a3) (k0_pay3 a0 a1 a2 a3) := rfl

theorem codes_apply (v : FVec Ideal S2048x96x128 .f32) (s : FVec Ideal S2048x96 .f32) (r : Fin 2048) (l : Fin 12288) :
    codes v s (ix2 r l) = Quant.code (v (ix3 r ⟨l.val / 128, by omega⟩ ⟨l.val % 128, by omega⟩)) (s (ix2 r ⟨l.val / 128, by omega⟩)) := by
  pointwise [codes, Quant.code]

/-- The dequantised `h`. -/
def lhs (a0 : FVec Ideal S2048x3584 .fp8e4m3) (a1 : FVec Ideal S2048x28 .f32) : FVec Ideal S2048x3584 .bf16 :=
  shapeCast S2048x3584 (mulf (shapeCast S2048x28x128 (extf .bf16 a0 bitsLt_fp8e4m3_bf16) shapeCasts_S2048x3584_S2048x28x128)
    (broadcastTo S2048x28x128 (shapeCast S2048x28x1 (truncf .bf16 a1 bitsLt_bf16_f32) shapeCasts_S2048x28_S2048x28x1) broadcasts_S2048x28x1_S2048x28x128)) shapeCasts_S2048x28x128_S2048x3584

theorem lhs_apply (a0 : FVec Ideal S2048x3584 .fp8e4m3) (a1 : FVec Ideal S2048x28 .f32) (r : Fin 2048) (k : Fin 3584) :
    lhs a0 a1 (ix2 r k) = (a0 (ix2 r k) : EReal) * (a1 (ix2 r ⟨k.val / 128, by omega⟩) : EReal) := by
  pointwise [lhs]

/-- The dequantised `w2`. -/
def rhs (a2 : FVec Ideal S3584x12288 .fp8e4m3) (a3 : FVec Ideal S28x96 .f32) : FVec Ideal S3584x12288 .bf16 :=
  shapeCast S3584x12288 (mulf (shapeCast S28x128x96x128 (extf .bf16 a2 bitsLt_fp8e4m3_bf16) shapeCasts_S3584x12288_S28x128x96x128)
    (broadcastTo S28x128x96x128 (shapeCast S28x1x96x1 (truncf .bf16 a3 bitsLt_bf16_f32) shapeCasts_S28x96_S28x1x96x1) broadcasts_S28x1x96x1_S28x128x96x128)) shapeCasts_S28x128x96x128_S3584x12288

theorem rhs_apply (a2 : FVec Ideal S3584x12288 .fp8e4m3) (a3 : FVec Ideal S28x96 .f32) (k : Fin 3584) (n : Fin 12288) :
    rhs a2 a3 (ix2 k n) = (a2 (ix2 k n) : EReal) * (a3 (ix2 ⟨k.val / 128, by omega⟩ ⟨n.val / 128, by omega⟩) : EReal) := by
  pointwise [rhs]

/-- The product, its columns in groups of 128. -/
def grouped (x : FVec Ideal S2048x3584 .bf16) (w : FVec Ideal S3584x12288 .bf16) : FVec Ideal S2048x96x128 .f32 :=
  shapeCast S2048x96x128 (matmul dot_S2048x3584_S3584x12288_S2048x12288_1_0_0_1_n_n none x w (constant S2048x12288 .f32 0x00000000#32)) shapeCasts_S2048x12288_S2048x96x128

theorem pay2_eq (a0 a1 a2 a3) : k0_pay2 (F := Ideal) a0 a1 a2 a3 = grouped (lhs a0 a1) (rhs a2 a3) := rfl

theorem grouped_apply (x : FVec Ideal S2048x3584 .bf16) (w : FVec Ideal S3584x12288 .bf16) (r : Fin 2048) (l : Fin 96) (j : Fin 128) :
    grouped x w (ix3 r l j) = ∑ k : Fin 3584, (x (ix2 r k) : EReal) * (w (ix2 k ⟨l.val * 128 + j.val, by omega⟩) : EReal) := by
  pointwise [grouped]

theorem pay1_apply (a0 : FVec Ideal S2048x96 .f32) (a1 : FVec Ideal S2048x32 .f32) (r : Fin 2048) (l : Fin 128) :
    k0_pay1 a0 a1 (ix2 r l) = (if h : l.val < 96 then a0 (ix2 r ⟨l.val, h⟩) else a1 (ix2 r ⟨l.val - 96, by omega⟩)) := by
  pointwise [k0_pay1]

theorem pay5_apply (r : Fin 2048) (l : Fin 32) : k0_pay5 (F := Ideal) (ix2 r l) = (0 : EReal) := by
  pointwise [k0_pay5]
  simp

/-- The reference's grouped product is the product. -/
theorem pay2_apply (a0 : Vec Ideal S2048x3584 .fp8e4m3) (a1 : Vec Ideal S2048x128 .f32) (a2 : Vec Ideal S3584x12288 .fp8e4m3) (a3 : Vec Ideal S28x96 .f32)
    (r : Fin 2048) (l : Fin 96) (j : Fin 128) :
    k0_pay2 (F := Ideal) a0 (View.ld a1 r0_1) a2 a3 (ix3 r l j) = DownSpec.prod a0 a1 a2 a3 r ⟨l.val * 128 + j.val, by omega⟩ := by
  rw [pay2_eq, grouped_apply]
  refine Finset.sum_congr rfl fun k _ => ?_
  rw [lhs_apply, rhs_apply]
  congr 2
  show (a1 _ : EReal) = a1 _
  congr 1
  funext a; apply Fin.ext
  match a with
  | ⟨0, _⟩ => show 0 + 1 * r.val = r.val; omega
  | ⟨1, _⟩ => show 0 + 1 * (k.val / 128) = k.val / 128; omega

theorem pay3_apply (a0 : Vec Ideal S2048x3584 .fp8e4m3) (a1 : Vec Ideal S2048x128 .f32) (a2 : Vec Ideal S3584x12288 .fp8e4m3) (a3 : Vec Ideal S28x96 .f32)
    (r : Fin 2048) (l : Fin 96) :
    k0_pay3 (F := Ideal) a0 (View.ld a1 r0_1) a2 a3 (ix2 r l) = DownSpec.scale a0 a1 a2 a3 r l := by
  rw [pay3_eq]
  refine scales_apply _ _ r l ?_
  rw [maxes_apply]
  exact congrArg Quant.amax (funext fun x => pay2_apply a0 a1 a2 a3 r l x)

theorem codes_eq (a0 : Vec Ideal S2048x3584 .fp8e4m3) (a1 : Vec Ideal S2048x128 .f32) (a2 : Vec Ideal S3584x12288 .fp8e4m3) (a3 : Vec Ideal S28x96 .f32) :
    Value.G4 (F := Ideal) a0 a1 a2 a3 = DownSpec.codes a0 a1 a2 a3 := by
  funext y
  idx_vars y
  unfold Value.G4
  rw [pay4_eq, codes_apply, pay2_apply, pay3_apply]
  unfold DownSpec.codes
  congr 2
  apply Fin.ext
  show y1.val / 128 * 128 + y1.val % 128 = y1.val
  omega

theorem scales_eq (a0 : Vec Ideal S2048x3584 .fp8e4m3) (a1 : Vec Ideal S2048x128 .f32) (a2 : Vec Ideal S3584x12288 .fp8e4m3) (a3 : Vec Ideal S28x96 .f32) :
    Value.G5 (F := Ideal) a0 a1 a2 a3 = DownSpec.scales a0 a1 a2 a3 := by
  funext y
  idx_vars y
  unfold Value.G5
  rw [pay1_apply]
  unfold DownSpec.scales
  by_cases h : y1.val < 96
  · rw [dif_pos h, pay3_apply, dif_pos (show ((ix2 y0 y1 : S2048x128.Idx) 1).val < 96 from h)]; rfl
  · rw [dif_neg h, pay5_apply, dif_neg (show ¬((ix2 y0 y1 : S2048x128.Idx) 1).val < 96 from h)]

end Cert.DownReferenceIdeal.Read

end
-- ==== Proof.lean ====
/-
  The proof of `Cert.Claim`: the up projection's five claims and the down projection's five.
-/
module

public import proofs.«01_k».proof.Defs
public import proofs.«01_k».proof.Proof.UpRef
public import proofs.«01_k».proof.Proof.UpFrame
public import proofs.«01_k».proof.Proof.UpFold
public import proofs.«01_k».proof.Proof.DownFold
public import proofs.«01_k».proof.Proof.DownRef
public import proofs.«01_k».proof.Proof.Gen.Up
public import proofs.«01_k».proof.Proof.Gen.Up.Skeleton
public import proofs.«01_k».proof.Proof.Gen.Up.Loops
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Loops
public import proofs.«01_k».proof.Proof.Gen.UpIdeal.Launch
public import proofs.«01_k».proof.Proof.Gen.UpIdeal.Points
public import proofs.«01_k».proof.Proof.UpIdealFrame
public import proofs.«01_k».proof.Proof.UpTables
public import proofs.«01_k».proof.Proof.UpRefValue
public import proofs.«01_k».proof.Proof.Gen.UpReferenceIdeal
public import proofs.«01_k».proof.Proof.Gen.UpReferenceIdeal.Skeleton
public import proofs.«01_k».proof.Proof.Gen.UpReferenceIdeal.Launch
public import proofs.«01_k».proof.Proof.Gen.UpReferenceIdeal.Points
public import proofs.«01_k».proof.Proof.Gen.UpReferenceIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownIdeal.Value
public import proofs.«01_k».proof.Proof.Gen.DownReferenceIdeal.Value
public import Idealize.ShloMosaic.Adequacy
public import Idealize.ShloMosaic.Init

@[expose] public section

noncomputable section

namespace Cert.Proof

open Idealize.ShloMosaic Idealize.SL.Sem

/-- The up kernel over the extended reals is its reference: codes and scales by rows, codes and scales by columns. -/
theorem algebraicUp : @Cert.algebraic_UpIdeal_UpReferenceIdeal Cert.UpIdeal.Gen.facts Cert.UpReferenceIdeal.Gen.facts := by
  intro m g m' g' _ hargs
  refine ⟨fun c => Cert.UpSpec.rowCodes (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)),
    fun c => Cert.UpSpec.rowScales (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)),
    fun c => Cert.UpSpec.colCodes (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)),
    fun c => Cert.UpSpec.colScales (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)),
    Cert.UpIdeal.Fold.run m g (Cert.UpIdeal.Tables.ok m), ?_⟩
  refine (θ_run _ _ _).mono (fun r h c => ?_) (Cert.UpReferenceIdeal.Value.run m' g')
  obtain ⟨h0, h1, h2, h3, hk⟩ := h c
  obtain ⟨e0, e1, e2, e3, e4, e5, e6⟩ := hargs c
  refine ⟨h0.trans ?_, h1.trans ?_, h2.trans ?_, h3.trans ?_, hk⟩
  · rw [Cert.UpReferenceIdeal.Read.rowCodes_eq, e0, e1, e2, e3, e4, e5, e6]
  · rw [Cert.UpReferenceIdeal.Read.rowScales_eq, e0, e1, e2, e3, e4, e5, e6]
  · rw [Cert.UpReferenceIdeal.Read.colCodes_eq, e0, e1, e2, e3, e4, e5, e6]
  · rw [Cert.UpReferenceIdeal.Read.colScales_eq, e0, e1, e2, e3, e4, e5, e6]

/-- The down kernel over the extended reals is its reference: codes and scales. -/
theorem algebraicDown : @Cert.algebraic_DownIdeal_DownReferenceIdeal Cert.DownIdeal.Gen.facts Cert.DownReferenceIdeal.Gen.facts := by
  intro m g m' g' _ hargs
  refine ⟨fun c => Cert.DownIdeal.Value.G4 m c, fun c => Cert.DownIdeal.Value.G5 m c, Cert.DownIdeal.Value.run m g, ?_⟩
  refine (θ_run _ _ _).mono (fun r h c => ?_) (Cert.DownReferenceIdeal.Value.run m' g')
  obtain ⟨h0, h1, hk⟩ := h c
  obtain ⟨e0, e1, e2, e3⟩ := hargs c
  refine ⟨h0.trans ?_, h1.trans ?_, hk⟩
  · rw [Cert.DownReferenceIdeal.Read.codes_eq, e0, e1, e2, e3]
    exact (Cert.DownIdeal.Fold.codes_eq m c).symm
  · rw [Cert.DownReferenceIdeal.Read.scales_eq, e0, e1, e2, e3]
    exact (Cert.DownIdeal.Fold.scales_eq m c).symm

theorem claim : Cert.Claim := ⟨Cert.Up.Gen.facts, Cert.UpIdeal.Gen.facts, Cert.UpReferenceIdeal.Gen.facts, Cert.Down.Gen.facts, Cert.DownIdeal.Gen.facts, Cert.DownReferenceIdeal.Gen.facts,
  fun m ρ _ => Cert.Up.Gen.frame m ρ (Cert.Up.Tables.ok m),
  fun m ρ _ => Cert.UpIdeal.Gen.frame m ρ (Cert.UpIdeal.Tables.ok m),
  fun m ρ _ => Cert.UpReferenceIdeal.Gen.frame m ρ,
  fun m ρ _ => Cert.Down.Gen.frame m ρ,
  fun m ρ _ => Cert.DownIdeal.Gen.frame m ρ,
  fun m ρ _ => Cert.DownReferenceIdeal.Gen.frame m ρ,
  trivial, algebraicUp, trivial, algebraicDown⟩

end Cert.Proof

end
